-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v154) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v86_0)) (v1 : (c : Dev Cert.Kernel3Ideal.nD) → Buf (Elt Ideal) ((c.tc : Thread Cert.Kernel3Ideal.nD Cert.Kernel3Ideal.τ).loc Cert.Kernel3Ideal.main_v86_1)) (v2 : (c : Dev Cert.Kernel3Ideal.nD) → Buf (Elt Ideal) ((c.tc : Thread Cert.Kernel3Ideal.nD Cert.Kernel3Ideal.τ).loc Cert.Kernel3Ideal.main_v86_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v86_0) = v0 c
          ∧ r.2.mem ((c.tc : Thread Cert.Kernel3Ideal.nD Cert.Kernel3Ideal.τ).loc Cert.Kernel3Ideal.main_v86_1) = v1 c
          ∧ r.2.mem ((c.tc : Thread Cert.Kernel3Ideal.nD Cert.Kernel3Ideal.τ).loc Cert.Kernel3Ideal.main_v86_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v88) = v0 c
          ∧ r.2.mem ((c.tc : Thread Cert.Reference3Ideal.nD Cert.Reference3Ideal.τ).loc Cert.Reference3Ideal.main_v90) = v1 c
          ∧ r.2.mem ((c.tc : Thread Cert.Reference3Ideal.nD Cert.Reference3Ideal.τ).loc Cert.Reference3Ideal.main_v92) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_routed : Cert.Pre_routed.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal_pre_finite (hKernel3Ideal := hKernel3Ideal) (hReference3Ideal := hReference3Ideal) (hPre_finite := hPre_finite)
-- ==== Pre_finite.lean ====
abbrev S128x1024 : Shape := ⟨2, ![128, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x16 : Shape := ⟨2, ![64, 16]⟩
abbrev S128x64x64 : Shape := ⟨3, ![128, 64, 64]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x64x16 : S_.BroadcastsInDim S64x64x16 (![] : Fin 0 → Fin S64x64x16.rank)
  reducesTo_S64x64x16_S_d0_1_2 : S64x64x16.ReducesTo [0, 1, 2] S_
  bcast_S_S64x16x64 : S_.BroadcastsInDim S64x16x64 (![] : Fin 0 → Fin S64x16x64.rank)
  reducesTo_S64x16x64_S_d0_1_2 : S64x16x64.ReducesTo [0, 1, 2] S_
  bcast_S_S128x64x64 : S_.BroadcastsInDim S128x64x64 (![] : Fin 0 → Fin S128x64x64.rank)
  reducesTo_S128x64x64_S_d0_1_2 : S128x64x64.ReducesTo [0, 1, 2] S_

variable [Facts]

def fn_part3 {F : FTy → Type} [FloatOps F] (main_v48 : IVec S_ 1) (main_v51 : FVec F S64x64 .f32) : IVec S_ 1 :=
  let main_cst_18 : FVec F S_ .f32 := constant S_ .f32 0x00000000#32
  let main_v52 : FVec F S64x64 .f32 := broadcastInDim S64x64 ![] bcast_S_S64x64 main_cst_18
  let main_v53 : IVec S64x64 1 := cmpf .ogt main_v51 main_v52
  let main_c_19 : IVec S_ 1 := constantI S_ 1 1#1
  let main_v54 : IVec S_ 1 := (fun x v => Host.reduce IntOp.andi x v reducesTo_S64x64_S_d0_1 h_S_) main_v53 main_c_19
  let main_v55 : IVec S_ 1 := andi main_v48 main_v54
  main_v55

def fn_part2 {F : FTy → Type} [FloatOps F] (main_arg1 : FVec F S64x64 .f32) (main_arg2 : FVec F S64x64 .f32) (main_arg9 : FVec F S128x64x64 .f32) (main_arg10 : FVec F S128x64x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S128x64x64 .f32 := Host.absf main_arg9
  let main_cst_14 : FVec F S_ .f32 := constant S_ .f32 0x7F800000#32
  let main_v33 : FVec F S128x64x64 .f32 := broadcastInDim S128x64x64 ![] bcast_S_S128x64x64 main_cst_14
  let main_v34 : IVec S128x64x64 1 := cmpf .olt main_v32 main_v33
  let main_c_15 : IVec S_ 1 := constantI S_ 1 1#1
  let main_v35 : IVec S_ 1 := (fun x v => Host.reduce IntOp.andi x v reducesTo_S128x64x64_S_d0_1_2 h_S_) main_v34 main_c_15
  let main_v36 : FVec F S128x64x64 .f32 := Host.absf main_arg10
  let main_cst_16 : FVec F S_ .f32 := constant S_ .f32 0x7F800000#32
  let main_v37 : FVec F S128x64x64 .f32 := broadcastInDim S128x64x64 ![] bcast_S_S128x64x64 main_cst_16
  let main_v38 : IVec S128x64x64 1 := cmpf .olt main_v36 main_v37
  let main_c_17 : IVec S_ 1 := constantI S_ 1 1#1
  let main_v39 : IVec S_ 1 := (fun x v => Host.reduce IntOp.andi x v reducesTo_S128x64x64_S_d0_1_2 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  let main_v49 : FVec F S64x64 .f32 := mulf main_arg1 main_arg1
  let main_v50 : FVec F S64x64 .f32 := mulf main_arg2 main_arg2
  let main_v51 : FVec F S64x64 .f32 := addf main_v49 main_v50
  fn_part3 (F := F) main_v48 main_v51

def fn_part1 {F : FTy → Type} [FloatOps F] (main_arg1 : FVec F S64x64 .f32) (main_arg2 : FVec F S64x64 .f32) (main_arg4 : FVec F S64x64x16 .f32) (main_arg5 : FVec F S64x64x16 .f32) (main_arg6 : FVec F S64x16x64 .f32) (main_arg7 : FVec F S64x16x64 .f32) (main_arg9 : FVec F S128x64x64 .f32) (main_arg10 : FVec F S128x64x64 .f32) (main_v3 : IVec S_ 1) (main_v7 : IVec S_ 1) (main_v11 : IVec S_ 1) (main_v15 : IVec S_ 1) : IVec S_ 1 :=
  let main_v16 : FVec F S64x64x16 .f32 := Host.absf main_arg4
  let main_cst_6 : FVec F S_ .f32 := constant S_ .f32 0x7F800000#32
  let main_v17 : FVec F S64x64x16 .f32 := broadcastInDim S64x64x16 ![] bcast_S_S64x64x16 main_cst_6
  let main_v18 : IVec S64x64x16 1 := cmpf .olt main_v16 main_v17
  let main_c_7 : IVec S_ 1 := constantI S_ 1 1#1
  let main_v19 : IVec S_ 1 := (fun x v => Host.reduce IntOp.andi x v reducesTo_S64x64x16_S_d0_1_2 h_S_) main_v18 main_c_7
  let main_v20 : FVec F S64x64x16 .f32 := Host.absf main_arg5
  let main_cst_8 : FVec F S_ .f32 := constant S_ .f32 0x7F800000#32
  let main_v21 : FVec F S64x64x16 .f32 := broadcastInDim S64x64x16 ![] bcast_S_S64x64x16 main_cst_8
  let main_v22 : IVec S64x64x16 1 := cmpf .olt main_v20 main_v21
  let main_c_9 : IVec S_ 1 := constantI S_ 1 1#1
  let main_v23 : IVec S_ 1 := (fun x v => Host.reduce IntOp.andi x v reducesTo_S64x64x16_S_d0_1_2 h_S_) main_v22 main_c_9
  let main_v24 : FVec F S64x16x64 .f32 := Host.absf main_arg6
  let main_cst_10 : FVec F S_ .f32 := constant S_ .f32 0x7F800000#32
  let main_v25 : FVec F S64x16x64 .f32 := broadcastInDim S64x16x64 ![] bcast_S_S64x16x64 main_cst_10
  let main_v26 : IVec S64x16x64 1 := cmpf .olt main_v24 main_v25
  let main_c_11 : IVec S_ 1 := constantI S_ 1 1#1
  let main_v27 : IVec S_ 1 := (fun x v => Host.reduce IntOp.andi x v reducesTo_S64x16x64_S_d0_1_2 h_S_) main_v26 main_c_11
  let main_v28 : FVec F S64x16x64 .f32 := Host.absf main_arg7
  let main_cst_12 : FVec F S_ .f32 := constant S_ .f32 0x7F800000#32
  let main_v29 : FVec F S64x16x64 .f32 := broadcastInDim S64x16x64 ![] bcast_S_S64x16x64 main_cst_12
  let main_v30 : IVec S64x16x64 1 := cmpf .olt main_v28 main_v29
  let main_c_13 : IVec S_ 1 := constantI S_ 1 1#1
  let main_v31 : IVec S_ 1 := (fun x v => Host.reduce IntOp.andi x v reducesTo_S64x16x64_S_d0_1_2 h_S_) main_v30 main_c_13
  fn_part2 (F := F) main_arg1 main_arg2 main_arg9 main_arg10 main_v3 main_v7 main_v11 main_v15 main_v19 main_v23 main_v27 main_v31

def fn {F : FTy → Type} [FloatOps F] (main_arg0 : FVec F S128x1024 .f32) (main_arg1 : FVec F S64x64 .f32) (main_arg2 : FVec F S64x64 .f32) (main_arg3 : FVec F S64 .f32) (main_arg4 : FVec F S64x64x16 .f32) (main_arg5 : FVec F S64x64x16 .f32) (main_arg6 : FVec F S64x16x64 .f32) (main_arg7 : FVec F S64x16x64 .f32) (main_arg8 : FVec F S64x16 .f32) (main_arg9 : FVec F S128x64x64 .f32) (main_arg10 : FVec F S128x64x64 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : FVec F S64x64 .f32 := Host.absf main_arg2
  let main_cst_2 : FVec F S_ .f32 := constant S_ .f32 0x7F800000#32
  let main_v9 : FVec F S64x64 .f32 := broadcastInDim S64x64 ![] bcast_S_S64x64 main_cst_2
  let main_v10 : IVec S64x64 1 := cmpf .olt main_v8 main_v9
  let main_c_3 : IVec S_ 1 := constantI S_ 1 1#1
  let main_v11 : IVec S_ 1 := (fun x v => Host.reduce IntOp.andi x v reducesTo_S64x64_S_d0_1 h_S_) main_v10 main_c_3
  let main_v12 : FVec F S64 .f32 := Host.absf main_arg3
  let main_cst_4 : FVec F S_ .f32 := constant S_ .f32 0x7F800000#32
  let main_v13 : FVec F S64 .f32 := broadcastInDim S64 ![] bcast_S_S64 main_cst_4
  let main_v14 : IVec S64 1 := cmpf .olt main_v12 main_v13
  let main_c_5 : IVec S_ 1 := constantI S_ 1 1#1
  let main_v15 : IVec S_ 1 := (fun x v => Host.reduce IntOp.andi x v reducesTo_S64_S_d0 h_S_) main_v14 main_c_5
  fn_part1 (F := F) main_arg1 main_arg2 main_arg4 main_arg5 main_arg6 main_arg7 main_arg9 main_arg10 main_v3 main_v7 main_v11 main_v15
-- ==== Pre_routed.lean ====
abbrev S90 : Shape := ⟨1, ![90]⟩
abbrev S1 : Shape := ⟨1, ![1]⟩
abbrev S46080x1024 : Shape := ⟨2, ![46080, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S90 : S_.BroadcastsInDim S90 (![] : Fin 0 → Fin S90.rank)
  reducesTo_S90_S_d0 : S90.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S90 32) (main_arg1 : IVec S1 32) (main_arg2 : FVec F S46080x1024 .f32) (main_arg3 : FVec F S8x1024x3584 .bf16) (main_arg4 : FVec F S8x1024x3584 .bf16) (main_arg5 : FVec F S8x3584x1024 .bf16) : IVec S_ 1 :=
  let main_c : IVec S_ 32 := constantI S_ 32 0#32
  let main_v0 : IVec S90 32 := broadcastInDim S90 ![] bcast_S_S90 main_c
  let main_v1 : IVec S90 1 := cmpi .sge main_arg0 main_v0
  let main_c_0 : IVec S_ 32 := constantI S_ 32 8#32
  let main_v2 : IVec S90 32 := broadcastInDim S90 ![] bcast_S_S90 main_c_0
  let main_v3 : IVec S90 1 := cmpi .slt main_arg0 main_v2
  let main_v4 : IVec S90 1 := andi main_v1 main_v3
  let main_c_1 : IVec S_ 1 := constantI S_ 1 1#1
  let main_v5 : IVec S_ 1 := (fun x v => Host.reduce IntOp.andi x v reducesTo_S90_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S16384x3200 : Shape := ⟨2, ![16384, 3200]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S16x256 : Shape := ⟨2, ![16, 256]⟩
abbrev S_ : Shape := ⟨0, ![]⟩
abbrev S112x256 : Shape := ⟨2, ![112, 256]⟩
abbrev S128x256 : Shape := ⟨2, ![128, 256]⟩
abbrev S256 : Shape := ⟨1, ![256]⟩
abbrev S128 : Shape := ⟨1, ![128]⟩
abbrev S3x512 : Shape := ⟨2, ![3, 512]⟩
abbrev S16384x1024 : Shape := ⟨2, ![16384, 1024]⟩
abbrev S8x4x128x128 : Shape := ⟨4, ![8, 4, 128, 128]⟩
abbrev S8x2x512 : Shape := ⟨3, ![8, 2, 512]⟩
abbrev S256x3200 : Shape := ⟨2, ![256, 3200]⟩
abbrev S256x1024 : Shape := ⟨2, ![256, 1024]⟩
abbrev S1x4x128x128 : Shape := ⟨4, ![1, 4, 128, 128]⟩
abbrev S1x2x512 : Shape := ⟨3, ![1, 2, 512]⟩
abbrev S4x128x128 : Shape := ⟨3, ![4, 128, 128]⟩
abbrev S264x512 : Shape := ⟨2, ![264, 512]⟩
abbrev S8x512 : Shape := ⟨2, ![8, 512]⟩
abbrev S256x128 : Shape := ⟨2, ![256, 128]⟩
abbrev S256x256 : Shape := ⟨2, ![256, 256]⟩
abbrev S64x64 : Shape := ⟨2, ![64, 64]⟩
abbrev S64x128 : Shape := ⟨2, ![64, 128]⟩
abbrev S1x128x128 : Shape := ⟨3, ![1, 128, 128]⟩
abbrev S128x128 : Shape := ⟨2, ![128, 128]⟩
abbrev S64x256 : Shape := ⟨2, ![64, 256]⟩
abbrev S64 : Shape := ⟨1, ![64]⟩
abbrev S64x1 : Shape := ⟨2, ![64, 1]⟩
abbrev S256x512 : Shape := ⟨2, ![256, 512]⟩
abbrev S1x512 : Shape := ⟨2, ![1, 512]⟩
abbrev S2x512 : Shape := ⟨2, ![2, 512]⟩
abbrev S8x2x2x128x2x64 : Shape := ⟨6, ![8, 2, 2, 128, 2, 64]⟩
abbrev S8x2x1x128x1x64 : Shape := ⟨6, ![8, 2, 1, 128, 1, 64]⟩
abbrev S8x2x128x64 : Shape := ⟨4, ![8, 2, 128, 64]⟩
abbrev S8x2x1x128x64 : Shape := ⟨5, ![8, 2, 1, 128, 64]⟩
abbrev S8x2x2x128x64 : Shape := ⟨5, ![8, 2, 2, 128, 64]⟩
abbrev S8x4x128x64 : Shape := ⟨4, ![8, 4, 128, 64]⟩
abbrev S8x4x64x128 : Shape := ⟨4, ![8, 4, 64, 128]⟩
abbrev S8x1x4x64x128 : Shape := ⟨5, ![8, 1, 4, 64, 128]⟩
abbrev S8x1x2x512 : Shape := ⟨4, ![8, 1, 2, 512]⟩

abbrev nBuf : Space → Nat
  | .hbm => 30
  | .vmem => 14
  | .smem => 0
  | _ => 0

abbrev bufTy : (tb : Table) → Fin (tcTables nBuf tb) → BufTy
  | .hbm, ⟨0, _⟩ => ⟨S16384x3200, .f32⟩
  | .hbm, ⟨1, _⟩ => ⟨S1x16x256, .f32⟩
  | .hbm, ⟨2, _⟩ => ⟨S1x256, .f32⟩
  | .hbm, ⟨3, _⟩ => ⟨S1x128, .f32⟩
  | .hbm, ⟨4, _⟩ => ⟨S1x3x512, .f32⟩
  | .hbm, ⟨5, _⟩ => ⟨S16x256, .f32⟩
  | .hbm, ⟨6, _⟩ => ⟨S_, .f32⟩
  | .hbm, ⟨7, _⟩ => ⟨S112x256, .f32⟩
  | .hbm, ⟨8, _⟩ => ⟨S128x256, .f32⟩
  | .hbm, ⟨9, _⟩ => ⟨S128x256, .bf16⟩
  | .hbm, ⟨10, _⟩ => ⟨S256, .f32⟩
  | .hbm, ⟨11, _⟩ => ⟨S1x256, .f32⟩
  | .hbm, ⟨12, _⟩ => ⟨S128, .f32⟩
  | .hbm, ⟨13, _⟩ => ⟨S1x128, .f32⟩
  | .hbm, ⟨14, _⟩ => ⟨S3x512, .f32⟩
  | .hbm, ⟨15, _⟩ => ⟨S16384x1024, .bf16⟩
  | .hbm, ⟨16, _⟩ => ⟨S8x4x128x128, .f32⟩
  | .hbm, ⟨17, _⟩ => ⟨S8x2x512, .f32⟩
  | .hbm, ⟨18, _⟩ => ⟨S8x2x2x128x2x64, .f32⟩
  | .hbm, ⟨19, _⟩ => ⟨S8x2x1x128x1x64, .f32⟩
  | .hbm, ⟨20, _⟩ => ⟨S8x2x128x64, .f32⟩
  | .hbm, ⟨21, _⟩ => ⟨S8x2x1x128x1x64, .f32⟩
  | .hbm, ⟨22, _⟩ => ⟨S8x2x128x64, .f32⟩
  | .hbm, ⟨23, _⟩ => ⟨S8x2x1x128x64, .f32⟩
  | .hbm, ⟨24, _⟩ => ⟨S8x2x1x128x64, .f32⟩
  | .hbm, ⟨25, _⟩ => ⟨S8x2x2x128x64, .f32⟩
  | .hbm, ⟨26, _⟩ => ⟨S8x4x128x64, .f32⟩
  | .hbm, ⟨27, _⟩ => ⟨S8x4x64x128, .f32⟩
  | .hbm, ⟨28, _⟩ => ⟨S8x1x4x64x128, .f32⟩
  | .hbm, ⟨29, _⟩ => ⟨S8x1x2x512, .f32⟩
  | .local _ .vmem, ⟨0, _⟩ => ⟨S256x3200, .f32⟩
  | .local _ .vmem, ⟨1, _⟩ => ⟨S256x3200, .f32⟩
  | .local _ .vmem, ⟨2, _⟩ => ⟨S128x256, .bf16⟩
  | .local _ .vmem, ⟨3, _⟩ => ⟨S1x256, .f32⟩
  | .local _ .vmem, ⟨4, _⟩ => ⟨S1x128, .f32⟩
  | .local _ .vmem, ⟨5, _⟩ => ⟨S3x512, .f32⟩
  | .local _ .vmem, ⟨6, _⟩ => ⟨S256x1024, .bf16⟩
  | .local _ .vmem, ⟨7, _⟩ => ⟨S256x1024, .bf16⟩
  | .local _ .vmem, ⟨8, _⟩ => ⟨S1x4x128x128, .f32⟩
  | .local _ .vmem, ⟨9, _⟩ => ⟨S1x4x128x128, .f32⟩
  | .local _ .vmem, ⟨10, _⟩ => ⟨S1x2x512, .f32⟩
  | .local _ .vmem, ⟨11, _⟩ => ⟨S1x2x512, .f32⟩
  | .local _ .vmem, ⟨12, _⟩ => ⟨S4x128x128, .f32⟩
  | .local _ .vmem, ⟨13, _⟩ => ⟨S264x512, .f32⟩
  | _, _ => ⟨S16384x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v1285 : BitVec 1 := Scalar.cmpi .eq arg1 c7_i32
  let v1286 : BitVec 32 := Scalar.extui v1285
  let c0_i32_476 : BitVec 32 := 0#32
  let v1287 : BitVec 1 := Scalar.cmpi .ne v1286 c0_i32_476
  v1287

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16384x3200 : Shape := ⟨2, ![16384, 3200]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S8x2048x3200 : Shape := ⟨3, ![8, 2048, 3200]⟩
abbrev S8x2048x3088 : Shape := ⟨3, ![8, 2048, 3088]⟩
abbrev S8x2048x256 : Shape := ⟨3, ![8, 2048, 256]⟩
abbrev S8x2048x512 : Shape := ⟨3, ![8, 2048, 512]⟩
abbrev S8x2048x16 : Shape := ⟨3, ![8, 2048, 16]⟩
abbrev S16x256 : Shape := ⟨2, ![16, 256]⟩
abbrev S256 : Shape := ⟨1, ![256]⟩
abbrev S1x1x256 : Shape := ⟨3, ![1, 1, 256]⟩
abbrev S_ : Shape := ⟨0, ![]⟩
abbrev S8x4x64x128 : Shape := ⟨4, ![8, 4, 64, 128]⟩
abbrev S8x2048x4x64 : Shape := ⟨4, ![8, 2048, 4, 64]⟩
abbrev S8x2048x4x128 : Shape := ⟨4, ![8, 2048, 4, 128]⟩
abbrev S8x32x64x4x64 : Shape := ⟨5, ![8, 32, 64, 4, 64]⟩
abbrev S8x32x64x4x128 : Shape := ⟨5, ![8, 32, 64, 4, 128]⟩
abbrev S8x32x1x4x64 : Shape := ⟨5, ![8, 32, 1, 4, 64]⟩
abbrev S8x32x4x64 : Shape := ⟨4, ![8, 32, 4, 64]⟩
abbrev S8x32x4x64x64 : Shape := ⟨5, ![8, 32, 4, 64, 64]⟩
abbrev S64x64 : Shape := ⟨2, ![64, 64]⟩
abbrev S8x32x4x128x64 : Shape := ⟨5, ![8, 32, 4, 128, 64]⟩
abbrev S8x32x4x64x128 : Shape := ⟨5, ![8, 32, 4, 64, 128]⟩
abbrev S32x8x4x64 : Shape := ⟨4, ![32, 8, 4, 64]⟩
abbrev S32x8x4x64x128 : Shape := ⟨5, ![32, 8, 4, 64, 128]⟩
abbrev S1x8x4x64 : Shape := ⟨4, ![1, 8, 4, 64]⟩
abbrev S8x4x64 : Shape := ⟨3, ![8, 4, 64]⟩
abbrev S1x8x4x64x128 : Shape := ⟨5, ![1, 8, 4, 64, 128]⟩
abbrev S8x4x64x1 : Shape := ⟨4, ![8, 4, 64, 1]⟩
abbrev S128 : Shape := ⟨1, ![128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x2x512 : Shape := ⟨3, ![8, 2, 512]⟩
abbrev S8x2050x512 : Shape := ⟨3, ![8, 2050, 512]⟩
abbrev S3x512 : Shape := ⟨2, ![3, 512]⟩
abbrev S1x512 : Shape := ⟨2, ![1, 512]⟩
abbrev S512 : Shape := ⟨1, ![512]⟩
abbrev S1x1x512 : Shape := ⟨3, ![1, 1, 512]⟩
abbrev S8x2048x1024 : Shape := ⟨3, ![8, 2048, 1024]⟩
abbrev S16384x1024 : Shape := ⟨2, ![16384, 1024]⟩
abbrev S8x1x4x64x128 : Shape := ⟨5, ![8, 1, 4, 64, 128]⟩
abbrev S8x1x2x512 : Shape := ⟨4, ![8, 1, 2, 512]⟩

abbrev nBuf : Space → Nat
  | .hbm => 192
  | .vmem => 0
  | .smem => 0
  | _ => 0

abbrev hbmTy0_0 (i : Nat) : BufTy := match i % 128 with
  | 0 => ⟨S16384x3200, .f32⟩
  | 1 => ⟨S1x16x256, .f32⟩
  | 2 => ⟨S1x256, .f32⟩
  | 3 => ⟨S1x128, .f32⟩
  | 4 => ⟨S1x3x512, .f32⟩
  | 5 => ⟨S8x2048x3200, .f32⟩
  | 6 => ⟨S8x2048x3088, .f32⟩
  | 7 => ⟨S8x2048x256, .f32⟩
  | 8 => ⟨S8x2048x256, .f32⟩
  | 9 => ⟨S8x2048x512, .f32⟩
  | 10 => ⟨S8x2048x512, .f32⟩
  | 11 => ⟨S8x2048x512, .f32⟩
  | 12 => ⟨S8x2048x512, .f32⟩
  | 13 => ⟨S8x2048x512, .f32⟩
  | 14 => ⟨S8x2048x16, .f32⟩
  | 15 => ⟨S16x256, .f32⟩
  | 16 => ⟨S8x2048x256, .f32⟩
  | 17 => ⟨S256, .f32⟩
  | 18 => ⟨S1x1x256, .f32⟩
  | 19 => ⟨S8x2048x256, .f32⟩
  | 20 => ⟨S8x2048x256, .f32⟩
  | 21 => ⟨S8x2048x256, .f32⟩
  | 22 => ⟨S_, .f32⟩
  | 23 => ⟨S8x2048x256, .f32⟩
  | 24 => ⟨S8x2048x256, .f32⟩
  | 25 => ⟨S8x2048x256, .f32⟩
  | 26 => ⟨S8x2048x256, .f32⟩
  | 27 => ⟨S8x2048x256, .i1⟩
  | 28 => ⟨S8x2048x256, .f32⟩
  | 29 => ⟨S8x2048x256, .f32⟩
  | 30 => ⟨S8x2048x256, .f32⟩
  | 31 => ⟨S8x2048x256, .f32⟩
  | 32 => ⟨S8x2048x256, .f32⟩
  | 33 => ⟨S8x2048x256, .f32⟩
  | 34 => ⟨S8x2048x256, .f32⟩
  | 35 => ⟨S8x2048x256, .f32⟩
  | 36 => ⟨S8x2048x256, .f32⟩
  | 37 => ⟨S_, .f32⟩
  | 38 => ⟨S8x2048x256, .f32⟩
  | 39 => ⟨S8x2048x256, .f32⟩
  | 40 => ⟨S_, .f32⟩
  | 41 => ⟨S8x4x64x128, .f32⟩
  | 42 => ⟨S8x2048x4x64, .f32⟩
  | 43 => ⟨S8x2048x4x64, .f32⟩
  | 44 => ⟨S8x2048x4x128, .f32⟩
  | 45 => ⟨S8x2048x4x64, .f32⟩
  | 46 => ⟨S8x32x64x4x64, .f32⟩
  | 47 => ⟨S_, .f32⟩
  | 48 => ⟨S8x32x64x4x64, .f32⟩
  | 49 => ⟨S8x32x64x4x64, .f32⟩
  | 50 => ⟨S8x32x64x4x64, .f32⟩
  | 51 => ⟨S8x32x64x4x128, .f32⟩
  | 52 => ⟨S8x32x64x4x64, .f32⟩
  | 53 => ⟨S_, .f32⟩
  | 54 => ⟨S_, .f32⟩
  | 55 => ⟨S8x32x64x4x64, .f32⟩
  | 56 => ⟨S8x32x1x4x64, .f32⟩
  | 57 => ⟨S8x32x4x64, .f32⟩
  | 58 => ⟨S8x32x64x4x64, .f32⟩
  | 59 => ⟨S8x32x64x4x64, .f32⟩
  | 60 => ⟨S8x32x64x4x64, .f32⟩
  | 61 => ⟨S8x32x64x4x64, .f32⟩
  | 62 => ⟨S8x32x64x4x64, .f32⟩
  | 63 => ⟨S8x32x4x64x64, .f32⟩
  | 64 => ⟨S_, .i1⟩
  | 65 => ⟨S64x64, .i1⟩
  | 66 => ⟨S64x64, .i32⟩
  | 67 => ⟨S_, .i32⟩
  | 68 => ⟨S64x64, .i32⟩
  | 69 => ⟨S64x64, .i32⟩
  | 70 => ⟨S64x64, .i32⟩
  | 71 => ⟨S64x64, .i1⟩
  | 72 => ⟨S_, .i1⟩
  | 73 => ⟨S64x64, .i1⟩
  | 74 => ⟨S64x64, .i1⟩
  | 75 => ⟨S_, .f32⟩
  | 76 => ⟨S_, .f32⟩
  | 77 => ⟨S8x32x4x64x64, .i1⟩
  | 78 => ⟨S8x32x4x64x64, .f32⟩
  | 79 => ⟨S8x32x4x64x64, .f32⟩
  | 80 => ⟨S8x32x4x128x64, .f32⟩
  | 81 => ⟨S8x32x64x4x128, .f32⟩
  | 82 => ⟨S8x32x1x4x64, .f32⟩
  | 83 => ⟨S8x32x64x4x64, .f32⟩
  | 84 => ⟨S8x32x64x4x64, .f32⟩
  | 85 => ⟨S8x32x64x4x64, .f32⟩
  | 86 => ⟨S8x32x64x4x64, .f32⟩
  | 87 => ⟨S8x32x4x64x128, .f32⟩
  | 88 => ⟨S8x32x4x64, .f32⟩
  | 89 => ⟨S32x8x4x64, .f32⟩
  | 90 => ⟨S32x8x4x64x128, .f32⟩
  | 91 => ⟨S_, .f32⟩
  | 92 => ⟨S32x8x4x64x128, .f32⟩
  | 93 => ⟨S_, .i32⟩
  | 94 => ⟨S32x8x4x64, .f32⟩
  | 95 => ⟨S32x8x4x64x128, .f32⟩
  | 96 => ⟨S_, .i32⟩
  | 97 => ⟨S8x4x64x128, .f32⟩
  | 98 => ⟨S32x8x4x64x128, .f32⟩
  | 99 => ⟨S_, .i32⟩
  | 100 => ⟨S_, .i1⟩
  | 101 => ⟨S_, .i32⟩
  | 102 => ⟨S_, .i32⟩
  | 103 => ⟨S_, .i32⟩
  | 104 => ⟨S1x8x4x64, .f32⟩
  | 105 => ⟨S8x4x64, .f32⟩
  | 106 => ⟨S_, .i32⟩
  | 107 => ⟨S_, .i32⟩
  | 108 => ⟨S_, .i32⟩
  | 109 => ⟨S_, .i32⟩
  | 110 => ⟨S1x8x4x64x128, .f32⟩
  | 111 => ⟨S8x4x64x128, .f32⟩
  | 112 => ⟨S8x4x64x1, .f32⟩
  | 113 => ⟨S8x4x64x128, .f32⟩
  | 114 => ⟨S8x4x64x128, .f32⟩
  | 115 => ⟨S8x4x64x128, .f32⟩
  | 116 => ⟨S1x8x4x64x128, .f32⟩
  | 117 => ⟨S_, .i32⟩
  | 118 => ⟨S_, .i32⟩
  | 119 => ⟨S_, .i32⟩
  | 120 => ⟨S_, .i32⟩
  | 121 => ⟨S32x8x4x64x128, .f32⟩
  | 122 => ⟨S_, .i32⟩
  | 123 => ⟨S_, .i32⟩
  | 124 => ⟨S8x32x4x64x128, .f32⟩
  | 125 => ⟨S8x32x4x128x64, .f32⟩
  | 126 => ⟨S8x32x64x4x128, .f32⟩
  | 127 => ⟨S8x32x64x4x128, .f32⟩
  | _ => ⟨S16384x3200, .f32⟩

abbrev hbmTy0_1 (i : Nat) : BufTy := match i % 128 with
  | 0 => ⟨S8x2048x4x128, .f32⟩
  | 1 => ⟨S128, .f32⟩
  | 2 => ⟨S8x2048x4x128, .f32⟩
  | 3 => ⟨S_, .f32⟩
  | 4 => ⟨S8x2048x4, .f32⟩
  | 5 => ⟨S8x2048x4x1, .f32⟩
  | 6 => ⟨S_, .f32⟩
  | 7 => ⟨S8x2048x4x1, .f32⟩
  | 8 => ⟨S8x2048x4x1, .f32⟩
  | 9 => ⟨S_, .f32⟩
  | 10 => ⟨S8x2048x4x1, .f32⟩
  | 11 => ⟨S8x2048x4x1, .f32⟩
  | 12 => ⟨S8x2048x4x1, .f32⟩
  | 13 => ⟨S8x2048x4x128, .f32⟩
  | 14 => ⟨S8x2048x4x128, .f32⟩
  | 15 => ⟨S1x1x1x128, .f32⟩
  | 16 => ⟨S8x2048x4x128, .f32⟩
  | 17 => ⟨S8x2048x4x128, .f32⟩
  | 18 => ⟨S8x2048x512, .f32⟩
  | 19 => ⟨S8x2048x512, .f32⟩
  | 20 => ⟨S8x2048x512, .f32⟩
  | 21 => ⟨S_, .f32⟩
  | 22 => ⟨S8x2048x512, .f32⟩
  | 23 => ⟨S8x2048x512, .f32⟩
  | 24 => ⟨S_, .f32⟩
  | 25 => ⟨S8x2048x512, .f32⟩
  | 26 => ⟨S8x2048x512, .f32⟩
  | 27 => ⟨S8x2048x512, .f32⟩
  | 28 => ⟨S8x2048x512, .f32⟩
  | 29 => ⟨S8x2048x512, .f32⟩
  | 30 => ⟨S_, .f32⟩
  | 31 => ⟨S8x2x512, .f32⟩
  | 32 => ⟨S8x2050x512, .f32⟩
  | 33 => ⟨S3x512, .f32⟩
  | 34 => ⟨S1x512, .f32⟩
  | 35 => ⟨S512, .f32⟩
  | 36 => ⟨S8x2048x512, .f32⟩
  | 37 => ⟨S1x1x512, .f32⟩
  | 38 => ⟨S8x2048x512, .f32⟩
  | 39 => ⟨S8x2048x512, .f32⟩
  | 40 => ⟨S_, .f32⟩
  | 41 => ⟨S8x2048x512, .f32⟩
  | 42 => ⟨S8x2048x512, .f32⟩
  | 43 => ⟨S1x512, .f32⟩
  | 44 => ⟨S512, .f32⟩
  | 45 => ⟨S8x2048x512, .f32⟩
  | 46 => ⟨S1x1x512, .f32⟩
  | 47 => ⟨S8x2048x512, .f32⟩
  | 48 => ⟨S8x2048x512, .f32⟩
  | 49 => ⟨S8x2048x512, .f32⟩
  | 50 => ⟨S1x512, .f32⟩
  | 51 => ⟨S512, .f32⟩
  | 52 => ⟨S8x2048x512, .f32⟩
  | 53 => ⟨S1x1x512, .f32⟩
  | 54 => ⟨S8x2048x512, .f32⟩
  | 55 => ⟨S8x2048x512, .f32⟩
  | 56 => ⟨S8x2048x512, .f32⟩
  | 57 => ⟨S8x2048x512, .f32⟩
  | 58 => ⟨S8x2048x1024, .f32⟩
  | 59 => ⟨S16384x1024, .f32⟩
  | 60 => ⟨S16384x1024, .bf16⟩
  | 61 => ⟨S8x1x4x64x128, .f32⟩
  | 62 => ⟨S8x2x512, .f32⟩
  | 63 => ⟨S8x1x2x512, .f32⟩
  | _ => ⟨S16384x3200, .f32⟩

abbrev hbmTy (i : Nat) : BufTy := match i / 128 with
  | 0 => hbmTy0_0 i
  | 1 => hbmTy0_1 i
  | _ => ⟨S16384x3200, .f32⟩

abbrev bufTy : (tb : Table) → Fin (tcTables nBuf tb) → BufTy
  | .hbm, ⟨i, _⟩ => hbmTy i
  | _, _ => ⟨S16384x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_call0_cst : Ref sig .tc := ⟨.hbm, 53, rfl⟩
abbrev main_call1_call0_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c : Ref sig .tc := ⟨.hbm, 64, rfl⟩
abbrev main_v39 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_0 : Ref sig .tc := ⟨.hbm, 72, rfl⟩
abbrev main_call2_v5 : Ref sig .tc := ⟨.hbm, 73, rfl⟩
abbrev main_v40 : Ref sig .tc := ⟨.hbm, 74, rfl⟩
abbrev main_cst_2 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_3 : Ref sig .tc := ⟨.hbm, 91, rfl⟩
abbrev main_v53 : Ref sig .tc := ⟨.hbm, 92, rfl⟩
abbrev main_c_4 : Ref sig .tc := ⟨.hbm, 93, rfl⟩
abbrev main_v54_0 : Ref sig .tc := ⟨.hbm, 94, rfl⟩
abbrev main_v54_1 : Ref sig .tc := ⟨.hbm, 95, rfl⟩
abbrev main_v54_2 : Ref sig .tc := ⟨.hbm, 96, rfl⟩
abbrev main_v54_3 : Ref sig .tc := ⟨.hbm, 97, rfl⟩
abbrev main_v54_4 : Ref sig .tc := ⟨.hbm, 98, rfl⟩
abbrev main_while0c_c_14 : Ref sig .tc := ⟨.hbm, 99, rfl⟩
abbrev main_while0c_v110 : Ref sig .tc := ⟨.hbm, 100, rfl⟩
abbrev main_while0b_call4_c : Ref sig .tc := ⟨.hbm, 101, rfl⟩
abbrev main_while0b_call4_c_0 : Ref sig .tc := ⟨.hbm, 102, rfl⟩
abbrev main_while0b_call4_c_1 : Ref sig .tc := ⟨.hbm, 103, rfl⟩
abbrev main_while0b_call4_v0 : Ref sig .tc := ⟨.hbm, 104, rfl⟩
abbrev main_while0b_v110 : Ref sig .tc := ⟨.hbm, 105, rfl⟩
abbrev main_while0b_call5_c : Ref sig .tc := ⟨.hbm, 106, rfl⟩
abbrev main_while0b_call5_c_0 : Ref sig .tc := ⟨.hbm, 107, rfl⟩
abbrev main_while0b_call5_c_1 : Ref sig .tc := ⟨.hbm, 108, rfl⟩
abbrev main_while0b_call5_c_2 : Ref sig .tc := ⟨.hbm, 109, rfl⟩
abbrev main_while0b_call5_v0 : Ref sig .tc := ⟨.hbm, 110, rfl⟩
abbrev main_while0b_v111 : Ref sig .tc := ⟨.hbm, 111, rfl⟩
abbrev main_while0b_v112 : Ref sig .tc := ⟨.hbm, 112, rfl⟩
abbrev main_while0b_v113 : Ref sig .tc := ⟨.hbm, 113, rfl⟩
abbrev main_while0b_v114 : Ref sig .tc := ⟨.hbm, 114, rfl⟩
abbrev main_while0b_v115 : Ref sig .tc := ⟨.hbm, 115, rfl⟩
abbrev main_while0b_call6_v0 : Ref sig .tc := ⟨.hbm, 116, rfl⟩
abbrev main_while0b_call6_c : Ref sig .tc := ⟨.hbm, 117, rfl⟩
abbrev main_while0b_call6_c_0 : Ref sig .tc := ⟨.hbm, 118, rfl⟩
abbrev main_while0b_call6_c_1 : Ref sig .tc := ⟨.hbm, 119, rfl⟩
abbrev main_while0b_call6_c_2 : Ref sig .tc := ⟨.hbm, 120, rfl⟩
abbrev main_while0b_v116 : Ref sig .tc := ⟨.hbm, 121, rfl⟩
abbrev main_while0b_c_14 : Ref sig .tc := ⟨.hbm, 122, rfl⟩
abbrev main_while0b_v117 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_cst_5 : Ref sig .tc := ⟨.hbm, 131, rfl⟩
abbrev main_v62 : Ref sig .tc := ⟨.hbm, 132, rfl⟩
abbrev main_v63 : Ref sig .tc := ⟨.hbm, 133, rfl⟩
abbrev main_cst_6 : Ref sig .tc := ⟨.hbm, 134, rfl⟩
abbrev main_v64 : Ref sig .tc := ⟨.hbm, 135, rfl⟩
abbrev main_v65 : Ref sig .tc := ⟨.hbm, 136, rfl⟩
abbrev main_cst_7 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_call7_v0 : Ref sig .tc := ⟨.hbm, 147, rfl⟩
abbrev main_call7_v1 : Ref sig .tc := ⟨.hbm, 148, rfl⟩
abbrev main_call7_cst : Ref sig .tc := ⟨.hbm, 149, rfl⟩
abbrev main_call7_v2 : Ref sig .tc := ⟨.hbm, 150, rfl⟩
abbrev main_call7_v3 : Ref sig .tc := ⟨.hbm, 151, rfl⟩
abbrev main_call7_cst_0 : Ref sig .tc := ⟨.hbm, 152, rfl⟩
abbrev main_call7_v4 : Ref sig .tc := ⟨.hbm, 153, rfl⟩
abbrev main_call7_v5 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_cst_8 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_cst_9 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S90 : Shape := ⟨1, ![90]⟩
abbrev S1 : Shape := ⟨1, ![1]⟩
abbrev S46080x1024 : Shape := ⟨2, ![46080, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 5
  | .vmem => 11
  | .smem => 2
  | _ => 0

abbrev bufTy : (tb : Table) → Fin (tcTables nBuf tb) → BufTy
  | .hbm, ⟨0, _⟩ => ⟨S46080x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S46080x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S90, .i32⟩
  | .local _ .smem, ⟨1, _⟩ => ⟨S1, .i32⟩
  | _, _ => ⟨S46080x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![90, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond4 (i : grid0.Coords) : BitVec 1 :=
  let arg1 : BitVec 32 := BitVec.ofNat 32 (i 1).val
  let c1_i32_18 : BitVec 32 := 1#32
  let v30 : BitVec 1 := Scalar.cmpi .eq arg1 c1_i32_18
  let v31 : BitVec 32 := Scalar.extui v30
  let c0_i32_19 : BitVec 32 := 0#32
  let v32 : BitVec 1 := Scalar.cmpi .ne v31 c0_i32_19
  v32

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c1_i32 : BitVec 32 := 1#32
  let v5 : BitVec 1 := Scalar.cmpi .eq arg1 c1_i32
  let v6 : BitVec 1 := Scalar.andi v4 v5
  let v7 : BitVec 32 := Scalar.extui v6
  let c0_i32_0 : BitVec 32 := 0#32
  let v8 : BitVec 1 := Scalar.cmpi .ne v7 c0_i32_0
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S90.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S90) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S90.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S90) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S90.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S90) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S90 : Shape := ⟨1, ![90]⟩
abbrev S1 : Shape := ⟨1, ![1]⟩
abbrev S46080x1024 : Shape := ⟨2, ![46080, 1024]⟩
abbrev S8x1024x3584 : Shape := ⟨3, ![8, 1024, 3584]⟩
abbrev S8x3584x1024 : Shape := ⟨3, ![8, 3584, 1024]⟩
abbrev S90x1 : Shape := ⟨2, ![90, 1]⟩
abbrev S1x8 : Shape := ⟨2, ![1, 8]⟩
abbrev S90x8 : Shape := ⟨2, ![90, 8]⟩
abbrev S_ : Shape := ⟨0, ![]⟩
abbrev S90x1x8 : Shape := ⟨3, ![90, 1, 8]⟩
abbrev S90x512x8 : Shape := ⟨3, ![90, 512, 8]⟩
abbrev S46080x8 : Shape := ⟨2, ![46080, 8]⟩
abbrev S1x1024x3584 : Shape := ⟨3, ![1, 1024, 3584]⟩
abbrev S1024x3584 : Shape := ⟨2, ![1024, 3584]⟩
abbrev S46080x3584 : Shape := ⟨2, ![46080, 3584]⟩
abbrev S46080x1 : Shape := ⟨2, ![46080, 1]⟩
abbrev S1x3584x1024 : Shape := ⟨3, ![1, 3584, 1024]⟩
abbrev S3584x1024 : Shape := ⟨2, ![3584, 1024]⟩

abbrev nBuf : Space → Nat
  | .hbm => 235
  | .vmem => 0
  | .smem => 0
  | _ => 0

abbrev hbmTy0_0 (i : Nat) : BufTy := match i % 128 with
  | 0 => ⟨S90, .i32⟩
  | 1 => ⟨S1, .i32⟩
  | 2 => ⟨S46080x1024, .f32⟩
  | 3 => ⟨S8x1024x3584, .bf16⟩
  | 4 => ⟨S8x1024x3584, .bf16⟩
  | 5 => ⟨S8x3584x1024, .bf16⟩
  | 6 => ⟨S90x1, .i32⟩
  | 7 => ⟨S1x8, .i32⟩
  | 8 => ⟨S90x8, .i32⟩
  | 9 => ⟨S90x8, .i32⟩
  | 10 => ⟨S90x8, .i1⟩
  | 11 => ⟨S90x8, .f32⟩
  | 12 => ⟨S90, .i32⟩
  | 13 => ⟨S_, .i32⟩
  | 14 => ⟨S90, .i32⟩
  | 15 => ⟨S90, .i1⟩
  | 16 => ⟨S90x1, .i1⟩
  | 17 => ⟨S_, .f32⟩
  | 18 => ⟨S_, .f32⟩
  | 19 => ⟨S90x8, .i1⟩
  | 20 => ⟨S90x8, .f32⟩
  | 21 => ⟨S90x8, .f32⟩
  | 22 => ⟨S90x1x8, .f32⟩
  | 23 => ⟨S90x512x8, .f32⟩
  | 24 => ⟨S46080x8, .f32⟩
  | 25 => ⟨S_, .f32⟩
  | 26 => ⟨S46080x1024, .f32⟩
  | 27 => ⟨S1x1024x3584, .bf16⟩
  | 28 => ⟨S1024x3584, .bf16⟩
  | 29 => ⟨S1024x3584, .f32⟩
  | 30 => ⟨S46080x3584, .f32⟩
  | 31 => ⟨S46080x3584, .f32⟩
  | 32 => ⟨S46080x3584, .f32⟩
  | 33 => ⟨S_, .f32⟩
  | 34 => ⟨S46080x3584, .f32⟩
  | 35 => ⟨S46080x3584, .f32⟩
  | 36 => ⟨S_, .f32⟩
  | 37 => ⟨S46080x3584, .f32⟩
  | 38 => ⟨S46080x3584, .f32⟩
  | 39 => ⟨S46080x3584, .f32⟩
  | 40 => ⟨S1x1024x3584, .bf16⟩
  | 41 => ⟨S1024x3584, .bf16⟩
  | 42 => ⟨S1024x3584, .f32⟩
  | 43 => ⟨S46080x3584, .f32⟩
  | 44 => ⟨S46080x3584, .f32⟩
  | 45 => ⟨S46080x1, .f32⟩
  | 46 => ⟨S1x3584x1024, .bf16⟩
  | 47 => ⟨S3584x1024, .bf16⟩
  | 48 => ⟨S3584x1024, .f32⟩
  | 49 => ⟨S46080x1024, .f32⟩
  | 50 => ⟨S46080x1024, .f32⟩
  | 51 => ⟨S46080x1024, .f32⟩
  | 52 => ⟨S46080x1024, .f32⟩
  | 53 => ⟨S1x1024x3584, .bf16⟩
  | 54 => ⟨S1024x3584, .bf16⟩
  | 55 => ⟨S1024x3584, .f32⟩
  | 56 => ⟨S46080x3584, .f32⟩
  | 57 => ⟨S46080x3584, .f32⟩
  | 58 => ⟨S46080x3584, .f32⟩
  | 59 => ⟨S_, .f32⟩
  | 60 => ⟨S46080x3584, .f32⟩
  | 61 => ⟨S46080x3584, .f32⟩
  | 62 => ⟨S_, .f32⟩
  | 63 => ⟨S46080x3584, .f32⟩
  | 64 => ⟨S46080x3584, .f32⟩
  | 65 => ⟨S46080x3584, .f32⟩
  | 66 => ⟨S1x1024x3584, .bf16⟩
  | 67 => ⟨S1024x3584, .bf16⟩
  | 68 => ⟨S1024x3584, .f32⟩
  | 69 => ⟨S46080x3584, .f32⟩
  | 70 => ⟨S46080x3584, .f32⟩
  | 71 => ⟨S46080x1, .f32⟩
  | 72 => ⟨S1x3584x1024, .bf16⟩
  | 73 => ⟨S3584x1024, .bf16⟩
  | 74 => ⟨S3584x1024, .f32⟩
  | 75 => ⟨S46080x1024, .f32⟩
  | 76 => ⟨S46080x1024, .f32⟩
  | 77 => ⟨S46080x1024, .f32⟩
  | 78 => ⟨S46080x1024, .f32⟩
  | 79 => ⟨S1x1024x3584, .bf16⟩
  | 80 => ⟨S1024x3584, .bf16⟩
  | 81 => ⟨S1024x3584, .f32⟩
  | 82 => ⟨S46080x3584, .f32⟩
  | 83 => ⟨S46080x3584, .f32⟩
  | 84 => ⟨S46080x3584, .f32⟩
  | 85 => ⟨S_, .f32⟩
  | 86 => ⟨S46080x3584, .f32⟩
  | 87 => ⟨S46080x3584, .f32⟩
  | 88 => ⟨S_, .f32⟩
  | 89 => ⟨S46080x3584, .f32⟩
  | 90 => ⟨S46080x3584, .f32⟩
  | 91 => ⟨S46080x3584, .f32⟩
  | 92 => ⟨S1x1024x3584, .bf16⟩
  | 93 => ⟨S1024x3584, .bf16⟩
  | 94 => ⟨S1024x3584, .f32⟩
  | 95 => ⟨S46080x3584, .f32⟩
  | 96 => ⟨S46080x3584, .f32⟩
  | 97 => ⟨S46080x1, .f32⟩
  | 98 => ⟨S1x3584x1024, .bf16⟩
  | 99 => ⟨S3584x1024, .bf16⟩
  | 100 => ⟨S3584x1024, .f32⟩
  | 101 => ⟨S46080x1024, .f32⟩
  | 102 => ⟨S46080x1024, .f32⟩
  | 103 => ⟨S46080x1024, .f32⟩
  | 104 => ⟨S46080x1024, .f32⟩
  | 105 => ⟨S1x1024x3584, .bf16⟩
  | 106 => ⟨S1024x3584, .bf16⟩
  | 107 => ⟨S1024x3584, .f32⟩
  | 108 => ⟨S46080x3584, .f32⟩
  | 109 => ⟨S46080x3584, .f32⟩
  | 110 => ⟨S46080x3584, .f32⟩
  | 111 => ⟨S_, .f32⟩
  | 112 => ⟨S46080x3584, .f32⟩
  | 113 => ⟨S46080x3584, .f32⟩
  | 114 => ⟨S_, .f32⟩
  | 115 => ⟨S46080x3584, .f32⟩
  | 116 => ⟨S46080x3584, .f32⟩
  | 117 => ⟨S46080x3584, .f32⟩
  | 118 => ⟨S1x1024x3584, .bf16⟩
  | 119 => ⟨S1024x3584, .bf16⟩
  | 120 => ⟨S1024x3584, .f32⟩
  | 121 => ⟨S46080x3584, .f32⟩
  | 122 => ⟨S46080x3584, .f32⟩
  | 123 => ⟨S46080x1, .f32⟩
  | 124 => ⟨S1x3584x1024, .bf16⟩
  | 125 => ⟨S3584x1024, .bf16⟩
  | 126 => ⟨S3584x1024, .f32⟩
  | 127 => ⟨S46080x1024, .f32⟩
  | _ => ⟨S90, .i32⟩

abbrev hbmTy0_1 (i : Nat) : BufTy := match i % 128 with
  | 0 => ⟨S46080x1024, .f32⟩
  | 1 => ⟨S46080x1024, .f32⟩
  | 2 => ⟨S46080x1024, .f32⟩
  | 3 => ⟨S1x1024x3584, .bf16⟩
  | 4 => ⟨S1024x3584, .bf16⟩
  | 5 => ⟨S1024x3584, .f32⟩
  | 6 => ⟨S46080x3584, .f32⟩
  | 7 => ⟨S46080x3584, .f32⟩
  | 8 => ⟨S46080x3584, .f32⟩
  | 9 => ⟨S_, .f32⟩
  | 10 => ⟨S46080x3584, .f32⟩
  | 11 => ⟨S46080x3584, .f32⟩
  | 12 => ⟨S_, .f32⟩
  | 13 => ⟨S46080x3584, .f32⟩
  | 14 => ⟨S46080x3584, .f32⟩
  | 15 => ⟨S46080x3584, .f32⟩
  | 16 => ⟨S1x1024x3584, .bf16⟩
  | 17 => ⟨S1024x3584, .bf16⟩
  | 18 => ⟨S1024x3584, .f32⟩
  | 19 => ⟨S46080x3584, .f32⟩
  | 20 => ⟨S46080x3584, .f32⟩
  | 21 => ⟨S46080x1, .f32⟩
  | 22 => ⟨S1x3584x1024, .bf16⟩
  | 23 => ⟨S3584x1024, .bf16⟩
  | 24 => ⟨S3584x1024, .f32⟩
  | 25 => ⟨S46080x1024, .f32⟩
  | 26 => ⟨S46080x1024, .f32⟩
  | 27 => ⟨S46080x1024, .f32⟩
  | 28 => ⟨S46080x1024, .f32⟩
  | 29 => ⟨S1x1024x3584, .bf16⟩
  | 30 => ⟨S1024x3584, .bf16⟩
  | 31 => ⟨S1024x3584, .f32⟩
  | 32 => ⟨S46080x3584, .f32⟩
  | 33 => ⟨S46080x3584, .f32⟩
  | 34 => ⟨S46080x3584, .f32⟩
  | 35 => ⟨S_, .f32⟩
  | 36 => ⟨S46080x3584, .f32⟩
  | 37 => ⟨S46080x3584, .f32⟩
  | 38 => ⟨S_, .f32⟩
  | 39 => ⟨S46080x3584, .f32⟩
  | 40 => ⟨S46080x3584, .f32⟩
  | 41 => ⟨S46080x3584, .f32⟩
  | 42 => ⟨S1x1024x3584, .bf16⟩
  | 43 => ⟨S1024x3584, .bf16⟩
  | 44 => ⟨S1024x3584, .f32⟩
  | 45 => ⟨S46080x3584, .f32⟩
  | 46 => ⟨S46080x3584, .f32⟩
  | 47 => ⟨S46080x1, .f32⟩
  | 48 => ⟨S1x3584x1024, .bf16⟩
  | 49 => ⟨S3584x1024, .bf16⟩
  | 50 => ⟨S3584x1024, .f32⟩
  | 51 => ⟨S46080x1024, .f32⟩
  | 52 => ⟨S46080x1024, .f32⟩
  | 53 => ⟨S46080x1024, .f32⟩
  | 54 => ⟨S46080x1024, .f32⟩
  | 55 => ⟨S1x1024x3584, .bf16⟩
  | 56 => ⟨S1024x3584, .bf16⟩
  | 57 => ⟨S1024x3584, .f32⟩
  | 58 => ⟨S46080x3584, .f32⟩
  | 59 => ⟨S46080x3584, .f32⟩
  | 60 => ⟨S46080x3584, .f32⟩
  | 61 => ⟨S_, .f32⟩
  | 62 => ⟨S46080x3584, .f32⟩
  | 63 => ⟨S46080x3584, .f32⟩
  | 64 => ⟨S_, .f32⟩
  | 65 => ⟨S46080x3584, .f32⟩
  | 66 => ⟨S46080x3584, .f32⟩
  | 67 => ⟨S46080x3584, .f32⟩
  | 68 => ⟨S1x1024x3584, .bf16⟩
  | 69 => ⟨S1024x3584, .bf16⟩
  | 70 => ⟨S1024x3584, .f32⟩
  | 71 => ⟨S46080x3584, .f32⟩
  | 72 => ⟨S46080x3584, .f32⟩
  | 73 => ⟨S46080x1, .f32⟩
  | 74 => ⟨S1x3584x1024, .bf16⟩
  | 75 => ⟨S3584x1024, .bf16⟩
  | 76 => ⟨S3584x1024, .f32⟩
  | 77 => ⟨S46080x1024, .f32⟩
  | 78 => ⟨S46080x1024, .f32⟩
  | 79 => ⟨S46080x1024, .f32⟩
  | 80 => ⟨S46080x1024, .f32⟩
  | 81 => ⟨S1x1024x3584, .bf16⟩
  | 82 => ⟨S1024x3584, .bf16⟩
  | 83 => ⟨S1024x3584, .f32⟩
  | 84 => ⟨S46080x3584, .f32⟩
  | 85 => ⟨S46080x3584, .f32⟩
  | 86 => ⟨S46080x3584, .f32⟩
  | 87 => ⟨S_, .f32⟩
  | 88 => ⟨S46080x3584, .f32⟩
  | 89 => ⟨S46080x3584, .f32⟩
  | 90 => ⟨S_, .f32⟩
  | 91 => ⟨S46080x3584, .f32⟩
  | 92 => ⟨S46080x3584, .f32⟩
  | 93 => ⟨S46080x3584, .f32⟩
  | 94 => ⟨S1x1024x3584, .bf16⟩
  | 95 => ⟨S1024x3584, .bf16⟩
  | 96 => ⟨S1024x3584, .f32⟩
  | 97 => ⟨S46080x3584, .f32⟩
  | 98 => ⟨S46080x3584, .f32⟩
  | 99 => ⟨S46080x1, .f32⟩
  | 100 => ⟨S1x3584x1024, .bf16⟩
  | 101 => ⟨S3584x1024, .bf16⟩
  | 102 => ⟨S3584x1024, .f32⟩
  | 103 => ⟨S46080x1024, .f32⟩
  | 104 => ⟨S46080x1024, .f32⟩
  | 105 => ⟨S46080x1024, .f32⟩
  | 106 => ⟨S46080x1024, .f32⟩
  | _ => ⟨S90, .i32⟩

abbrev hbmTy (i : Nat) : BufTy := match i / 128 with
  | 0 => hbmTy0_0 i
  | 1 => hbmTy0_1 i
  | _ => ⟨S90, .i32⟩

abbrev bufTy : (tb : Table) → Fin (tcTables nBuf tb) → BufTy
  | .hbm, ⟨i, _⟩ => hbmTy i
  | _, _ => ⟨S90, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call3_v0 : Ref sig .tc := ⟨.hbm, 57, rfl⟩
abbrev main_call3_v1 : Ref sig .tc := ⟨.hbm, 58, rfl⟩
abbrev main_call3_cst : Ref sig .tc := ⟨.hbm, 59, rfl⟩
abbrev main_call3_v2 : Ref sig .tc := ⟨.hbm, 60, rfl⟩
abbrev main_call3_v3 : Ref sig .tc := ⟨.hbm, 61, rfl⟩
abbrev main_call3_cst_0 : Ref sig .tc := ⟨.hbm, 62, rfl⟩
abbrev main_call3_v4 : Ref sig .tc := ⟨.hbm, 63, rfl⟩
abbrev main_call3_v5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call4_v0 : Ref sig .tc := ⟨.hbm, 83, rfl⟩
abbrev main_call4_v1 : Ref sig .tc := ⟨.hbm, 84, rfl⟩
abbrev main_call4_cst : Ref sig .tc := ⟨.hbm, 85, rfl⟩
abbrev main_call4_v2 : Ref sig .tc := ⟨.hbm, 86, rfl⟩
abbrev main_call4_v3 : Ref sig .tc := ⟨.hbm, 87, rfl⟩
abbrev main_call4_cst_0 : Ref sig .tc := ⟨.hbm, 88, rfl⟩
abbrev main_call4_v4 : Ref sig .tc := ⟨.hbm, 89, rfl⟩
abbrev main_call4_v5 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call5_v0 : Ref sig .tc := ⟨.hbm, 109, rfl⟩
abbrev main_call5_v1 : Ref sig .tc := ⟨.hbm, 110, rfl⟩
abbrev main_call5_cst : Ref sig .tc := ⟨.hbm, 111, rfl⟩
abbrev main_call5_v2 : Ref sig .tc := ⟨.hbm, 112, rfl⟩
abbrev main_call5_v3 : Ref sig .tc := ⟨.hbm, 113, rfl⟩
abbrev main_call5_cst_0 : Ref sig .tc := ⟨.hbm, 114, rfl⟩
abbrev main_call5_v4 : Ref sig .tc := ⟨.hbm, 115, rfl⟩
abbrev main_call5_v5 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_call6_v0 : Ref sig .tc := ⟨.hbm, 135, rfl⟩
abbrev main_call6_v1 : Ref sig .tc := ⟨.hbm, 136, rfl⟩
abbrev main_call6_cst : Ref sig .tc := ⟨.hbm, 137, rfl⟩
abbrev main_call6_v2 : Ref sig .tc := ⟨.hbm, 138, rfl⟩
abbrev main_call6_v3 : Ref sig .tc := ⟨.hbm, 139, rfl⟩
abbrev main_call6_cst_0 : Ref sig .tc := ⟨.hbm, 140, rfl⟩
abbrev main_call6_v4 : Ref sig .tc := ⟨.hbm, 141, rfl⟩
abbrev main_call6_v5 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_call7_v0 : Ref sig .tc := ⟨.hbm, 161, rfl⟩
abbrev main_call7_v1 : Ref sig .tc := ⟨.hbm, 162, rfl⟩
abbrev main_call7_cst : Ref sig .tc := ⟨.hbm, 163, rfl⟩
abbrev main_call7_v2 : Ref sig .tc := ⟨.hbm, 164, rfl⟩
abbrev main_call7_v3 : Ref sig .tc := ⟨.hbm, 165, rfl⟩
abbrev main_call7_cst_0 : Ref sig .tc := ⟨.hbm, 166, rfl⟩
abbrev main_call7_v4 : Ref sig .tc := ⟨.hbm, 167, rfl⟩
abbrev main_call7_v5 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_call8_v0 : Ref sig .tc := ⟨.hbm, 187, rfl⟩
abbrev main_call8_v1 : Ref sig .tc := ⟨.hbm, 188, rfl⟩
abbrev main_call8_cst : Ref sig .tc := ⟨.hbm, 189, rfl⟩
abbrev main_call8_v2 : Ref sig .tc := ⟨.hbm, 190, rfl⟩
abbrev main_call8_v3 : Ref sig .tc := ⟨.hbm, 191, rfl⟩
abbrev main_call8_cst_0 : Ref sig .tc := ⟨.hbm, 192, rfl⟩
abbrev main_call8_v4 : Ref sig .tc := ⟨.hbm, 193, rfl⟩
abbrev main_call8_v5 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_call9_v0 : Ref sig .tc := ⟨.hbm, 213, rfl⟩
abbrev main_call9_v1 : Ref sig .tc := ⟨.hbm, 214, rfl⟩
abbrev main_call9_cst : Ref sig .tc := ⟨.hbm, 215, rfl⟩
abbrev main_call9_v2 : Ref sig .tc := ⟨.hbm, 216, rfl⟩
abbrev main_call9_v3 : Ref sig .tc := ⟨.hbm, 217, rfl⟩
abbrev main_call9_cst_0 : Ref sig .tc := ⟨.hbm, 218, rfl⟩
abbrev main_call9_v4 : Ref sig .tc := ⟨.hbm, 219, rfl⟩
abbrev main_call9_v5 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩

abbrev nD : Nat := 1
abbrev τ : Topo := Topo.v7x

variable {F : FTy → Type} [FloatOps F]
-- ==== Kernel3.lean ====
abbrev S128x1024 : Shape := ⟨2, ![128, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x16 : Shape := ⟨2, ![64, 16]⟩
abbrev S128x64x64 : Shape := ⟨3, ![128, 64, 64]⟩
abbrev S64x1 : Shape := ⟨2, ![64, 1]⟩
abbrev S_ : Shape := ⟨0, ![]⟩
abbrev S64x64x1 : Shape := ⟨3, ![64, 64, 1]⟩
abbrev S8x8 : Shape := ⟨2, ![8, 8]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S8x1x512 : Shape := ⟨3, ![8, 1, 512]⟩
abbrev S8x1x128 : Shape := ⟨3, ![8, 1, 128]⟩
abbrev S128x4096 : Shape := ⟨2, ![128, 4096]⟩
abbrev S128x128 : Shape := ⟨2, ![128, 128]⟩
abbrev S1x128x1024 : Shape := ⟨3, ![1, 128, 1024]⟩
abbrev S1x1024x128 : Shape := ⟨3, ![1, 1024, 128]⟩
abbrev S1x1x512 : Shape := ⟨3, ![1, 1, 512]⟩
abbrev S1x1x128 : Shape := ⟨3, ![1, 1, 128]⟩
abbrev S128x512 : Shape := ⟨2, ![128, 512]⟩
abbrev S1x512 : Shape := ⟨2, ![1, 512]⟩
abbrev S1024x128 : Shape := ⟨2, ![1024, 128]⟩
abbrev S1x128 : Shape := ⟨2, ![1, 128]⟩

abbrev nBuf : Space → Nat
  | .hbm => 102
  | .vmem => 22
  | .smem => 0
  | _ => 0

abbrev bufTy : (tb : Table) → Fin (tcTables nBuf tb) → BufTy
  | .hbm, ⟨0, _⟩ => ⟨S128x1024, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64x16, .f32⟩
  | .hbm, ⟨5, _⟩ => ⟨S64x64x16, .f32⟩
  | .hbm, ⟨6, _⟩ => ⟨S64x16x64, .f32⟩
  | .hbm, ⟨7, _⟩ => ⟨S64x16x64, .f32⟩
  | .hbm, ⟨8, _⟩ => ⟨S64x16, .f32⟩
  | .hbm, ⟨9, _⟩ => ⟨S128x64x64, .f32⟩
  | .hbm, ⟨10, _⟩ => ⟨S128x64x64, .f32⟩
  | .hbm, ⟨11, _⟩ => ⟨S64, .f32⟩
  | .hbm, ⟨12, _⟩ => ⟨S64x1, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64x1, .f32⟩
  | .hbm, ⟨39, _⟩ => ⟨S64x64x16, .f32⟩
  | .hbm, ⟨40, _⟩ => ⟨S64x64x16, .f32⟩
  | .hbm, ⟨41, _⟩ => ⟨S64x64x1, .f32⟩
  | .hbm, ⟨42, _⟩ => ⟨S64x64x16, .f32⟩
  | .hbm, ⟨43, _⟩ => ⟨S64x64x16, .f32⟩
  | .hbm, ⟨44, _⟩ => ⟨S64x64x16, .f32⟩
  | .hbm, ⟨45, _⟩ => ⟨S64x64x1, .f32⟩
  | .hbm, ⟨46, _⟩ => ⟨S64x64x16, .f32⟩
  | .hbm, ⟨47, _⟩ => ⟨S64x64x16, .f32⟩
  | .hbm, ⟨48, _⟩ => ⟨S64x64x1, .f32⟩
  | .hbm, ⟨49, _⟩ => ⟨S64x64x16, .f32⟩
  | .hbm, ⟨50, _⟩ => ⟨S64x64x16, .f32⟩
  | .hbm, ⟨51, _⟩ => ⟨S64x64x16, .f32⟩
  | .hbm, ⟨52, _⟩ => ⟨S8x8, .i32⟩
  | .hbm, ⟨53, _⟩ => ⟨S8x8, .i32⟩
  | .hbm, ⟨54, _⟩ => ⟨S_, .i32⟩
  | .hbm, ⟨55, _⟩ => ⟨S8x8, .i32⟩
  | .hbm, ⟨56, _⟩ => ⟨S8x8, .i32⟩
  | .hbm, ⟨57, _⟩ => ⟨S8x8, .i1⟩
  | .hbm, ⟨58, _⟩ => ⟨S8x8, .f32⟩
  | .hbm, ⟨59, _⟩ => ⟨S8x8x64x16, .f32⟩
  | .hbm, ⟨60, _⟩ => ⟨S8x8x16x64, .f32⟩
  | .hbm, ⟨61, _⟩ => ⟨S8x8x16x1x64, .f32⟩
  | .hbm, ⟨62, _⟩ => ⟨S1x8x1x8x1, .f32⟩
  | .hbm, ⟨63, _⟩ => ⟨S8x8x16x8x64, .f32⟩
  | .hbm, ⟨64, _⟩ => ⟨S8x8x16x8x64, .f32⟩
  | .hbm, ⟨65, _⟩ => ⟨S8x8x16x8x64, .f32⟩
  | .hbm, ⟨66, _⟩ => ⟨S8x128x512, .f32⟩
  | .hbm, ⟨67, _⟩ => ⟨S8x8x64x16, .f32⟩
  | .hbm, ⟨68, _⟩ => ⟨S8x8x16x64, .f32⟩
  | .hbm, ⟨69, _⟩ => ⟨S8x8x16x1x64, .f32⟩
  | .hbm, ⟨70, _⟩ => ⟨S1x8x1x8x1, .f32⟩
  | .hbm, ⟨71, _⟩ => ⟨S8x8x16x8x64, .f32⟩
  | .hbm, ⟨72, _⟩ => ⟨S8x8x16x8x64, .f32⟩
  | .hbm, ⟨73, _⟩ => ⟨S8x8x16x8x64, .f32⟩
  | .hbm, ⟨74, _⟩ => ⟨S8x128x512, .f32⟩
  | .hbm, ⟨75, _⟩ => ⟨S8x128x1024, .f32⟩
  | .hbm, ⟨76, _⟩ => ⟨S8x8x16x64, .f32⟩
  | .hbm, ⟨77, _⟩ => ⟨S8x8x64x16, .f32⟩
  | .hbm, ⟨78, _⟩ => ⟨S8x8x64x1x16, .f32⟩
  | .hbm, ⟨79, _⟩ => ⟨S1x8x1x8x1, .f32⟩
  | .hbm, ⟨80, _⟩ => ⟨S8x8x64x8x16, .f32⟩
  | .hbm, ⟨81, _⟩ => ⟨S8x8x64x8x16, .f32⟩
  | .hbm, ⟨82, _⟩ => ⟨S8x8x64x8x16, .f32⟩
  | .hbm, ⟨83, _⟩ => ⟨S8x512x128, .f32⟩
  | .hbm, ⟨84, _⟩ => ⟨S64x16x64, .f32⟩
  | .hbm, ⟨85, _⟩ => ⟨S8x8x16x64, .f32⟩
  | .hbm, ⟨86, _⟩ => ⟨S8x8x64x16, .f32⟩
  | .hbm, ⟨87, _⟩ => ⟨S8x8x64x1x16, .f32⟩
  | .hbm, ⟨88, _⟩ => ⟨S1x8x1x8x1, .f32⟩
  | .hbm, ⟨89, _⟩ => ⟨S8x8x64x8x16, .f32⟩
  | .hbm, ⟨90, _⟩ => ⟨S8x8x64x8x16, .f32⟩
  | .hbm, ⟨91, _⟩ => ⟨S8x8x64x8x16, .f32⟩
  | .hbm, ⟨92, _⟩ => ⟨S8x512x128, .f32⟩
  | .hbm, ⟨93, _⟩ => ⟨S8x1024x128, .f32⟩
  | .hbm, ⟨94, _⟩ => ⟨S8x1x512, .f32⟩
  | .hbm, ⟨95, _⟩ => ⟨S8x1x512, .f32⟩
  | .hbm, ⟨96, _⟩ => ⟨S8x1x128, .f32⟩
  | .hbm, ⟨97, _⟩ => ⟨S128x4096, .f32⟩
  | .hbm, ⟨98, _⟩ => ⟨S128x4096, .f32⟩
  | .hbm, ⟨99, _⟩ => ⟨S128x1024, .f32⟩
  | .hbm, ⟨100, _⟩ => ⟨S128x4096, .f32⟩
  | .hbm, ⟨101, _⟩ => ⟨S128x4096, .f32⟩
  | .local _ .vmem, ⟨0, _⟩ => ⟨S128x128, .f32⟩
  | .local _ .vmem, ⟨1, _⟩ => ⟨S128x128, .f32⟩
  | .local _ .vmem, ⟨2, _⟩ => ⟨S1x128x1024, .f32⟩
  | .local _ .vmem, ⟨3, _⟩ => ⟨S1x128x1024, .f32⟩
  | .local _ .vmem, ⟨4, _⟩ => ⟨S1x1024x128, .f32⟩
  | .local _ .vmem, ⟨5, _⟩ => ⟨S1x1024x128, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x128, .f32⟩
  | .local _ .vmem, ⟨11, _⟩ => ⟨S1x1x128, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x128, .f32⟩
  | .local _ .vmem, ⟨17, _⟩ => ⟨S128x128, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86_0 : Ref sig .tc := ⟨.hbm, 99, rfl⟩
abbrev main_v86_1 : Ref sig .tc := ⟨.hbm, 100, rfl⟩
abbrev main_v86_2 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S128x1024 : Shape := ⟨2, ![128, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x16 : Shape := ⟨2, ![64, 16]⟩
abbrev S128x64x64 : Shape := ⟨3, ![128, 64, 64]⟩
abbrev S128x1x64x16 : Shape := ⟨4, ![128, 1, 64, 16]⟩
abbrev S64x1 : Shape := ⟨2, ![64, 1]⟩
abbrev S_ : Shape := ⟨0, ![]⟩
abbrev S64x64x1 : Shape := ⟨3, ![64, 64, 1]⟩
abbrev S64x64x128x1 : Shape := ⟨4, ![64, 64, 128, 1]⟩
abbrev S128x1x64x64 : Shape := ⟨4, ![128, 1, 64, 64]⟩
abbrev S1x64x64 : Shape := ⟨3, ![1, 64, 64]⟩
abbrev S64x128x1x16 : Shape := ⟨4, ![64, 128, 1, 16]⟩
abbrev S1x1x64x16 : Shape := ⟨4, ![1, 1, 64, 16]⟩
abbrev S128x1x1024 : Shape := ⟨3, ![128, 1, 1024]⟩
abbrev S128x4096 : Shape := ⟨2, ![128, 4096]⟩

abbrev nBuf : Space → Nat
  | .hbm => 109
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64x16, .f32⟩
  | .hbm, ⟨5, _⟩ => ⟨S64x64x16, .f32⟩
  | .hbm, ⟨6, _⟩ => ⟨S64x16x64, .f32⟩
  | .hbm, ⟨7, _⟩ => ⟨S64x16x64, .f32⟩
  | .hbm, ⟨8, _⟩ => ⟨S64x16, .f32⟩
  | .hbm, ⟨9, _⟩ => ⟨S128x64x64, .f32⟩
  | .hbm, ⟨10, _⟩ => ⟨S128x64x64, .f32⟩
  | .hbm, ⟨11, _⟩ => ⟨S128x1x64x16, .f32⟩
  | .hbm, ⟨12, _⟩ => ⟨S64, .f32⟩
  | .hbm, ⟨13, _⟩ => ⟨S64x1, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64x1, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x64x1, .f32⟩
  | .hbm, ⟨47, _⟩ => ⟨S64x64x16, .f32⟩
  | .hbm, ⟨48, _⟩ => ⟨S64x64x16, .f32⟩
  | .hbm, ⟨49, _⟩ => ⟨S64x64x1, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S64x64x128x1, .f32⟩
  | .hbm, ⟨54, _⟩ => ⟨S128x1x64x64, .f32⟩
  | .hbm, ⟨55, _⟩ => ⟨S64x64x128x1, .f32⟩
  | .hbm, ⟨56, _⟩ => ⟨S128x1x64x64, .f32⟩
  | .hbm, ⟨57, _⟩ => ⟨S1x64x64, .f32⟩
  | .hbm, ⟨58, _⟩ => ⟨S128x64x64, .f32⟩
  | .hbm, ⟨59, _⟩ => ⟨S128x64x64, .f32⟩
  | .hbm, ⟨60, _⟩ => ⟨S1x64x64, .f32⟩
  | .hbm, ⟨61, _⟩ => ⟨S128x64x64, .f32⟩
  | .hbm, ⟨62, _⟩ => ⟨S128x64x64, .f32⟩
  | .hbm, ⟨63, _⟩ => ⟨S128x64x64, .f32⟩
  | .hbm, ⟨64, _⟩ => ⟨S128x1x64x64, .f32⟩
  | .hbm, ⟨65, _⟩ => ⟨S128x1x64x64, .f32⟩
  | .hbm, ⟨66, _⟩ => ⟨S1x64x64, .f32⟩
  | .hbm, ⟨67, _⟩ => ⟨S128x64x64, .f32⟩
  | .hbm, ⟨68, _⟩ => ⟨S128x64x64, .f32⟩
  | .hbm, ⟨69, _⟩ => ⟨S1x64x64, .f32⟩
  | .hbm, ⟨70, _⟩ => ⟨S128x64x64, .f32⟩
  | .hbm, ⟨71, _⟩ => ⟨S128x64x64, .f32⟩
  | .hbm, ⟨72, _⟩ => ⟨S128x64x64, .f32⟩
  | .hbm, ⟨73, _⟩ => ⟨S128x1x64x64, .f32⟩
  | .hbm, ⟨74, _⟩ => ⟨S128x1x64x64, .f32⟩
  | .hbm, ⟨75, _⟩ => ⟨S128x1x64x64, .f32⟩
  | .hbm, ⟨76, _⟩ => ⟨S128x1x64x64, .f32⟩
  | .hbm, ⟨77, _⟩ => ⟨S64x128x1x16, .f32⟩
  | .hbm, ⟨78, _⟩ => ⟨S128x1x64x16, .f32⟩
  | .hbm, ⟨79, _⟩ => ⟨S64x128x1x16, .f32⟩
  | .hbm, ⟨80, _⟩ => ⟨S128x1x64x16, .f32⟩
  | .hbm, ⟨81, _⟩ => ⟨S128x1x64x16, .f32⟩
  | .hbm, ⟨82, _⟩ => ⟨S1x1x64x16, .f32⟩
  | .hbm, ⟨83, _⟩ => ⟨S128x1x64x16, .f32⟩
  | .hbm, ⟨84, _⟩ => ⟨S128x1x64x16, .f32⟩
  | .hbm, ⟨85, _⟩ => ⟨S128x1x64x16, .f32⟩
  | .hbm, ⟨86, _⟩ => ⟨S128x1x1024, .f32⟩
  | .hbm, ⟨87, _⟩ => ⟨S128x1x1024, .f32⟩
  | .hbm, ⟨88, _⟩ => ⟨S128x1x1024, .f32⟩
  | .hbm, ⟨89, _⟩ => ⟨S_, .f32⟩
  | .hbm, ⟨90, _⟩ => ⟨S128x1x1024, .f32⟩
  | .hbm, ⟨91, _⟩ => ⟨S128x1x1024, .f32⟩
  | .hbm, ⟨92, _⟩ => ⟨S128x1x1024, .f32⟩
  | .hbm, ⟨93, _⟩ => ⟨S_, .f32⟩
  | .hbm, ⟨94, _⟩ => ⟨S128x1x1024, .f32⟩
  | .hbm, ⟨95, _⟩ => ⟨S128x1x1024, .f32⟩
  | .hbm, ⟨96, _⟩ => ⟨S128x1x1024, .f32⟩
  | .hbm, ⟨97, _⟩ => ⟨S_, .f32⟩
  | .hbm, ⟨98, _⟩ => ⟨S128x1x1024, .f32⟩
  | .hbm, ⟨99, _⟩ => ⟨S128x1x1024, .f32⟩
  | .hbm, ⟨100, _⟩ => ⟨S_, .f32⟩
  | .hbm, ⟨101, _⟩ => ⟨S128x1x1024, .f32⟩
  | .hbm, ⟨102, _⟩ => ⟨S128x1x1024, .f32⟩
  | .hbm, ⟨103, _⟩ => ⟨S128x1x1024, .f32⟩
  | .hbm, ⟨104, _⟩ => ⟨S128x1024, .f32⟩
  | .hbm, ⟨105, _⟩ => ⟨S128x64x64, .f32⟩
  | .hbm, ⟨106, _⟩ => ⟨S128x4096, .f32⟩
  | .hbm, ⟨107, _⟩ => ⟨S128x64x64, .f32⟩
  | .hbm, ⟨108, _⟩ => ⟨S128x4096, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_cst_0 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_1 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_2 : Ref sig .tc := ⟨.hbm, 97, rfl⟩
abbrev main_v83 : Ref sig .tc := ⟨.hbm, 98, rfl⟩
abbrev main_v84 : Ref sig .tc := ⟨.hbm, 99, rfl⟩
abbrev main_cst_3 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩

abbrev nD : Nat := 1
abbrev τ : Topo := Topo.v7x

variable {F : FTy → Type} [FloatOps F]
-- ==== Proof.ExRun.lean ====
/-
The body of the experts' call, run at one point of its grid. A tile of 512 rows has two points, one for each half of
the expert's hidden channels, and a tile may lie beyond the tiles in use; so there are four ways through the body.
The runs are written over any float values and over any tables.
-/
module

public import proofs.«01_k».proof.Defs
public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Ex

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the tiles' experts, the number of tiles in use, and the accumulator, each a whole buffer. -/
abbrev tbM0 : Memref sig .tc .smem S90 .i32 := Memref.whole main_arg0
abbrev tbM1 : Memref sig .tc .smem S1 .i32 := Memref.whole main_arg1
abbrev scM : Memref sig .tc .vmem S512x1024 .f32 := Memref.whole cc0_scratch0

/-- The one word of the number of tiles, as the body reads it. -/
abbrev word (T1 : S1.Idx → Elt F .i32) : BitVec 32 :=
  View.readAt (Elt F) tbM1.view (Rect.unit (s := S1) ![0] S1.size inb_S1_S1_0).toLoadRect T1 (Shape.Idx.first (numel1_S1.symm ▸ Nat.one_pos))

/-- Whether the point is its tile's first, and whether it is a later one, as the body computes them. -/
abbrev firstPass (i : grid0.Coords) : BitVec 1 := Scalar.cmpi .ne (Scalar.extui (Scalar.cmpi .eq (BitVec.ofNat 32 (i 1).val) 0#32)) 0#32
abbrev laterPass (i : grid0.Coords) : BitVec 1 := Scalar.cmpi .ne (Scalar.extui (Scalar.cmpi .sgt (BitVec.ofNat 32 (i 1).val) 0#32)) 0#32

set_option backward.proofsInPublic true in
set_option maxHeartbeats 8000000 in
/-- The first half of an active tile: the partial product goes to the accumulator, the output is not touched. -/
def runA (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole)
    (T0 : S90.Idx → Elt F .i32) (T1 : S1.Idx → Elt F .i32)
    (x0 : S512x1024.Idx → Elt F .f32) (x1 : S1x1024x1792.Idx → Elt F .bf16) (x2 : S1x1024x1792.Idx → Elt F .bf16) (x3 : S1x1792x1024.Idx → Elt F .bf16)
    (ha : k0_cond1 i (word T1) = 1#1) (hc : firstPass i = 1#1) (hl : ¬(laterPass i = 1#1)) (h4 : ¬(k0_cond4 i = 1#1)) (h5 : ¬(k0_cond5 i (word T1) = 1#1)) :
    { acc : Buf (Elt F) ((c : Thread nD τ).loc cc0_scratch0) //
      ∀ (y4 : S512x1024.Idx → Elt F .f32) (xa : Buf (Elt F) ((c : Thread nD τ).loc cc0_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0.view.loc (c : Thread nD τ) ↦{fullShare.right} T0)
          ∗ (tbM1.view.loc (c : Thread nD τ) ↦{fullShare.right} T1)
          ∗ owns (c : Thread nD τ) arg8 fullShare y4
          ∗ (scM.view.loc (c : Thread nD τ) ↦{fullShare} xa)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0.view.loc (c : Thread nD τ) ↦{fullShare.right} T0)
          ∗ (tbM1.view.loc (c : Thread nD τ) ↦{fullShare.right} T1)
          ∗ owns (c : Thread nD τ) arg8 fullShare y4
          ∗ (scM.view.loc (c : Thread nD τ) ↦{fullShare} acc)) -∗ K ⟨⟩))
          ⊢ wp frame (wpE (defs₀ (F := F)) Variants.none c none) Set.univ (cc0__experts_kernel i tbM0 (Memref.isWhole_whole _) tbM1 (Memref.isWhole_whole _) arg4 harg4 arg5 harg5 arg6 harg6 arg7 harg7 arg8 harg8 scM (Memref.isWhole_whole _)) K } :=
  ⟨_, fun y4 xa K => by
    unfold owns
    rw [cc0__experts_kernel_eq_skeleton]; unfold cc0__experts_kernel_skel
    iintro ⟨H0, H1, H2, H3, HT0, HT1, ⟨%f4, %hf4, HO4⟩, HS0, Hk⟩
    obtain rfl := harg8.eq_unread hf4
    have hS0 : scM.IsWhole := Memref.isWhole_whole _
    have hT0 : tbM0.IsWhole := Memref.isWhole_whole _
    have hT1 : tbM1.IsWhole := Memref.isWhole_whole _
    sl_exec! (disch := first | (guard_target = k0_cond1 _ _ = _; exact ha) | (guard_target = Scalar.cmpi = _; exact hc) | (guard_target = ¬(Scalar.cmpi = _); exact hl) | (guard_target = ¬(k0_cond4 _ = _); exact h4) | (guard_target = ¬(k0_cond5 _ _ = _); exact h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    iexact HS0⟩

set_option backward.proofsInPublic true in
set_option maxHeartbeats 8000000 in
/-- The second half of an active tile: the partial product is added to the accumulator, and the sum is the tile's output. -/
def runB (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole)
    (T0 : S90.Idx → Elt F .i32) (T1 : S1.Idx → Elt F .i32)
    (x0 : S512x1024.Idx → Elt F .f32) (x1 : S1x1024x1792.Idx → Elt F .bf16) (x2 : S1x1024x1792.Idx → Elt F .bf16) (x3 : S1x1792x1024.Idx → Elt F .bf16) (xa : Buf (Elt F) ((c : Thread nD τ).loc cc0_scratch0))
    (ha : k0_cond1 i (word T1) = 1#1) (hc : ¬(firstPass i = 1#1)) (hl : laterPass i = 1#1) (h4 : k0_cond4 i = 1#1) (h5 : ¬(k0_cond5 i (word T1) = 1#1)) :
    Σ' (out : List (View.Piece (Elt F) S512x1024 .f32)), { acc : Buf (Elt F) ((c : Thread nD τ).loc cc0_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0.view.loc (c : Thread nD τ) ↦{fullShare.right} T0)
          ∗ (tbM1.view.loc (c : Thread nD τ) ↦{fullShare.right} T1)
          ∗ (∃ d, owns (c : Thread nD τ) arg8 fullShare d)
          ∗ (scM.view.loc (c : Thread nD τ) ↦{fullShare} xa)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0.view.loc (c : Thread nD τ) ↦{fullShare.right} T0)
          ∗ (tbM1.view.loc (c : Thread nD τ) ↦{fullShare.right} T1)
          ∗ (∃ f, arg8.view.loc (c : Thread nD τ) ↦[arg8.view.set]{fullShare} arg8.view.writes (Elt F) f out)
          ∗ (scM.view.loc (c : Thread nD τ) ↦{fullShare} acc)) -∗ K ⟨⟩))
          ⊢ wp frame (wpE (defs₀ (F := F)) Variants.none c none) Set.univ (cc0__experts_kernel i tbM0 (Memref.isWhole_whole _) tbM1 (Memref.isWhole_whole _) arg4 harg4 arg5 harg5 arg6 harg6 arg7 harg7 arg8 harg8 scM (Memref.isWhole_whole _)) K } :=
  ⟨_, _, fun K => by
    unfold owns
    rw [cc0__experts_kernel_eq_skeleton]; unfold cc0__experts_kernel_skel
    iintro ⟨H0, H1, H2, H3, HT0, HT1, ⟨%d4, %f4, -, HO4⟩, HS0, Hk⟩
    have hS0 : scM.IsWhole := Memref.isWhole_whole _
    have hT0 : tbM0.IsWhole := Memref.isWhole_whole _
    have hT1 : tbM1.IsWhole := Memref.isWhole_whole _
    sl_exec! (disch := first | (guard_target = k0_cond1 _ _ = _; exact ha) | (guard_target = ¬(Scalar.cmpi = _); exact hc) | (guard_target = Scalar.cmpi = _; exact hl) | (guard_target = k0_cond4 _ = _; exact h4) | (guard_target = ¬(k0_cond5 _ _ = _); exact h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    iexact HS0⟩

set_option backward.proofsInPublic true in
set_option maxHeartbeats 8000000 in
/-- The first point of a tile beyond those in use: nothing happens. -/
theorem runC (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole)
    (T0 : S90.Idx → Elt F .i32) (T1 : S1.Idx → Elt F .i32)
    (x0 : S512x1024.Idx → Elt F .f32) (x1 : S1x1024x1792.Idx → Elt F .bf16) (x2 : S1x1024x1792.Idx → Elt F .bf16) (x3 : S1x1792x1024.Idx → Elt F .bf16)
    (ha : ¬(k0_cond1 i (word T1) = 1#1)) (h5 : ¬(k0_cond5 i (word T1) = 1#1)) :
    ∀ (y4 : S512x1024.Idx → Elt F .f32) (xa : Buf (Elt F) ((c : Thread nD τ).loc cc0_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0.view.loc (c : Thread nD τ) ↦{fullShare.right} T0)
          ∗ (tbM1.view.loc (c : Thread nD τ) ↦{fullShare.right} T1)
          ∗ owns (c : Thread nD τ) arg8 fullShare y4
          ∗ (scM.view.loc (c : Thread nD τ) ↦{fullShare} xa)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0.view.loc (c : Thread nD τ) ↦{fullShare.right} T0)
          ∗ (tbM1.view.loc (c : Thread nD τ) ↦{fullShare.right} T1)
          ∗ owns (c : Thread nD τ) arg8 fullShare y4
          ∗ (scM.view.loc (c : Thread nD τ) ↦{fullShare} xa)) -∗ K ⟨⟩))
          ⊢ wp frame (wpE (defs₀ (F := F)) Variants.none c none) Set.univ (cc0__experts_kernel i tbM0 (Memref.isWhole_whole _) tbM1 (Memref.isWhole_whole _) arg4 harg4 arg5 harg5 arg6 harg6 arg7 harg7 arg8 harg8 scM (Memref.isWhole_whole _)) K :=
  fun y4 xa K => by
    unfold owns
    rw [cc0__experts_kernel_eq_skeleton]; unfold cc0__experts_kernel_skel
    iintro ⟨H0, H1, H2, H3, HT0, HT1, ⟨%f4, %hf4, HO4⟩, HS0, Hk⟩
    obtain rfl := harg8.eq_unread hf4
    have hS0 : scM.IsWhole := Memref.isWhole_whole _
    have hT0 : tbM0.IsWhole := Memref.isWhole_whole _
    have hT1 : tbM1.IsWhole := Memref.isWhole_whole _
    sl_exec! (disch := first | (guard_target = ¬(k0_cond1 _ _ = _); exact ha) | (guard_target = ¬(k0_cond5 _ _ = _); exact h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    iexact HS0

set_option backward.proofsInPublic true in
set_option maxHeartbeats 8000000 in
/-- The second point of a tile beyond those in use: the tile's output is zero. -/
def runD (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole)
    (T0 : S90.Idx → Elt F .i32) (T1 : S1.Idx → Elt F .i32)
    (x0 : S512x1024.Idx → Elt F .f32) (x1 : S1x1024x1792.Idx → Elt F .bf16) (x2 : S1x1024x1792.Idx → Elt F .bf16) (x3 : S1x1792x1024.Idx → Elt F .bf16)
    (ha : ¬(k0_cond1 i (word T1) = 1#1)) (h5 : k0_cond5 i (word T1) = 1#1) :
    { out : List (View.Piece (Elt F) S512x1024 .f32) //
      ∀ (xa : Buf (Elt F) ((c : Thread nD τ).loc cc0_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0.view.loc (c : Thread nD τ) ↦{fullShare.right} T0)
          ∗ (tbM1.view.loc (c : Thread nD τ) ↦{fullShare.right} T1)
          ∗ (∃ d, owns (c : Thread nD τ) arg8 fullShare d)
          ∗ (scM.view.loc (c : Thread nD τ) ↦{fullShare} xa)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0.view.loc (c : Thread nD τ) ↦{fullShare.right} T0)
          ∗ (tbM1.view.loc (c : Thread nD τ) ↦{fullShare.right} T1)
          ∗ (∃ f, arg8.view.loc (c : Thread nD τ) ↦[arg8.view.set]{fullShare} arg8.view.writes (Elt F) f out)
          ∗ (scM.view.loc (c : Thread nD τ) ↦{fullShare} xa)) -∗ K ⟨⟩))
          ⊢ wp frame (wpE (defs₀ (F := F)) Variants.none c none) Set.univ (cc0__experts_kernel i tbM0 (Memref.isWhole_whole _) tbM1 (Memref.isWhole_whole _) arg4 harg4 arg5 harg5 arg6 harg6 arg7 harg7 arg8 harg8 scM (Memref.isWhole_whole _)) K } :=
  ⟨_, fun xa K => by
    unfold owns
    rw [cc0__experts_kernel_eq_skeleton]; unfold cc0__experts_kernel_skel
    iintro ⟨H0, H1, H2, H3, HT0, HT1, ⟨%d4, %f4, -, HO4⟩, HS0, Hk⟩
    have hS0 : scM.IsWhole := Memref.isWhole_whole _
    have hT0 : tbM0.IsWhole := Memref.isWhole_whole _
    have hT1 : tbM1.IsWhole := Memref.isWhole_whole _
    sl_exec! (disch := first | (guard_target = ¬(k0_cond1 _ _ = _); exact ha) | (guard_target = k0_cond5 _ _ = _; exact h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    iexact HS0⟩

end Cert.Ex

end
-- ==== Proof.ExStep.lean ====
/-
What the runs of the experts' body leave: the accumulator after the first half of a tile, and the output after the second.
-/
module

public import proofs.«01_k».proof.Proof.ExRun
public import Idealize.ShloMosaic.Lib.VecWindow

@[expose] public section

set_option maxRecDepth 16384
set_option Elab.async false

noncomputable section

namespace Cert.Ex

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator's buffer when it holds `p`. -/
def accOf (p : S512x1024.Idx → Elt F .f32) : scM.view.ty.Contents (Elt F) :=
  scM.view.writes (Elt F) scM.view.junk [⟨Rect.unit ![0, 0] S512x1024.size inb_S512x1024_S512x1024_0_0, p⟩]

/-- After the first half the accumulator holds the first partial product. -/
theorem runA_acc (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole)
    (T0 : S90.Idx → Elt F .i32) (T1 : S1.Idx → Elt F .i32)
    (x0 : S512x1024.Idx → Elt F .f32) (x1 : S1x1024x1792.Idx → Elt F .bf16) (x2 : S1x1024x1792.Idx → Elt F .bf16) (x3 : S1x1792x1024.Idx → Elt F .bf16)
    (ha : k0_cond1 i (word T1) = 1#1) (hc : firstPass i = 1#1) (hl : ¬(laterPass i = 1#1)) (h4 : ¬(k0_cond4 i = 1#1)) (h5 : ¬(k0_cond5 i (word T1) = 1#1)) :
    (runA c i arg4 harg4 arg5 harg5 arg6 harg6 arg7 harg7 arg8 harg8 T0 T1 x0 x1 x2 x3 ha hc hl h4 h5).1 = accOf (k0_pay2 x0 x1 x2 x3) := by
  unfold runA; dsimp only; unfold runA.sl.HS0_1 accOf
  have e0 : View.readAt (Elt F) arg4.view (Rect.unit ![0, 0] S512x1024.size inb_S512x1024_S512x1024_0_0).toLoadRect (arg4.view.rep x0) = x0 := View.readAt_rep_full _ _ _
  have e1 : View.readAt (Elt F) arg5.view (Rect.unit ![0, 0, 0] S1x1024x1792.size inb_S1x1024x1792_S1x1024x1792_0_0_0).toLoadRect (arg5.view.rep x1) = x1 := View.readAt_rep_full _ _ _
  have e2 : View.readAt (Elt F) arg6.view (Rect.unit ![0, 0, 0] S1x1024x1792.size inb_S1x1024x1792_S1x1024x1792_0_0_0).toLoadRect (arg6.view.rep x2) = x2 := View.readAt_rep_full _ _ _
  have e3 : View.readAt (Elt F) arg7.view (Rect.unit ![0, 0, 0] S1x1792x1024.size inb_S1x1792x1024_S1x1792x1024_0_0_0).toLoadRect (arg7.view.rep x3) = x3 := View.readAt_rep_full _ _ _
  rw [e0, e1, e2, e3]

/-- After the second half the output holds the first partial product with the second added. -/
theorem runB_out (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole)
    (T0 : S90.Idx → Elt F .i32) (T1 : S1.Idx → Elt F .i32)
    (x0 : S512x1024.Idx → Elt F .f32) (x1 : S1x1024x1792.Idx → Elt F .bf16) (x2 : S1x1024x1792.Idx → Elt F .bf16) (x3 : S1x1792x1024.Idx → Elt F .bf16) (p : S512x1024.Idx → Elt F .f32)
    (ha : k0_cond1 i (word T1) = 1#1) (hc : ¬(firstPass i = 1#1)) (hl : laterPass i = 1#1) (h4 : k0_cond4 i = 1#1) (h5 : ¬(k0_cond5 i (word T1) = 1#1)) :
    (runB c i arg4 harg4 arg5 harg5 arg6 harg6 arg7 harg7 arg8 harg8 T0 T1 x0 x1 x2 x3 (accOf p) ha hc hl h4 h5).1 = [⟨Rect.unit ![0, 0] S512x1024.size inb_S512x1024_S512x1024_0_0, k0_pay3 x0 x1 x2 x3 p⟩] := by
  unfold runB; dsimp only; unfold runB.sl.HO4_1 runB.sl.v33 runB.sl.HS0_1
  have e0 : View.readAt (Elt F) arg4.view (Rect.unit ![0, 0] S512x1024.size inb_S512x1024_S512x1024_0_0).toLoadRect (arg4.view.rep x0) = x0 := View.readAt_rep_full _ _ _
  have e1 : View.readAt (Elt F) arg5.view (Rect.unit ![0, 0, 0] S1x1024x1792.size inb_S1x1024x1792_S1x1024x1792_0_0_0).toLoadRect (arg5.view.rep x1) = x1 := View.readAt_rep_full _ _ _
  have e2 : View.readAt (Elt F) arg6.view (Rect.unit ![0, 0, 0] S1x1024x1792.size inb_S1x1024x1792_S1x1024x1792_0_0_0).toLoadRect (arg6.view.rep x2) = x2 := View.readAt_rep_full _ _ _
  have e3 : View.readAt (Elt F) arg7.view (Rect.unit ![0, 0, 0] S1x1792x1024.size inb_S1x1792x1024_S1x1792x1024_0_0_0).toLoadRect (arg7.view.rep x3) = x3 := View.readAt_rep_full _ _ _
  have ea : View.readAt (Elt F) scM.view (Rect.unit ![0, 0] S512x1024.size inb_S512x1024_S512x1024_0_0).toLoadRect (accOf p) = p := View.readAt_writes_full _ _ _ _ _ _
  rw [View.readCov_full, e0, e1, e2, e3, ea]

/-- Beyond the tiles in use the output holds zeros. -/
theorem runD_out (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole)
    (T0 : S90.Idx → Elt F .i32) (T1 : S1.Idx → Elt F .i32)
    (x0 : S512x1024.Idx → Elt F .f32) (x1 : S1x1024x1792.Idx → Elt F .bf16) (x2 : S1x1024x1792.Idx → Elt F .bf16) (x3 : S1x1792x1024.Idx → Elt F .bf16)
    (ha : ¬(k0_cond1 i (word T1) = 1#1)) (h5 : k0_cond5 i (word T1) = 1#1) :
    (runD c i arg4 harg4 arg5 harg5 arg6 harg6 arg7 harg7 arg8 harg8 T0 T1 x0 x1 x2 x3 ha h5).1 = [⟨Rect.unit ![0, 0] S512x1024.size inb_S512x1024_S512x1024_0_0, k0_pay4⟩] := by
  unfold runD; dsimp only; unfold runD.sl.HO4_1
  rfl

end Cert.Ex

end
-- ==== Proof.ExTab.lean ====
/-
The tables the experts' pipeline runs at, any that name experts 0 to 7 and at least one tile, and what a point of the grid does at them.
-/
module

public import proofs.«01_k».proof.Proof.ExRun
public import Idealize.ShloMosaic.Lib.Pointwise.Index

@[expose] public section

set_option maxRecDepth 16384
set_option Elab.async false

noncomputable section

namespace Cert.Ex

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The one index of the number of tiles, and the index of a tile. -/
abbrev at0 : S1.Idx := ix1 0
abbrev atTile (k : Fin 90) : S90.Idx := ix1 k

/-- The tables: an expert for every tile, and the number of tiles in use. -/
structure Tabs where
  te : S90.Idx → BitVec 32
  nt : S1.Idx → BitVec 32
  hte : ∀ x, (te x).toNat < 8
  hnt : 1 ≤ (nt at0).toInt

theorem S1_eq (x : S1.Idx) : x = at0 := by
  funext a
  match a with
  | ⟨0, h⟩ => exact Subsingleton.elim (α := Fin 1) (x ⟨0, h⟩) _

variable (ch : Tabs)

/-- The number of tiles in use. -/
def ntN : ℕ := (ch.nt at0).toNat

theorem nt_lt : ntN ch < 2 ^ 31 := by
  have h := ch.hnt
  unfold ntN
  rw [BitVec.toInt_eq_toNat_cond] at h
  split at h <;> omega

theorem nt_pos : 1 ≤ ntN ch := by
  have h := ch.hnt
  have h2 := nt_lt ch
  unfold ntN at h2 ⊢
  rw [BitVec.toInt_eq_toNat_of_lt (by omega)] at h
  omega

theorem slt_iff (k : ℕ) (hk : k < 90) (v : BitVec 32) (hv : v.toNat < 2 ^ 31) : (BitVec.ofNat 32 k).slt v = decide (k < v.toNat) := by
  have h1 : (BitVec.ofNat 32 k).toNat = k := by rw [BitVec.toNat_ofNat]; omega
  unfold BitVec.slt
  rw [BitVec.toInt_eq_toNat_of_lt (by omega), BitVec.toInt_eq_toNat_of_lt (by omega), h1]
  exact decide_eq_decide.mpr (by omega)

theorem i0_lt (i : grid0.Coords) : (i 0).val < 90 := (i 0).isLt
theorem i1_lt (i : grid0.Coords) : (i 1).val < 2 := (i 1).isLt

/-- A tile is computed when it is one of those in use. -/
theorem active_iff (i : grid0.Coords) : k0_cond1 i (ch.nt at0) = 1#1 ↔ (i 0).val < ntN ch := by
  unfold k0_cond1
  simp only [Scalar.cmpi, IntOp.cmpi, Scalar.extui]
  rw [slt_iff _ (i0_lt i) _ (nt_lt ch)]
  show _ ↔ (i 0).val < (ch.nt at0).toNat
  by_cases h : (i 0).val < (ch.nt at0).toNat <;> simp [h]

theorem zero_iff (i : grid0.Coords) : k0_cond5 i (ch.nt at0) = 1#1 ↔ ¬((i 0).val < ntN ch) ∧ (i 1).val = 1 := by
  unfold k0_cond5
  simp only [Scalar.cmpi, IntOp.cmpi, Scalar.extui, Scalar.xori, Scalar.andi, IntOp.xori, IntOp.andi]
  rw [slt_iff _ (i0_lt i) _ (nt_lt ch)]
  have h1 : (BitVec.ofNat 32 (i 1).val == 1#32) = decide ((i 1).val = 1) := (by decide : ∀ j : Fin 2, (BitVec.ofNat 32 j.val == 1#32) = decide (j.val = 1)) (i 1)
  rw [h1]
  show _ ↔ ¬ (i 0).val < (ch.nt at0).toNat ∧ _
  by_cases h : (i 0).val < (ch.nt at0).toNat <;> by_cases h' : (i 1).val = 1 <;> simp [h, h']

theorem first_iff (i : grid0.Coords) : firstPass i = 1#1 ↔ (i 1).val = 0 :=
  (by decide : ∀ j : Fin 2, Scalar.cmpi .ne (Scalar.extui (Scalar.cmpi .eq (BitVec.ofNat 32 j.val) 0#32)) 0#32 = 1#1 ↔ j.val = 0) (i 1)
theorem later_iff (i : grid0.Coords) : laterPass i = 1#1 ↔ (i 1).val = 1 :=
  (by decide : ∀ j : Fin 2, Scalar.cmpi .ne (Scalar.extui (Scalar.cmpi .sgt (BitVec.ofNat 32 j.val) 0#32)) 0#32 = 1#1 ↔ j.val = 1) (i 1)
theorem last_iff (i : grid0.Coords) : k0_cond4 i = 1#1 ↔ (i 1).val = 1 :=
  (by decide : ∀ j : Fin 2, Scalar.cmpi .ne (Scalar.extui (Scalar.cmpi .eq (BitVec.ofNat 32 j.val) 1#32)) 0#32 = 1#1 ↔ j.val = 1) (i 1)

/-- The tables' contents as the pipeline takes them. -/
def pfN : pre0.Contents (Elt F) := fun | ⟨0, _⟩ => ch.te | ⟨1, _⟩ => ch.nt | ⟨_ + 2, h⟩ => absurd h (by simp)

theorem at_nt : (pfN (F := F) ch).at 1 (Rect.unit (s := S1) ![0] S1.size inb_S1_S1_0) numel1_S1 = ch.nt at0 :=
  congrArg ch.nt (S1_eq _)
theorem atD_nt : (pfN (F := F) ch).atD 1 ![0] = ch.nt at0 := by
  show (if h : _ then ch.nt _ else default) = _
  rw [dif_pos (by decide)]
  exact congrArg ch.nt (S1_eq _)
theorem at_te (i : grid0.Coords) : (pfN (F := F) ch).at 0 (Rect.unit (s := S90) (k0_off1 i) S1.size (k0_off1_inb i)) numel1_S1 = ch.te (atTile (i 0)) := by
  refine congrArg ch.te (funext fun a => Fin.ext ?_)
  match a with
  | ⟨0, _⟩ =>
    show k0_off1 i 0 + 1 * _ = (i 0).val
    have h : k0_off1 i 0 = (i 0).val := by
      show (BitVec.ofNat 32 (i 0).val).toNat = _
      rw [BitVec.toNat_ofNat]; have := i0_lt i; omega
    rw [h]; rfl
theorem word_nt : word (F := F) ch.nt = ch.nt at0 := congrArg ch.nt (S1_eq _)

/-- The half of the hidden channels a point's weight blocks hold. -/
def half (i : grid0.Coords) : ℕ := if (i 0).val < ntN ch then (i 1).val else 1

theorem half_lt (i : grid0.Coords) : half ch i < 2 := by unfold half; split; exact i1_lt i; omega

theorem select_half (i : grid0.Coords) : (Scalar.select (Scalar.cmpi .slt (BitVec.ofNat 32 (i 0).val) (ch.nt at0)) (BitVec.ofNat 32 (i 1).val) 1#32).toNat = half ch i := by
  have h1 : (BitVec.ofNat 32 (i 1).val).toNat = (i 1).val := by rw [BitVec.toNat_ofNat]; have := i1_lt i; omega
  have e := slt_iff _ (i0_lt i) _ (nt_lt ch)
  have e' : Scalar.cmpi .slt (BitVec.ofNat 32 (i 0).val) (ch.nt at0) = BitVec.ofBool (decide ((i 0).val < ntN ch)) := congrArg BitVec.ofBool e
  rw [e']
  unfold half
  by_cases h : (i 0).val < ntN ch
  · rw [if_pos h, decide_eq_true h]; exact h1
  · rw [if_neg h, decide_eq_false h]; rfl

/-- The tile of rows a point reads, an active point's own. -/
def rowTile (i : grid0.Coords) : ℕ := min (i 0).val (ntN ch - 1)

theorem minsi_row (i : grid0.Coords) : (Scalar.minsi (BitVec.ofNat 32 (i 0).val) (Scalar.subi (ch.nt at0) 1#32)).toNat = rowTile ch i := by
  have hp := nt_pos ch
  have hl := nt_lt ch
  have hk := i0_lt i
  have h1 : (BitVec.ofNat 32 (i 0).val).toNat = (i 0).val := by rw [BitVec.toNat_ofNat]; omega
  have h2 : (ch.nt at0 - 1#32).toNat = ntN ch - 1 := by
    unfold ntN at *
    rw [BitVec.toNat_sub]
    simp only [BitVec.toNat_ofNat]
    omega
  have e := slt_iff _ hk (ch.nt at0 - 1#32) (by omega)
  rw [h2] at e
  show (if (BitVec.ofNat 32 (i 0).val).slt (ch.nt at0 - 1#32) = true then BitVec.ofNat 32 (i 0).val else ch.nt at0 - 1#32).toNat = _
  unfold rowTile
  by_cases h : (i 0).val < ntN ch - 1
  · rw [if_pos (e.trans (decide_eq_true h)), h1]; omega
  · rw [if_neg (by rw [e, decide_eq_false h]; exact Bool.false_ne_true), h2]; omega

theorem index0 (i : grid0.Coords) : cc0_transform_0 inb_S1_S1_0 numel1_S1 (pfN (F := F) ch) i = ![rowTile ch i, 0] := by
  show ![(Scalar.minsi (BitVec.ofNat 32 (i 0).val) (Scalar.subi ((pfN (F := F) ch).at 1 (Rect.unit (s := S1) ![0] S1.size inb_S1_S1_0) numel1_S1) 1#32)).toNat, (0#32).toNat] = _
  rw [at_nt, minsi_row]; rfl
theorem index1 (i : grid0.Coords) : cc0_transform_1 k0_off1_inb numel1_S1 inb_S1_S1_0 (pfN (F := F) ch) i = ![(ch.te (atTile (i 0))).toNat, 0, half ch i] := by
  show ![((pfN (F := F) ch).at 0 (Rect.unit (s := S90) (k0_off1 i) S1.size (k0_off1_inb i)) numel1_S1).toNat, (0#32).toNat, (Scalar.select (Scalar.cmpi .slt (BitVec.ofNat 32 (i 0).val) ((pfN (F := F) ch).at 1 (Rect.unit (s := S1) ![0] S1.size inb_S1_S1_0) numel1_S1)) (BitVec.ofNat 32 (i 1).val) 1#32).toNat] = _
  rw [at_nt, at_te, select_half]; rfl
theorem index2 (i : grid0.Coords) : cc0_transform_2 k0_off1_inb numel1_S1 inb_S1_S1_0 (pfN (F := F) ch) i = ![(ch.te (atTile (i 0))).toNat, 0, half ch i] := index1 ch i
theorem index3 (i : grid0.Coords) : cc0_transform_3 k0_off1_inb numel1_S1 inb_S1_S1_0 (pfN (F := F) ch) i = ![(ch.te (atTile (i 0))).toNat, half ch i, 0] := by
  show ![((pfN (F := F) ch).at 0 (Rect.unit (s := S90) (k0_off1 i) S1.size (k0_off1_inb i)) numel1_S1).toNat, (Scalar.select (Scalar.cmpi .slt (BitVec.ofNat 32 (i 0).val) ((pfN (F := F) ch).at 1 (Rect.unit (s := S1) ![0] S1.size inb_S1_S1_0) numel1_S1)) (BitVec.ofNat 32 (i 1).val) 1#32).toNat, (0#32).toNat] = _
  rw [at_nt, at_te, select_half]; rfl

/-- At the tables every block lies inside its array. -/
theorem ok_pfN : ok0 (pfN (F := F) ch) := by
  refine ⟨fun i => ⟨?_, .inl rfl⟩, fun i => ⟨?_, .inr (Affine.block_words_dvd (s := S8x1024x3584) (p := EltTy.packing .bf16) (by decide) (by decide))⟩,
    fun i => ⟨?_, .inr (Affine.block_words_dvd (s := S8x1024x3584) (p := EltTy.packing .bf16) (by decide) (by decide))⟩,
    fun i => ⟨?_, .inr (Affine.block_words_dvd (s := S8x3584x1024) (p := EltTy.packing .bf16) (by decide) (by decide))⟩⟩
  · rw [index0]
    have hk := i0_lt i
    intro a
    match a with
    | ⟨0, _⟩ => show (rowTile ch i + 1) * 512 ≤ 46080; unfold rowTile; omega
    | ⟨1, _⟩ => show (0 + 1) * 1024 ≤ 1024; omega
  · rw [index1]
    have h1 := ch.hte (atTile (i 0)); have h2 := half_lt ch i
    intro a
    match a with
    | ⟨0, _⟩ => show ((ch.te (atTile (i 0))).toNat + 1) * 1 ≤ 8; omega
    | ⟨1, _⟩ => show (0 + 1) * 1024 ≤ 1024; omega
    | ⟨2, _⟩ => show (half ch i + 1) * 1792 ≤ 3584; omega
  · rw [index2]
    have h1 := ch.hte (atTile (i 0)); have h2 := half_lt ch i
    intro a
    match a with
    | ⟨0, _⟩ => show ((ch.te (atTile (i 0))).toNat + 1) * 1 ≤ 8; omega
    | ⟨1, _⟩ => show (0 + 1) * 1024 ≤ 1024; omega
    | ⟨2, _⟩ => show (half ch i + 1) * 1792 ≤ 3584; omega
  · rw [index3]
    have h1 := ch.hte (atTile (i 0)); have h2 := half_lt ch i
    intro a
    match a with
    | ⟨0, _⟩ => show ((ch.te (atTile (i 0))).toNat + 1) * 1 ≤ 8; omega
    | ⟨1, _⟩ => show (half ch i + 1) * 1792 ≤ 3584; omega
    | ⟨2, _⟩ => show (0 + 1) * 1024 ≤ 1024; omega

/-- The pipeline at the tables. -/
def adm : (pcfg0 (F := F)).Adm := ⟨pfN ch, ok_pfN ch⟩
abbrev cfgA : Pipeline.Cfg sig Λ₀ := cfg0 (F := F) (adm ch)
abbrev pcs : Fin 1 → Pipeline.Cfg sig Λ₀ := Pipeline.pin (pcfgs (F := F)) fun _ => adm ch

/-- A point's coordinates: its tile and its half. -/
abbrev crd (t : Fin grid0.N) : grid0.Coords := grid0.coords t

theorem N_eq : grid0.N = 180 := N_0
theorem crd0 (t : Fin grid0.N) : (crd t 0).val = t.val / 2 := by
  have h : t.val < 180 := lt_of_lt_of_eq t.isLt N_0
  show t.val / 2 % 90 = t.val / 2
  omega
theorem crd1 (t : Fin grid0.N) : (crd t 1).val = t.val % 2 := by
  show t.val / 1 % 2 = t.val % 2
  omega

/-- The output's block is written back at a tile's second point. -/
theorem flush4 (t : Fin grid0.N) : ((cfgA (F := F) ch).win (4 : Fin 5)).flush t = decide (t.val % 2 = 1) := by
  have h : t.val < 180 := lt_of_lt_of_eq t.isLt N_0
  rw [Pipeline.Window.flush_eq_flushF]
  show (true && (decide (t.val + 1 = grid0.N) || decide (∃ h : t.val + 1 < grid0.N, ∃ a, cc0_transform_4 (crd ⟨t.val + 1, h⟩) a ≠ cc0_transform_4 (crd t) a))) = _
  have hx : ∀ u : Fin grid0.N, cc0_transform_4 (crd u) = ![u.val / 2, 0] := fun u => by
    have hu : u.val < 180 := lt_of_lt_of_eq u.isLt N_0
    show ![(BitVec.ofNat 32 (crd u 0).val).toNat, (0#32).toNat] = _
    rw [crd0, BitVec.toNat_ofNat, Nat.mod_eq_of_lt (by omega)]; rfl
  simp only [hx, N_eq]
  rw [Bool.true_and, ← Bool.decide_or]
  refine decide_eq_decide.mpr ⟨?_, fun h1 => ?_⟩
  · rintro (h1 | ⟨h1, a, ha⟩)
    · omega
    · match a, ha with
      | ⟨0, _⟩, ha => have ha : (t.val + 1) / 2 ≠ t.val / 2 := ha; omega
      | ⟨1, _⟩, ha => exact absurd rfl ha
  · by_cases h2 : t.val + 1 = 180
    · exact .inl h2
    · exact .inr ⟨by omega, 0, by show (t.val + 1) / 2 ≠ t.val / 2; omega⟩

/-- The output is left alone at a tile's first point. -/
theorem idle4 (t : Fin grid0.N) : (cfgA (F := F) ch).idle (4 : Fin 5) (crd t) = decide (t.val % 2 = 0) := by
  show (!(k0_cond1 (crd t) ((pfN (F := F) ch).atD 1 ![0]) == 1#1 && k0_cond4 (crd t) == 1#1) && !(k0_cond5 (crd t) ((pfN (F := F) ch).atD 1 ![0]) == 1#1)) = _
  rw [atD_nt]
  have h1 := active_iff ch (crd t)
  have h4 := last_iff (crd t)
  have h5 := zero_iff ch (crd t)
  rw [crd1] at h4 h5
  have e1 : (k0_cond1 (crd t) (ch.nt at0) == 1#1) = decide ((crd t 0).val < ntN ch) := by rw [Bool.eq_iff_iff, beq_iff_eq, decide_eq_true_eq]; exact h1
  have e4 : (k0_cond4 (crd t) == 1#1) = decide (t.val % 2 = 1) := by rw [Bool.eq_iff_iff, beq_iff_eq, decide_eq_true_eq]; exact h4
  have e5 : (k0_cond5 (crd t) (ch.nt at0) == 1#1) = decide (¬((crd t 0).val < ntN ch) ∧ t.val % 2 = 1) := by rw [Bool.eq_iff_iff, beq_iff_eq, decide_eq_true_eq]; exact h5
  rw [e1, e4, e5]
  rcases Nat.mod_two_eq_zero_or_one t.val with h | h <;> by_cases h' : (crd t 0).val < ntN ch <;> simp [h, h']

/-- The output's buffer holds nothing kept from earlier points, at every point. -/
theorem fresh4 (t : Fin grid0.N) : (cfgA (F := F) ch).fresh (4 : Fin 5) t.val = true :=
  Pipeline.Cfg.fresh_tab (cfgA ch) (4 : Fin 5) (fun _ => true) rfl (fun t => by
    rw [show ((cfgA (F := F) ch).win (4 : Fin 5)).flush t = decide (t.val % 2 = 1) from flush4 ch t,
      show (cfgA (F := F) ch).idle (4 : Fin 5) ((cfgA (F := F) ch).grid.coords t) = decide (t.val % 2 = 0) from idle4 ch t]
    rcases Nat.mod_two_eq_zero_or_one t.val with h | h <;> simp [h]) t.val (Nat.le_of_lt t.isLt)

end Cert.Ex

end
-- ==== Proof.ExBody.lean ====
/-
The experts' pipeline at its tables: what every point leaves in the output and the accumulator, and the body's obligation at every point.
-/
module

public import proofs.«01_k».proof.Proof.ExStep
public import proofs.«01_k».proof.Proof.ExTab

@[expose] public section

set_option maxRecDepth 16384
set_option Elab.async false

noncomputable section

namespace Cert.Ex

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (ch : Tabs) (m : (ℓ : Loc nD τ sig) → Buf (Elt F) ℓ) (ρ : Dev nD → PrngReg)

/-- The staging buffers of a point. -/
abbrev ms0 (t : Fin grid0.N) : Memref sig .tc .vmem S512x1024 .f32 := spec0_0.stage ((cfgA (F := F) ch).slots t (0 : Fin 5))
abbrev hs0 (t : Fin grid0.N) : (ms0 (F := F) ch t).IsWhole := hstage0_0 (((cfgA (F := F) ch).slots t (0 : Fin 5)).cast nbuf0_0)
abbrev ms1 (t : Fin grid0.N) : Memref sig .tc .vmem S1x1024x1792 .bf16 := spec0_1.stage ((cfgA (F := F) ch).slots t (1 : Fin 5))
abbrev hs1 (t : Fin grid0.N) : (ms1 (F := F) ch t).IsWhole := hstage0_1 (((cfgA (F := F) ch).slots t (1 : Fin 5)).cast nbuf0_1)
abbrev ms2 (t : Fin grid0.N) : Memref sig .tc .vmem S1x1024x1792 .bf16 := spec0_2.stage ((cfgA (F := F) ch).slots t (2 : Fin 5))
abbrev hs2 (t : Fin grid0.N) : (ms2 (F := F) ch t).IsWhole := hstage0_2 (((cfgA (F := F) ch).slots t (2 : Fin 5)).cast nbuf0_2)
abbrev ms3 (t : Fin grid0.N) : Memref sig .tc .vmem S1x1792x1024 .bf16 := spec0_3.stage ((cfgA (F := F) ch).slots t (3 : Fin 5))
abbrev hs3 (t : Fin grid0.N) : (ms3 (F := F) ch t).IsWhole := hstage0_3 (((cfgA (F := F) ch).slots t (3 : Fin 5)).cast nbuf0_3)
abbrev ms4 (t : Fin grid0.N) : Memref sig .tc .vmem S512x1024 .f32 := spec0_4.stage ((cfgA (F := F) ch).slots t (4 : Fin 5))
abbrev hs4 (t : Fin grid0.N) : (ms4 (F := F) ch t).IsWhole := hstage0_4 (((cfgA (F := F) ch).slots t (4 : Fin 5)).cast nbuf0_4)

/-- A window's block at a point, read off its array at launch. -/
def iblk (c : Dev nD) (w : Fin (cfgA (F := F) ch).W) (t : Fin grid0.N) : (((cfgA (F := F) ch).win w).xblock (crd t)).Idx → Elt F ((cfgA (F := F) ch).win w).elt :=
  (((cfgA (F := F) ch).win w).blk t).view.read (Elt F) ((s₀ m ρ).mem (((cfgA (F := F) ch).win w).arr.view.loc (c : Thread nD τ)))

/-- The point before. -/
def before (t : Fin (grid0.N + 1)) : Fin grid0.N := ⟨t.val - 1, by have h := t.isLt; have h2 := N_eq; omega⟩

/-- The partial product of a point, from its blocks. -/
def part (c : Dev nD) (t : Fin grid0.N) : S512x1024.Idx → Elt F .f32 :=
  k0_pay2 (iblk ch m ρ c (0 : Fin 5) t) (iblk ch m ρ c (1 : Fin 5) t) (iblk ch m ρ c (2 : Fin 5) t) (iblk ch m ρ c (3 : Fin 5) t)

/-- A tile's output, at its second point: the two partial products' sum, or zeros beyond the tiles in use. -/
def outAt (c : Dev nD) (t : Fin grid0.N) : S512x1024.Idx → Elt F .f32 :=
  if t.val / 2 < ntN ch then
    k0_pay3 (iblk ch m ρ c (0 : Fin 5) t) (iblk ch m ρ c (1 : Fin 5) t) (iblk ch m ρ c (2 : Fin 5) t) (iblk ch m ρ c (3 : Fin 5) t) (part ch m ρ c (before t.castSucc))
  else k0_pay4

theorem outAt_active (c : Dev nD) (t : Fin grid0.N) (hk : t.val / 2 < ntN ch) : outAt ch m ρ c t
    = k0_pay3 (iblk ch m ρ c (0 : Fin 5) t) (iblk ch m ρ c (1 : Fin 5) t) (iblk ch m ρ c (2 : Fin 5) t) (iblk ch m ρ c (3 : Fin 5) t) (part ch m ρ c (before t.castSucc)) := if_pos hk
theorem outAt_zero (c : Dev nD) (t : Fin grid0.N) (hk : ¬(t.val / 2 < ntN ch)) : outAt ch m ρ c t = k0_pay4 := if_neg hk

/-- Before a point: the accumulator, which at the second point of a tile in use holds the first partial product; and the
    body's halves of the tables. -/
def Phi (c : Dev nD) (t : Fin (grid0.N + 1)) : sProp 𝕄 :=
  iprop((∃ a, ⌜t.val % 2 = 1 → t.val / 2 < ntN ch → a = accOf (part ch m ρ c (before t))⌝ ∗ (scM.view.loc (c : Thread nD τ) ↦{fullShare} a))
    ∗ (tbM0.view.loc (c : Thread nD τ) ↦{fullShare.right} ch.te) ∗ (tbM1.view.loc (c : Thread nD τ) ↦{fullShare.right} ch.nt))

/-- The pipeline's data on a core. -/
def dats (_ : Fin 1) (c : Dev nD) : Dat τ (Elt F) Unit ℕ (UR sig nD τ) ℕ (cfgA (F := F) ch) c where
  A w := (s₀ m ρ).mem (((cfgA (F := F) ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => outAt ch m ρ c t
  Φ t := Phi ch m ρ c t
  q _ := fullShare
  owed _ := 0

theorem after0 (c : Dev nD) (t : Fin (cfgA (F := F) ch).N) : (dats ch m ρ 0 c).after (0 : Fin 5) t = iblk ch m ρ c (0 : Fin 5) t := rfl
theorem after1 (c : Dev nD) (t : Fin (cfgA (F := F) ch).N) : (dats ch m ρ 0 c).after (1 : Fin 5) t = iblk ch m ρ c (1 : Fin 5) t := rfl
theorem after2 (c : Dev nD) (t : Fin (cfgA (F := F) ch).N) : (dats ch m ρ 0 c).after (2 : Fin 5) t = iblk ch m ρ c (2 : Fin 5) t := rfl
theorem after3 (c : Dev nD) (t : Fin (cfgA (F := F) ch).N) : (dats ch m ρ 0 c).after (3 : Fin 5) t = iblk ch m ρ c (3 : Fin 5) t := rfl
theorem after4 (c : Dev nD) (t : Fin (cfgA (F := F) ch).N) : (dats ch m ρ 0 c).after (4 : Fin 5) t = outAt ch m ρ c t := rfl

/-- An input's buffer holds its block when the body runs. -/
theorem before0 (c : Dev nD) (t : Fin (cfgA (F := F) ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA (F := F) ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA (F := F) ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA (F := F) ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The output's buffer holds anything when the body runs. -/
theorem before4 (c : Dev nD) (t : Fin (cfgA (F := F) ch).N) (d) : (dats ch m ρ 0 c).before (4 : Fin 5) t d = d := by
  rw [(dats ch m ρ 0 c).before_out_traj (4 : Fin 5) rfl (fun _ _ => rfl)
    (fun t _ _ hf => by rw [show (cfgA (F := F) ch).fresh (4 : Fin 5) t.val = true from fresh4 ch t] at hf; exact absurd hf (by decide)) t.val t rfl d,
    show (cfgA (F := F) ch).fresh (4 : Fin 5) t.val = true from fresh4 ch t]
  rfl

/-- The body at a point, on its staging buffers. -/
abbrev bodyAt (t : Fin (cfgA (F := F) ch).N) : Prog (TpuEff nD τ sig (Elt F) Λ₀ .tc) PUnit :=
  cc0__experts_kernel (crd t) tbM0 (Memref.isWhole_whole _) tbM1 (Memref.isWhole_whole _) (ms0 (F := F) ch t) (hs0 ch t) (ms1 (F := F) ch t) (hs1 ch t) (ms2 (F := F) ch t) (hs2 ch t) (ms3 (F := F) ch t) (hs3 ch t) (ms4 (F := F) ch t) (hs4 ch t) scM (Memref.isWhole_whole _)

set_option maxHeartbeats 4000000 in
/-- The body's obligation at the first point of a tile in use. -/
theorem bodyA (c : Dev nD) (t : Fin (cfgA (F := F) ch).N) (hk : (t.val / 2 < ntN ch)) (hp : t.val % 2 = 0) :
      iprop((dats ch m ρ 0 c).Φ t.castSucc ∗ (dats ch m ρ 0 c).owesAt () t.castSucc
        ∗ (∃ d, owns (c : Thread nD τ) (ms0 (F := F) ch t) fullShare ((dats ch m ρ 0 c).before (0 : Fin 5) t d))
        ∗ (∃ d, owns (c : Thread nD τ) (ms1 (F := F) ch t) fullShare ((dats ch m ρ 0 c).before (1 : Fin 5) t d))
        ∗ (∃ d, owns (c : Thread nD τ) (ms2 (F := F) ch t) fullShare ((dats ch m ρ 0 c).before (2 : Fin 5) t d))
        ∗ (∃ d, owns (c : Thread nD τ) (ms3 (F := F) ch t) fullShare ((dats ch m ρ 0 c).before (3 : Fin 5) t d))
        ∗ (∃ d, owns (c : Thread nD τ) (ms4 (F := F) ch t) fullShare ((dats ch m ρ 0 c).before (4 : Fin 5) t d)))
      ⊢ wp frame (wpE (defs₀ (F := F)) Variants.none c none) Set.univ (bodyAt ch t) fun _ =>
          iprop((dats ch m ρ 0 c).Φ t.succ ∗ (dats ch m ρ 0 c).owesAt () t.succ
            ∗ bigSep Finset.univ fun w : Fin (cfgA (F := F) ch).W =>
                match (cfgA (F := F) ch).idle w ((cfgA (F := F) ch).grid.coords t) with
                | true =>
                  match ((cfgA (F := F) ch).win w).flush t with
                  | false => iprop(∃ d, owns (c : Thread nD τ) (((cfgA (F := F) ch).win w).stage ((cfgA (F := F) ch).slots t w)) fullShare ((dats ch m ρ 0 c).before w t d))
                  | true => owns (c : Thread nD τ) (((cfgA (F := F) ch).win w).stage ((cfgA (F := F) ch).slots t w)) fullShare ((dats ch m ρ 0 c).after w t)
                | false => owns (c : Thread nD τ) (((cfgA (F := F) ch).win w).stage ((cfgA (F := F) ch).slots t w)) fullShare ((dats ch m ρ 0 c).after w t)) := by
    rw [bigSep_W0]
    have i4 := idle4 (F := F) ch t
    have f4 := flush4 (F := F) ch t
    have e0 := crd0 t
    have e1 := crd1 t
    have ka : k0_cond1 (crd t) (word (F := F) ch.nt) = 1#1 := by rw [word_nt, active_iff, e0]; exact hk
    have k5 : ¬(k0_cond5 (crd t) (word (F := F) ch.nt) = 1#1) := by rw [word_nt, zero_iff, e0, e1]; exact fun h => h.1 hk
    have kc : firstPass (crd t) = 1#1 := by rw [first_iff, e1]; omega
    have kl : ¬(laterPass (crd t) = 1#1) := by rw [later_iff, e1]; omega
    have k4 : ¬(k0_cond4 (crd t) = 1#1) := by rw [last_iff, e1]; omega
    rw [decide_eq_true hp] at i4
    rw [decide_eq_false (by omega)] at f4
    rewrite [i4]
    simp only [before0, before1, before2, before3, before4, after0, after1, after2, after3, after4, f4]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    unfold Phi
    iintro ⟨⟨⟨%a, %ha, HS⟩, HT0, HT1⟩, Ho, ⟨%d0, H0⟩, ⟨%d1, H1⟩, ⟨%d2, H2⟩, ⟨%d3, H3⟩, ⟨%d4, H4⟩⟩
    have hacc := runA_acc c (crd t) (ms0 (F := F) ch t) (hs0 ch t) (ms1 (F := F) ch t) (hs1 ch t) (ms2 (F := F) ch t) (hs2 ch t) (ms3 (F := F) ch t) (hs3 ch t) (ms4 (F := F) ch t) (hs4 ch t) ch.te ch.nt (iblk ch m ρ c (0 : Fin 5) t) (iblk ch m ρ c (1 : Fin 5) t) (iblk ch m ρ c (2 : Fin 5) t) (iblk ch m ρ c (3 : Fin 5) t) ka kc kl k4 k5
    iapply ((runA c (crd t) (ms0 (F := F) ch t) (hs0 ch t) (ms1 (F := F) ch t) (hs1 ch t) (ms2 (F := F) ch t) (hs2 ch t) (ms3 (F := F) ch t) (hs3 ch t) (ms4 (F := F) ch t) (hs4 ch t) ch.te ch.nt (iblk ch m ρ c (0 : Fin 5) t) (iblk ch m ρ c (1 : Fin 5) t) (iblk ch m ρ c (2 : Fin 5) t) (iblk ch m ρ c (3 : Fin 5) t) ka kc kl k4 k5).2 _ a _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS]; · iexact HS
    iintro ⟨H0, H1, H2, H3, HT0, HT1, H4, HS⟩
    isplitl [HS HT0 HT1]
    · isplitl [HS]
      · iexists _; isplitr; swap
        · iexact HS
        · ipureintro; intro _ _; exact hacc
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    iexists d4; iexact H4

set_option maxHeartbeats 4000000 in
/-- The body's obligation at the second point of a tile in use. -/
theorem bodyB (c : Dev nD) (t : Fin (cfgA (F := F) ch).N) (hk : (t.val / 2 < ntN ch)) (hp : t.val % 2 = 1) :
      iprop((dats ch m ρ 0 c).Φ t.castSucc ∗ (dats ch m ρ 0 c).owesAt () t.castSucc
        ∗ (∃ d, owns (c : Thread nD τ) (ms0 (F := F) ch t) fullShare ((dats ch m ρ 0 c).before (0 : Fin 5) t d))
        ∗ (∃ d, owns (c : Thread nD τ) (ms1 (F := F) ch t) fullShare ((dats ch m ρ 0 c).before (1 : Fin 5) t d))
        ∗ (∃ d, owns (c : Thread nD τ) (ms2 (F := F) ch t) fullShare ((dats ch m ρ 0 c).before (2 : Fin 5) t d))
        ∗ (∃ d, owns (c : Thread nD τ) (ms3 (F := F) ch t) fullShare ((dats ch m ρ 0 c).before (3 : Fin 5) t d))
        ∗ (∃ d, owns (c : Thread nD τ) (ms4 (F := F) ch t) fullShare ((dats ch m ρ 0 c).before (4 : Fin 5) t d)))
      ⊢ wp frame (wpE (defs₀ (F := F)) Variants.none c none) Set.univ (bodyAt ch t) fun _ =>
          iprop((dats ch m ρ 0 c).Φ t.succ ∗ (dats ch m ρ 0 c).owesAt () t.succ
            ∗ bigSep Finset.univ fun w : Fin (cfgA (F := F) ch).W =>
                match (cfgA (F := F) ch).idle w ((cfgA (F := F) ch).grid.coords t) with
                | true =>
                  match ((cfgA (F := F) ch).win w).flush t with
                  | false => iprop(∃ d, owns (c : Thread nD τ) (((cfgA (F := F) ch).win w).stage ((cfgA (F := F) ch).slots t w)) fullShare ((dats ch m ρ 0 c).before w t d))
                  | true => owns (c : Thread nD τ) (((cfgA (F := F) ch).win w).stage ((cfgA (F := F) ch).slots t w)) fullShare ((dats ch m ρ 0 c).after w t)
                | false => owns (c : Thread nD τ) (((cfgA (F := F) ch).win w).stage ((cfgA (F := F) ch).slots t w)) fullShare ((dats ch m ρ 0 c).after w t)) := by
    rw [bigSep_W0]
    have i4 := idle4 (F := F) ch t
    have f4 := flush4 (F := F) ch t
    have e0 := crd0 t
    have e1 := crd1 t
    have ka : k0_cond1 (crd t) (word (F := F) ch.nt) = 1#1 := by rw [word_nt, active_iff, e0]; exact hk
    have k5 : ¬(k0_cond5 (crd t) (word (F := F) ch.nt) = 1#1) := by rw [word_nt, zero_iff, e0, e1]; exact fun h => h.1 hk
    have kc : ¬(firstPass (crd t) = 1#1) := by rw [first_iff, e1]; omega
    have kl : laterPass (crd t) = 1#1 := by rw [later_iff, e1]; omega
    have k4 : k0_cond4 (crd t) = 1#1 := by rw [last_iff, e1]; omega
    rw [decide_eq_false (by omega)] at i4
    rw [decide_eq_true hp] at f4
    rewrite [i4]
    simp only [before0, before1, before2, before3, before4, after0, after1, after2, after3, after4, f4]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    unfold Phi
    iintro ⟨⟨⟨%a, %ha, HS⟩, HT0, HT1⟩, Ho, ⟨%d0, H0⟩, ⟨%d1, H1⟩, ⟨%d2, H2⟩, ⟨%d3, H3⟩, ⟨%d4, H4⟩⟩
    obtain rfl : a = accOf (part ch m ρ c (before t.castSucc)) := ha (by show t.val % 2 = 1; exact hp) (by show t.val / 2 < ntN ch; exact hk)
    have hout := runB_out c (crd t) (ms0 (F := F) ch t) (hs0 ch t) (ms1 (F := F) ch t) (hs1 ch t) (ms2 (F := F) ch t) (hs2 ch t) (ms3 (F := F) ch t) (hs3 ch t) (ms4 (F := F) ch t) (hs4 ch t) ch.te ch.nt (iblk ch m ρ c (0 : Fin 5) t) (iblk ch m ρ c (1 : Fin 5) t) (iblk ch m ρ c (2 : Fin 5) t) (iblk ch m ρ c (3 : Fin 5) t) (part ch m ρ c (before t.castSucc)) ka kc kl k4 k5
    iapply ((runB c (crd t) (ms0 (F := F) ch t) (hs0 ch t) (ms1 (F := F) ch t) (hs1 ch t) (ms2 (F := F) ch t) (hs2 ch t) (ms3 (F := F) ch t) (hs3 ch t) (ms4 (F := F) ch t) (hs4 ch t) ch.te ch.nt (iblk ch m ρ c (0 : Fin 5) t) (iblk ch m ρ c (1 : Fin 5) t) (iblk ch m ρ c (2 : Fin 5) t) (iblk ch m ρ c (3 : Fin 5) t) (accOf (part ch m ρ c (before t.castSucc))) ka kc kl k4 k5).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS]; · iexact HS
    iintro ⟨H0, H1, H2, H3, HT0, HT1, ⟨%e4, H4⟩, HS⟩
    isplitl [HS HT0 HT1]
    · isplitl [HS]
      · iexists _; isplitr; swap
        · iexact HS
        · ipureintro; intro h1 _; exact absurd h1 (by show ¬ (t.val + 1) % 2 = 1; omega)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    rewrite [hout]
    unfold owns; iexists _; isplitr; swap
    · iexact H4
    · ipureintro; rw [View.read_writes_full]; exact (outAt_active ch m ρ c t hk).symm

set_option maxHeartbeats 4000000 in
/-- The body's obligation at the first point of a tile beyond those in use. -/
theorem bodyC (c : Dev nD) (t : Fin (cfgA (F := F) ch).N) (hk : ¬(t.val / 2 < ntN ch)) (hp : t.val % 2 = 0) :
      iprop((dats ch m ρ 0 c).Φ t.castSucc ∗ (dats ch m ρ 0 c).owesAt () t.castSucc
        ∗ (∃ d, owns (c : Thread nD τ) (ms0 (F := F) ch t) fullShare ((dats ch m ρ 0 c).before (0 : Fin 5) t d))
        ∗ (∃ d, owns (c : Thread nD τ) (ms1 (F := F) ch t) fullShare ((dats ch m ρ 0 c).before (1 : Fin 5) t d))
        ∗ (∃ d, owns (c : Thread nD τ) (ms2 (F := F) ch t) fullShare ((dats ch m ρ 0 c).before (2 : Fin 5) t d))
        ∗ (∃ d, owns (c : Thread nD τ) (ms3 (F := F) ch t) fullShare ((dats ch m ρ 0 c).before (3 : Fin 5) t d))
        ∗ (∃ d, owns (c : Thread nD τ) (ms4 (F := F) ch t) fullShare ((dats ch m ρ 0 c).before (4 : Fin 5) t d)))
      ⊢ wp frame (wpE (defs₀ (F := F)) Variants.none c none) Set.univ (bodyAt ch t) fun _ =>
          iprop((dats ch m ρ 0 c).Φ t.succ ∗ (dats ch m ρ 0 c).owesAt () t.succ
            ∗ bigSep Finset.univ fun w : Fin (cfgA (F := F) ch).W =>
                match (cfgA (F := F) ch).idle w ((cfgA (F := F) ch).grid.coords t) with
                | true =>
                  match ((cfgA (F := F) ch).win w).flush t with
                  | false => iprop(∃ d, owns (c : Thread nD τ) (((cfgA (F := F) ch).win w).stage ((cfgA (F := F) ch).slots t w)) fullShare ((dats ch m ρ 0 c).before w t d))
                  | true => owns (c : Thread nD τ) (((cfgA (F := F) ch).win w).stage ((cfgA (F := F) ch).slots t w)) fullShare ((dats ch m ρ 0 c).after w t)
                | false => owns (c : Thread nD τ) (((cfgA (F := F) ch).win w).stage ((cfgA (F := F) ch).slots t w)) fullShare ((dats ch m ρ 0 c).after w t)) := by
    rw [bigSep_W0]
    have i4 := idle4 (F := F) ch t
    have f4 := flush4 (F := F) ch t
    have e0 := crd0 t
    have e1 := crd1 t
    have ka : ¬(k0_cond1 (crd t) (word (F := F) ch.nt) = 1#1) := by rw [word_nt, active_iff, e0]; exact hk
    have k5 : ¬(k0_cond5 (crd t) (word (F := F) ch.nt) = 1#1) := by rw [word_nt, zero_iff, e0, e1]; exact fun h => by have := h.2; omega
    rw [decide_eq_true hp] at i4
    rw [decide_eq_false (by omega)] at f4
    rewrite [i4]
    simp only [before0, before1, before2, before3, before4, after0, after1, after2, after3, after4, f4]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    unfold Phi
    iintro ⟨⟨⟨%a, %ha, HS⟩, HT0, HT1⟩, Ho, ⟨%d0, H0⟩, ⟨%d1, H1⟩, ⟨%d2, H2⟩, ⟨%d3, H3⟩, ⟨%d4, H4⟩⟩
    iapply (runC c (crd t) (ms0 (F := F) ch t) (hs0 ch t) (ms1 (F := F) ch t) (hs1 ch t) (ms2 (F := F) ch t) (hs2 ch t) (ms3 (F := F) ch t) (hs3 ch t) (ms4 (F := F) ch t) (hs4 ch t) ch.te ch.nt (iblk ch m ρ c (0 : Fin 5) t) (iblk ch m ρ c (1 : Fin 5) t) (iblk ch m ρ c (2 : Fin 5) t) (iblk ch m ρ c (3 : Fin 5) t) ka k5 _ a _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS]; · iexact HS
    iintro ⟨H0, H1, H2, H3, HT0, HT1, H4, HS⟩
    isplitl [HS HT0 HT1]
    · isplitl [HS]
      · iexists _; isplitr; swap
        · iexact HS
        · ipureintro; intro _ h2; exact absurd h2 (by show ¬ (t.val + 1) / 2 < ntN ch; omega)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    iexists d4; iexact H4

set_option maxHeartbeats 4000000 in
/-- The body's obligation at the second point of a tile beyond those in use. -/
theorem bodyD (c : Dev nD) (t : Fin (cfgA (F := F) ch).N) (hk : ¬(t.val / 2 < ntN ch)) (hp : t.val % 2 = 1) :
      iprop((dats ch m ρ 0 c).Φ t.castSucc ∗ (dats ch m ρ 0 c).owesAt () t.castSucc
        ∗ (∃ d, owns (c : Thread nD τ) (ms0 (F := F) ch t) fullShare ((dats ch m ρ 0 c).before (0 : Fin 5) t d))
        ∗ (∃ d, owns (c : Thread nD τ) (ms1 (F := F) ch t) fullShare ((dats ch m ρ 0 c).before (1 : Fin 5) t d))
        ∗ (∃ d, owns (c : Thread nD τ) (ms2 (F := F) ch t) fullShare ((dats ch m ρ 0 c).before (2 : Fin 5) t d))
        ∗ (∃ d, owns (c : Thread nD τ) (ms3 (F := F) ch t) fullShare ((dats ch m ρ 0 c).before (3 : Fin 5) t d))
        ∗ (∃ d, owns (c : Thread nD τ) (ms4 (F := F) ch t) fullShare ((dats ch m ρ 0 c).before (4 : Fin 5) t d)))
      ⊢ wp frame (wpE (defs₀ (F := F)) Variants.none c none) Set.univ (bodyAt ch t) fun _ =>
          iprop((dats ch m ρ 0 c).Φ t.succ ∗ (dats ch m ρ 0 c).owesAt () t.succ
            ∗ bigSep Finset.univ fun w : Fin (cfgA (F := F) ch).W =>
                match (cfgA (F := F) ch).idle w ((cfgA (F := F) ch).grid.coords t) with
                | true =>
                  match ((cfgA (F := F) ch).win w).flush t with
                  | false => iprop(∃ d, owns (c : Thread nD τ) (((cfgA (F := F) ch).win w).stage ((cfgA (F := F) ch).slots t w)) fullShare ((dats ch m ρ 0 c).before w t d))
                  | true => owns (c : Thread nD τ) (((cfgA (F := F) ch).win w).stage ((cfgA (F := F) ch).slots t w)) fullShare ((dats ch m ρ 0 c).after w t)
                | false => owns (c : Thread nD τ) (((cfgA (F := F) ch).win w).stage ((cfgA (F := F) ch).slots t w)) fullShare ((dats ch m ρ 0 c).after w t)) := by
    rw [bigSep_W0]
    have i4 := idle4 (F := F) ch t
    have f4 := flush4 (F := F) ch t
    have e0 := crd0 t
    have e1 := crd1 t
    have ka : ¬(k0_cond1 (crd t) (word (F := F) ch.nt) = 1#1) := by rw [word_nt, active_iff, e0]; exact hk
    have k5 : k0_cond5 (crd t) (word (F := F) ch.nt) = 1#1 := by rw [word_nt, zero_iff, e0, e1]; exact ⟨hk, hp⟩
    rw [decide_eq_false (by omega)] at i4
    rw [decide_eq_true hp] at f4
    rewrite [i4]
    simp only [before0, before1, before2, before3, before4, after0, after1, after2, after3, after4, f4]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    unfold Phi
    iintro ⟨⟨⟨%a, %ha, HS⟩, HT0, HT1⟩, Ho, ⟨%d0, H0⟩, ⟨%d1, H1⟩, ⟨%d2, H2⟩, ⟨%d3, H3⟩, ⟨%d4, H4⟩⟩
    have hout := runD_out c (crd t) (ms0 (F := F) ch t) (hs0 ch t) (ms1 (F := F) ch t) (hs1 ch t) (ms2 (F := F) ch t) (hs2 ch t) (ms3 (F := F) ch t) (hs3 ch t) (ms4 (F := F) ch t) (hs4 ch t) ch.te ch.nt (iblk ch m ρ c (0 : Fin 5) t) (iblk ch m ρ c (1 : Fin 5) t) (iblk ch m ρ c (2 : Fin 5) t) (iblk ch m ρ c (3 : Fin 5) t) ka k5
    iapply ((runD c (crd t) (ms0 (F := F) ch t) (hs0 ch t) (ms1 (F := F) ch t) (hs1 ch t) (ms2 (F := F) ch t) (hs2 ch t) (ms3 (F := F) ch t) (hs3 ch t) (ms4 (F := F) ch t) (hs4 ch t) ch.te ch.nt (iblk ch m ρ c (0 : Fin 5) t) (iblk ch m ρ c (1 : Fin 5) t) (iblk ch m ρ c (2 : Fin 5) t) (iblk ch m ρ c (3 : Fin 5) t) ka k5).2 a _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS]; · iexact HS
    iintro ⟨H0, H1, H2, H3, HT0, HT1, ⟨%e4, H4⟩, HS⟩
    isplitl [HS HT0 HT1]
    · isplitl [HS]
      · iexists _; isplitr; swap
        · iexact HS
        · ipureintro; intro h1 _; exact absurd h1 (by show ¬ (t.val + 1) % 2 = 1; omega)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    rewrite [hout]
    unfold owns; iexists _; isplitr; swap
    · iexact H4
    · ipureintro; rw [View.read_writes_full]; exact (outAt_zero ch m ρ c t hk).symm

/-- The body's obligation at every point. -/
theorem body_obligation (c : Dev nD) : BodyObligation (dats ch m ρ 0 c) (defs₀ (F := F)) Variants.none () Set.univ := fun t => by
  rw [bigSep_W0]
  rcases Nat.mod_two_eq_zero_or_one t.val with hp | hp <;> by_cases hk : t.val / 2 < ntN ch
  · exact bodyA ch m ρ c t hk hp
  · exact bodyC ch m ρ c t hk hp
  · exact bodyB ch m ρ c t hk hp
  · exact bodyD ch m ρ c t hk hp

end Cert.Ex

end
-- ==== Proof.ExLaunch.lean ====
/-
The experts' call from its launch: at tables that name experts 0 to 7 and at least one tile, every run ends, the arguments unchanged and the
output as the points left it.
-/
module

public import proofs.«01_k».proof.Proof.ExBody

@[expose] public section

set_option maxRecDepth 16384
set_option Elab.async false

noncomputable section

namespace Cert.Ex

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rounds library's embedding. -/
abbrev EP : Emb (UR sig nD τ) 𝕄 := emb₁

variable (ch : Tabs) (m : (ℓ : Loc nD τ sig) → Buf (Elt F) ℓ) (ρ : Dev nD → PrngReg)

/-- The launch memory's tables are the given ones. -/
def Pinned (m : (ℓ : Loc nD τ sig) → Buf (Elt F) ℓ) : Prop :=
  (∀ c : Dev nD, m ((c : Thread nD τ).loc main_arg0) = ch.te) ∧ (∀ c : Dev nD, m ((c : Thread nD τ).loc main_arg1) = ch.nt)

/-- The launch's element of the rounds library. -/
def u₀ : UR sig nD τ :=
  initOf (Pipeline.cells (pcs (F := F) ch) ((launch0 (F := F)).cellOf_inj fun _ => adm ch))
    (Pipeline.launchToks (pcs (F := F) ch) ((launch0 (F := F)).cellOf_inj fun _ => adm ch))

theorem share_eq (c : Dev nD) (w : Fin (cfgA (F := F) ch).W) : (dats ch m ρ 0 c).share w = fullShare := by unfold Dat.share; split <;> rfl

/-- The tables held, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point. -/
theorem phi_first (c : Dev nD) :
    iprop(BI.emp ∗ Pipeline.prefHeld pre0 c (fun _ => fullShare.right) (adm (F := F) ch).1 ∗ Pipeline.scopedRest spec0 c) ⊢ (dats ch m ρ 0 c).Φ 0 := by
  rw [tables_eq, scopedRest0_eq, show (dats ch m ρ 0 c).Φ 0 = Phi ch m ρ c 0 from rfl]
  unfold Phi
  iintro ⟨-, ⟨HT0, HT1⟩, ⟨%a, HS⟩⟩
  isplitl [HS]
  · iexists a; isplitr; swap
    · iexact HS
    · ipureintro; intro h; exact absurd h (by show ¬ 0 % 2 = 1; decide)
  isplitl [HT0]
  · iexact HT0
  iexact HT1

/-- After the last point the accumulator's buffer is given back. -/
theorem phi_last (c : Dev nD) : (dats ch m ρ 0 c).Φ (Fin.last (cfgA (F := F) ch).N) ⊢ iprop(BI.emp ∗ Pipeline.scopedRest spec0 c) := by
  rw [scopedRest0_eq, show (dats ch m ρ 0 c).Φ (Fin.last (cfgA (F := F) ch).N) = Phi ch m ρ c (Fin.last _) from rfl]
  unfold Phi
  iintro ⟨⟨%a, -, HS⟩, -, -⟩
  isplitr; · iempintro
  iexists a; iexact HS

/-- What a run leaves: every array at what the pipeline's data say, the tables as they were. -/
def QC : PUnit × MemSt nD τ sig (Elt F) → Prop := fun r =>
  ∀ c : Dev nD, (∀ w : Fin (cfgA (F := F) ch).W, r.2.mem (((cfgA (F := F) ch).win w).arr.view.loc (c : Thread nD τ)) = (dats ch m ρ 0 c).arrAt w (cfgA (F := F) ch).N)
    ∧ ∀ j, r.2.mem ((c : Thread nD τ).loc (pre0.ref j)) = (adm (F := F) ch).1 j

theorem tables_pre (hp : Pinned ch m) (c : Dev nD) (j : Fin 2) : m ((c : Thread nD τ).loc (pre0.ref j)) = (adm (F := F) ch).1 j := by
  fin_cases j
  · exact hp.1 c
  · exact hp.2 c

set_option backward.isDefEq.respectTransparency.types false in
set_option maxHeartbeats 4000000 in
/-- From a memory with the given tables every run ends, in such a state and with every semaphore at zero. -/
theorem run_quiescent (hp : Pinned ch m) : θ_run (defs (F := F)) (onTc (τ := τ) (main (F := F))) (s₀ m ρ) (fun r => QC ch m ρ r ∧ r.2.sem = fun _ => 0) :=
  Pipeline.θ_run_region_noSem_pf_quiescent pcfgs (fun _ => adm ch) (dats ch m ρ) () ((launch0 (F := F)).cellOf_inj fun _ => adm ch) (0 : Fin 1)
    (launch0 (F := F)).win.to₀ (launch0 (F := F)).pre EP defs₀ Variants.none m ρ main
    (hbody := fun c => (body_obligation ch m ρ c).loose) (hne := (launch0 (F := F)).block_pos)
    (harr := (launch0 (F := F)).arr_whole) (hstage := (launch0 (F := F)).stage_whole) (howed := fun _ _ => rfl)
    (u₀ := u₀ (F := F) ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := F)).win.arr_inj c (launch0 (F := F)).arr_whole
      (share_eq ch m ρ c) _ _ fun _ => rfl)
    (hpf := tables_pre ch m hp)
    (X := fun _ => iprop(emp)) (Y := fun _ => iprop(emp)) (Z := fun _ => iprop(emp))
    (hX := fun c => by rw [unscopedRestP0_eq]; iintro -; isplitr <;> iempintro)
    (hin := phi_first ch m ρ)
    (hout := phi_last ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every run ends with the arguments as they were and every semaphore at zero, and with the output as the data say. -/
theorem run_main (hp : Pinned ch m) :
    θ_run (defs (F := F)) (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)
      ∧ ∀ c : Dev nD, r.2.mem (((cfgA (F := F) ch).win (4 : Fin 5)).arr.view.loc (c : Thread nD τ)) = (dats ch m ρ 0 c).arrAt (4 : Fin 5) (cfgA (F := F) ch).N) :=
  (θ_run defs _ _).mono (fun _ h => ⟨⟨fun c => ⟨((h.1 c).2 0).trans (hp.1 c).symm, ((h.1 c).2 1).trans (hp.2 c).symm,
    ((h.1 c).1 (0 : Fin 5)).trans ((dats ch m ρ 0 c).arrAt_in (0 : Fin 5) rfl _), ((h.1 c).1 (1 : Fin 5)).trans ((dats ch m ρ 0 c).arrAt_in (1 : Fin 5) rfl _),
    ((h.1 c).1 (2 : Fin 5)).trans ((dats ch m ρ 0 c).arrAt_in (2 : Fin 5) rfl _), ((h.1 c).1 (3 : Fin 5)).trans ((dats ch m ρ 0 c).arrAt_in (3 : Fin 5) rfl _)⟩, h.2⟩,
    fun c => (h.1 c).1 (4 : Fin 5)⟩) (run_quiescent ch m ρ hp)

end Cert.Ex

end
-- ==== Proof.ExPre.lean ====
/-
The precondition on the experts' tables, all ones, as the bounds the run needs; and the two frames under it.
-/
module

public import proofs.«01_k».proof.Defs
public import proofs.«01_k».proof.Proof.Gen.Kernel2
public import proofs.«01_k».proof.Proof.Gen.Pre_routed
public import proofs.«01_k».proof.Proof.ExLaunch
public import Idealize.ShloMosaic.Lib.ReduceAll

@[expose] public section

set_option maxRecDepth 16384

noncomputable section

namespace Cert.Ex

open Cert.Kernel2Ideal Cert.Kernel2Ideal.Gen
open Idealize.ShloMosaic
open Idealize.ShloMosaic.TcCoe
open Idealize.SL.Sem

variable {F : FTy → Type} [FloatOps F]

/-- The bounds on the tables, from the predicate. -/
theorem routed_bounds (a0 : S90.Idx → BitVec 32) (a1 : S1.Idx → BitVec 32) (a2 : FVec F S46080x1024 .f32)
    (a3 a4 : FVec F S8x1024x3584 .bf16) (a5 : FVec F S8x3584x1024 .bf16)
    (h : Cert.Pre_routed.fn a0 a1 a2 a3 a4 a5 = fun _ => 1#1) :
    (∀ x, (a0 x).toNat < 8) ∧ 1 ≤ (a1 at0).toInt := by
  have andi_one (a b : BitVec 1) : IntOp.andi a b = 1#1 ↔ a = 1#1 ∧ b = 1#1 := by revert a b; decide
  have sub : Subsingleton Cert.Pre_routed.S_.Idx := ⟨fun a b => funext fun k => k.elim0⟩
  have pre := congrFun h (fun k : Fin 0 => k.elim0)
  simp only [Cert.Pre_routed.fn, andi, andi_one] at pre
  obtain ⟨p0, p1⟩ := pre
  refine ⟨fun x => ?_, ?_⟩
  · have q := (andi_one _ _).1 (Host.reduce_andi_all _ _ _ _ _ p0 x)
    have q1 : IntOp.cmpi .sge (a0 x) 0#32 = 1#1 := q.1
    have q2 : IntOp.cmpi .slt (a0 x) 8#32 = 1#1 := q.2
    have e1 := IntOp.cmpi_sge.1 q1
    have e2 := IntOp.cmpi_slt.1 q2
    have z : (0#32 : BitVec 32).toInt = 0 := by decide
    have z8 : (8#32 : BitVec 32).toInt = 8 := by decide
    have z' := (a0 x).isLt
    rw [z, BitVec.toInt_eq_toNat_cond] at e1
    rw [z8, BitVec.toInt_eq_toNat_cond] at e2
    split at e1 <;> split at e2 <;> omega
  · have q : IntOp.cmpi .sge (a1 at0) 1#32 = 1#1 := Host.reduce_andi_all _ _ _ _ _ p1 at0
    have e1 := IntOp.cmpi_sge.1 q
    have z : (1#32 : BitVec 32).toInt = 1 := by decide
    rw [z] at e1
    exact e1

/-- The tables a memory under the precondition holds. -/
theorem pinned_of (m : (ℓ : Loc nD τ sig) → Buf (Elt F) ℓ)
    (h : ∀ c : Dev nD, Cert.Pre_routed.fn (F := F)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) = fun _ => 1#1) :
    ∃ ch : Tabs, Pinned ch m := by
  have b := routed_bounds _ _ _ _ _ _ (h 0)
  refine ⟨⟨m (((0 : Dev nD).tc : Thread nD τ).loc main_arg0), m (((0 : Dev nD).tc : Thread nD τ).loc main_arg1), b.1, b.2⟩,
    fun c => ?_, fun c => ?_⟩ <;> obtain rfl : c = 0 := Subsingleton.elim _ _ <;> rfl

/-- The kernel over the extended reals: every run ends, the arguments unchanged and every counter at zero. -/
theorem ideal_quiescent : Cert.quiescent_Kernel2Ideal (hKernel2Ideal := Cert.Kernel2Ideal.Gen.facts)
    (hPre_routed := Cert.Pre_routed.Gen.facts) := fun m g hm => by
  obtain ⟨ch, hp⟩ := pinned_of (F := Ideal) m hm
  exact (θ_run _ _ _).mono (fun _ h => h.1) (run_main (F := Ideal) ch m g hp)

/-- The two programs' tables of bodies are the same. -/
theorem bodies_eq : (Cert.Kernel2.defs₀ (F := F)) = Cert.Kernel2Ideal.defs₀ := by
  unfold Cert.Kernel2.defs₀ Cert.Kernel2Ideal.defs₀
  refine congrArg Defs.onTc ?_
  funext l
  obtain rfl : l = (0 : Fin 1) := Subsingleton.elim (α := Fin 1) _ _
  funext x
  obtain ⟨t, s⟩ := x
  rfl

theorem defs_eq : (Cert.Kernel2.defs (F := F)) = Cert.Kernel2Ideal.defs :=
  congrArg (Pipeline.defs Cert.Kernel2.pcfgs) bodies_eq

/-- The same run at the machine's numbers. -/
theorem bits_quiescent : Cert.quiescent_Kernel2 (hKernel2 := Cert.Kernel2.Gen.facts)
    (hPre_routed := Cert.Pre_routed.Gen.facts) := fun m g hm => by
  obtain ⟨ch, hp⟩ := pinned_of (F := Bits) m hm
  refine Eq.mpr (congrArg (fun d => θ_run d (onTc (τ := Cert.Kernel2.τ) (Cert.Kernel2.main (F := Bits))) ⟨m, fun _ => 0, g⟩ _)
    (defs_eq (F := Bits))) ?_
  exact (θ_run Cert.Kernel2Ideal.defs _ _).mono (fun _ h => h.1) (run_main (F := Bits) ch m g hp)

end Cert.Ex

end
-- ==== Proof.ExPay.lean ====
/-
One step of the experts' kernel on its blocks, over the extended reals: an entry of what it adds to a tile.
-/
module

public import proofs.«01_k».proof.Proof.Gen.Kernel2Ideal.Skeleton
public import Idealize.ShloMosaic.Lib.Pipeline.ValueKit

@[expose] public section

set_option maxRecDepth 16384

noncomputable section

namespace Cert.Ex

open Cert.Kernel2Ideal Cert.Kernel2Ideal.Gen
open Idealize.ShloMosaic

/-- A gated hidden channel from its two products. -/
def hid (g u : EReal) : EReal := g * Ideal.logistic g * u

theorem pay1_at (x : FVec Ideal S512x1024 .f32) (wg wu : FVec Ideal S1x1024x1792 .bf16) (wd : FVec Ideal S1x1792x1024 .bf16)
    (r : Fin 512) (o : Fin 1024) :
    (k0_pay1 (F := Ideal) x wg wu wd : S512x1024.Idx → EReal) (ix2 r o) =
      ∑ k : Fin 1792, hid (∑ j : Fin 1024, x (ix2 r j) * wg (ix3 0 j k)) (∑ j : Fin 1024, x (ix2 r j) * wu (ix3 0 j k)) *
        wd (ix3 0 k o) := by
  unfold k0_pay1
  pointwise
  rfl

theorem pay2_at (x : FVec Ideal S512x1024 .f32) (wg wu : FVec Ideal S1x1024x1792 .bf16) (wd : FVec Ideal S1x1792x1024 .bf16)
    (y : S512x1024.Idx) : (k0_pay2 (F := Ideal) x wg wu wd : S512x1024.Idx → EReal) y = (k0_pay1 (F := Ideal) x wg wu wd : S512x1024.Idx → EReal) y := by
  unfold k0_pay2
  exact congrFun (shapeCast_id (s := S512x1024) _ shapeCasts_S512x1024_S512x1024) y

theorem pay3_at (x : FVec Ideal S512x1024 .f32) (wg wu : FVec Ideal S1x1024x1792 .bf16) (wd : FVec Ideal S1x1792x1024 .bf16)
    (v : FVec Ideal S512x1024 .f32) (y : S512x1024.Idx) :
    (k0_pay3 (F := Ideal) x wg wu wd v : S512x1024.Idx → EReal) y = (v y : EReal) + (k0_pay1 (F := Ideal) x wg wu wd : S512x1024.Idx → EReal) y := by
  unfold k0_pay3
  exact congrFun (shapeCast_id (s := S512x1024) _ shapeCasts_S512x1024_S512x1024) y

theorem pay4_at (y : S512x1024.Idx) : (k0_pay4 (F := Ideal) : S512x1024.Idx → EReal) y = 0 := by
  unfold k0_pay4
  pointwise

end Cert.Ex

end
-- ==== Proof.ExVal.lean ====
/-
The experts' output over the extended reals: a tile in use is its rows through its expert, and a tile beyond is zero.
-/
module

public import proofs.«01_k».proof.Proof.ExLaunch
public import proofs.«01_k».proof.Proof.ExPay
public import Idealize.ShloMosaic.Lib.Pipeline.ValueKit

@[expose] public section

set_option maxRecDepth 16384

noncomputable section

namespace Cert.Ex

open Cert.Kernel2Ideal Cert.Kernel2Ideal.Gen
open Idealize.ShloMosaic
open Idealize.ShloMosaic.TcCoe

variable (ch : Tabs) (m : (ℓ : Loc nD τ sig) → Buf (Elt Ideal) ℓ) (ρ : Dev nD → PrngReg) (c : Dev nD)

/-! ## The arguments -/

def ax : S46080x1024.Idx → EReal := m ((c.tc : Thread nD τ).loc main_arg2)
def ag : S8x1024x3584.Idx → EReal := m ((c.tc : Thread nD τ).loc main_arg3)
def au : S8x1024x3584.Idx → EReal := m ((c.tc : Thread nD τ).loc main_arg4)
def ad : S8x3584x1024.Idx → EReal := m ((c.tc : Thread nD τ).loc main_arg5)

/-- A tile's expert. -/
def ex (k : Fin 90) : Fin 8 := ⟨(ch.te (atTile k)).toNat, ch.hte _⟩

theorem lt180 (t : Fin grid0.N) : t.val < 180 := lt_of_lt_of_eq t.isLt N_0

/-! ## The blocks -/

theorem idx0 (t : Fin grid0.N) : ((cfgA (F := Ideal) ch).win (0 : Fin 5)).index t = ![rowTile ch (crd t), 0] := index0 ch (crd t)
theorem idx1 (t : Fin grid0.N) : ((cfgA (F := Ideal) ch).win (1 : Fin 5)).index t = ![(ch.te (atTile (crd t 0))).toNat, 0, half ch (crd t)] := index1 ch (crd t)
theorem idx2 (t : Fin grid0.N) : ((cfgA (F := Ideal) ch).win (2 : Fin 5)).index t = ![(ch.te (atTile (crd t 0))).toNat, 0, half ch (crd t)] := index2 ch (crd t)
theorem idx3 (t : Fin grid0.N) : ((cfgA (F := Ideal) ch).win (3 : Fin 5)).index t = ![(ch.te (atTile (crd t 0))).toNat, half ch (crd t), 0] := index3 ch (crd t)

theorem row_lt (t : Fin grid0.N) (r : Fin 512) : rowTile ch (crd t) * 512 + r.val < 46080 := by
  have h := i0_lt (crd t)
  unfold rowTile
  omega
theorem half_lt' (t : Fin grid0.N) (k : Fin 1792) : half ch (crd t) * 1792 + k.val < 3584 := by
  have h := half_lt ch (crd t)
  omega

theorem blk0 (t : Fin grid0.N) (r : Fin 512) (j : Fin 1024) :
    (iblk ch m ρ c (0 : Fin 5) t : S512x1024.Idx → EReal) (ix2 r j) =
      ax m c (ix2 ⟨rowTile ch (crd t) * 512 + r.val, row_lt ch t r⟩ j) := by
  have e : (((cfgA (F := Ideal) ch).win (0 : Fin 5)).blk t).view.emb (ix2 r j : S512x1024.Idx) =
      (ix2 ⟨rowTile ch (crd t) * 512 + r.val, row_lt ch t r⟩ j : S46080x1024.Idx) := by
    blk_ext [idx0 ch t]
  exact congrArg (ax m c) e

theorem blk1 (t : Fin grid0.N) (j : Fin 1024) (k : Fin 1792) :
    (iblk ch m ρ c (1 : Fin 5) t : S1x1024x1792.Idx → EReal) (ix3 0 j k) = ag m c (ix3 (ex ch (crd t 0)) j ⟨half ch (crd t) * 1792 + k.val, half_lt' ch t k⟩) := by
  have e : (((cfgA (F := Ideal) ch).win (1 : Fin 5)).blk t).view.emb (ix3 0 j k : S1x1024x1792.Idx) = (ix3 (ex ch (crd t 0)) j ⟨half ch (crd t) * 1792 + k.val, half_lt' ch t k⟩ : S8x1024x3584.Idx) := by
    blk_ext [idx1 ch t]
    exact Nat.add_zero _
  exact congrArg (ag m c) e

theorem blk2 (t : Fin grid0.N) (j : Fin 1024) (k : Fin 1792) :
    (iblk ch m ρ c (2 : Fin 5) t : S1x1024x1792.Idx → EReal) (ix3 0 j k) = au m c (ix3 (ex ch (crd t 0)) j ⟨half ch (crd t) * 1792 + k.val, half_lt' ch t k⟩) := by
  have e : (((cfgA (F := Ideal) ch).win (2 : Fin 5)).blk t).view.emb (ix3 0 j k : S1x1024x1792.Idx) = (ix3 (ex ch (crd t 0)) j ⟨half ch (crd t) * 1792 + k.val, half_lt' ch t k⟩ : S8x1024x3584.Idx) := by
    blk_ext [idx2 ch t]
    exact Nat.add_zero _
  exact congrArg (au m c) e

theorem blk3 (t : Fin grid0.N) (k : Fin 1792) (o : Fin 1024) :
    (iblk ch m ρ c (3 : Fin 5) t : S1x1792x1024.Idx → EReal) (ix3 0 k o) = ad m c (ix3 (ex ch (crd t 0)) ⟨half ch (crd t) * 1792 + k.val, half_lt' ch t k⟩ o) := by
  have e : (((cfgA (F := Ideal) ch).win (3 : Fin 5)).blk t).view.emb (ix3 0 k o : S1x1792x1024.Idx) = (ix3 (ex ch (crd t 0)) ⟨half ch (crd t) * 1792 + k.val, half_lt' ch t k⟩ o : S8x3584x1024.Idx) := by
    blk_ext [idx3 ch t]
    exact Nat.add_zero _
  exact congrArg (ad m c) e

/-! ## The two points of a tile -/

/-- A hidden channel of a row through an expert. -/
def chan (R : Fin 46080) (e : Fin 8) (k : Fin 3584) : EReal :=
  hid (∑ j : Fin 1024, ax m c (ix2 R j) * ag m c (ix3 e j k)) (∑ j : Fin 1024, ax m c (ix2 R j) * au m c (ix3 e j k))

theorem part_at (t : Fin grid0.N) (K : Fin 90) (H : Fin 2) (hK : t.val = 2 * K.val + H.val) (hk : K.val < ntN ch) (r : Fin 512) (o : Fin 1024) :
    (k0_pay1 (F := Ideal) (iblk ch m ρ c (0 : Fin 5) t) (iblk ch m ρ c (1 : Fin 5) t) (iblk ch m ρ c (2 : Fin 5) t)
      (iblk ch m ρ c (3 : Fin 5) t) : S512x1024.Idx → EReal) (ix2 r o) =
      ∑ k : Fin 1792, chan m c ⟨K.val * 512 + r.val, by omega⟩ (ex ch K) ⟨H.val * 1792 + k.val, by omega⟩ *
        ad m c (ix3 (ex ch K) ⟨H.val * 1792 + k.val, by omega⟩ o) := by
  have c0 : crd t 0 = K := Fin.ext (by rw [crd0]; omega)
  have c1 : (crd t 1).val = H.val := by rw [crd1]; omega
  have hr : rowTile ch (crd t) = K.val := by unfold rowTile; rw [c0]; omega
  have hh : half ch (crd t) = H.val := by unfold half; rw [c0, if_pos hk, c1]
  refine (pay1_at _ _ _ _ r o).trans ?_
  refine Finset.sum_congr rfl fun k _ => ?_
  have e0 (j : Fin 1024) := blk0 ch m ρ c t r j
  have e1 (j : Fin 1024) := blk1 ch m ρ c t j k
  have e2 (j : Fin 1024) := blk2 ch m ρ c t j k
  have e3 := blk3 ch m ρ c t k o
  simp only [hr, hh, c0] at e0 e1 e2 e3
  unfold chan
  rw [e3]
  simp only [e0, e1, e2]

theorem sum_halves (f : Fin 3584 → EReal) :
    (∑ k : Fin 1792, f ⟨0 * 1792 + k.val, by omega⟩) + (∑ k : Fin 1792, f ⟨1 * 1792 + k.val, by omega⟩) = ∑ k, f k := by
  refine Eq.symm ((Fin.sum_univ_add (a := 1792) (b := 1792) f).trans (congrArg₂ (· + ·) ?_ ?_))
  · exact Finset.sum_congr rfl fun k _ => congrArg f (Fin.ext (by simp))
  · exact Finset.sum_congr rfl fun k _ => congrArg f (Fin.ext (by simp [Nat.add_comm]))

/-- What a row's output is. -/
def EXP : S46080x1024.Idx → EReal := fun y =>
  if (y 0).val / 512 < ntN ch then
    ∑ k : Fin 3584, chan m c (y 0) (ex ch ⟨(y 0).val / 512, by have : (y 0).val < 46080 := (y 0).isLt; omega⟩) k *
      ad m c (ix3 (ex ch ⟨(y 0).val / 512, by have : (y 0).val < 46080 := (y 0).isLt; omega⟩) k (y 1))
  else 0

theorem EXP_at (K : Fin 90) (r : Fin 512) (o : Fin 1024) :
    EXP ch m c (ix2 ⟨K.val * 512 + r.val, by omega⟩ o) =
      if K.val < ntN ch then ∑ k : Fin 3584, chan m c ⟨K.val * 512 + r.val, by omega⟩ (ex ch K) k * ad m c (ix3 (ex ch K) k o) else 0 := by
  have e (h) : (⟨(K.val * 512 + r.val) / 512, h⟩ : Fin 90) = K := Fin.ext (by show (K.val * 512 + r.val) / 512 = K.val; omega)
  have e' : (K.val * 512 + r.val) / 512 = K.val := by omega
  unfold EXP
  simp only [ix2_0, ix2_1, e, e']

theorem out_tile (t : Fin grid0.N) (K : Fin 90) (hK : t.val = 2 * K.val + 1) (r : Fin 512) (o : Fin 1024) :
    (outAt (F := Ideal) ch m ρ c t : S512x1024.Idx → EReal) (ix2 r o) = EXP ch m c (ix2 ⟨K.val * 512 + r.val, by omega⟩ o) := by
  have hd : t.val / 2 = K.val := by omega
  rw [EXP_at]
  by_cases hk : K.val < ntN ch
  · rw [if_pos hk, outAt_active ch m ρ c t (by omega)]
    refine (pay3_at _ _ _ _ _ _).trans ?_
    rw [part_at ch m ρ c t K 1 hK hk r o]
    have b : (part ch m ρ c (before t.castSucc) : S512x1024.Idx → EReal) (ix2 r o) = _ :=
      (pay2_at _ _ _ _ _).trans (part_at ch m ρ c (before t.castSucc) K 0 (by show t.val - 1 = 2 * K.val + 0; omega) hk r o)
    rw [b]
    exact sum_halves fun k => chan m c ⟨K.val * 512 + r.val, by omega⟩ (ex ch K) k * ad m c (ix3 (ex ch K) k o)
  · rw [if_neg hk, outAt_zero ch m ρ c t (by omega)]
    exact pay4_at _

/-! ## The array after the grid -/

theorem idx4 (t : Fin grid0.N) : ((cfgA (F := Ideal) ch).win (4 : Fin 5)).index t = ![t.val / 2, 0] := by
  have h := lt180 t
  show ![(BitVec.ofNat 32 (crd t 0).val).toNat, (0#32).toNat] = _
  rw [crd0, BitVec.toNat_ofNat, Nat.mod_eq_of_lt (by omega)]
  rfl

theorem covers4 : ((cfgA (F := Ideal) ch).win (4 : Fin 5)).Covers := by
  refine ⟨fun a => ?_, fun β => ?_⟩
  · match a with
    | ⟨0, _⟩ => show 0 < 512; decide
    | ⟨1, _⟩ => show 0 < 1024; decide
  · have h0 : (β (0 : Fin 2)).val < (46080 + 512 - 1) / 512 := (β (0 : Fin 2)).isLt
    have h1 : (β (1 : Fin 2)).val < (1024 + 1024 - 1) / 1024 := (β (1 : Fin 2)).isLt
    have hN := N_eq
    refine ⟨⟨2 * (β (0 : Fin 2)).val + 1, by show _ < grid0.N; omega⟩, ?_, fun a => ⟨?_, Or.inl rfl⟩⟩
    · rw [flush4]
      exact decide_eq_true (by show (2 * (β (0 : Fin 2)).val + 1) % 2 = 1; omega)
    · rw [idx4]
      match a with
      | ⟨0, _⟩ => show (2 * (β (0 : Fin 2)).val + 1) / 2 = (β (0 : Fin 2)).val; omega
      | ⟨1, _⟩ => show 0 = (β (1 : Fin 2)).val; omega

theorem arr4 : ((dats ch m ρ 0 c).arrAt (4 : Fin 5) (cfgA (F := Ideal) ch).N : S46080x1024.Idx → EReal) = EXP ch m c := by
  refine (dats ch m ρ 0 c).arrAt_eq_of_covers (4 : Fin 5) _ (covers4 ch) fun t hf y => ?_
  rw [flush4] at hf
  have hf' : t.val % 2 = 1 := of_decide_eq_true hf
  have ht := lt180 t
  obtain ⟨r, o, rfl⟩ : ∃ (r : Fin 512) (o : Fin 1024), y = ix2 r o := ⟨y 0, y 1, eq_ix2 y⟩
  refine (out_tile ch m ρ c t ⟨t.val / 2, by omega⟩ (by show t.val = 2 * (t.val / 2) + 1; omega) r o).trans ?_
  have e : (((cfgA (F := Ideal) ch).win (4 : Fin 5)).blk t).view.emb (ix2 r o : S512x1024.Idx) =
      (ix2 ⟨t.val / 2 * 512 + r.val, by omega⟩ o : S46080x1024.Idx) := by
    blk_ext [idx4 ch t]
  exact (congrArg (EXP ch m c) e).symm

end Cert.Ex

end
-- ==== Proof.ExRef.lean ====
/-
One expert's term of the experts' reference over the extended reals, and the mask that picks a tile's expert, at an index.
-/
module

public import proofs.«01_k».proof.Proof.Gen.Reference2Ideal.Run
public import proofs.«01_k».proof.Proof.ExPay
public import Idealize.ShloMosaic.Lib.Pipeline.ValueKit

@[expose] public section

set_option maxRecDepth 16384

noncomputable section

namespace Cert.ExRef

open Cert.Reference2Ideal Cert.Reference2Ideal.Gen
open Idealize.ShloMosaic

theorem one_word : Ideal.ofBits .f32 0x3F800000#32 = 1 := by
  pointwise

/-- A product of the rows with one expert's matrix. -/
def wide (e : Fin 8) (h : S8x1024x3584.Slices ![e.val, 0, 0] S1x1024x3584) (x : FVec Ideal S46080x1024 .f32)
    (w : FVec Ideal S8x1024x3584 .bf16) : FVec Ideal S46080x3584 .f32 :=
  Host.dotGeneral dot_S46080x1024_S1024x3584_S46080x3584_1_0_0_1_n_n none x (extf .f32 (shapeCast _
    (extractStridedSlice S1x1024x3584 ![e.val, 0, 0] w h) shapeCasts_S1x1024x3584_S1024x3584) bitsLt_bf16_f32)

theorem wide_at (e : Fin 8) (h : S8x1024x3584.Slices ![e.val, 0, 0] S1x1024x3584) (x : FVec Ideal S46080x1024 .f32)
    (w : FVec Ideal S8x1024x3584 .bf16) (r : Fin 46080) (k : Fin 3584) :
    (wide e h x w : S46080x3584.Idx → EReal) (ix2 r k) = ∑ j : Fin 1024, x (ix2 r j) * w (ix3 e j k) := by
  unfold wide
  pointwise

/-- One expert's outputs. -/
def down (e : Fin 8) (h : S8x1024x3584.Slices ![e.val, 0, 0] S1x1024x3584) (h' : S8x3584x1024.Slices ![e.val, 0, 0] S1x3584x1024)
    (x : FVec Ideal S46080x1024 .f32) (wg wu : FVec Ideal S8x1024x3584 .bf16) (wd : FVec Ideal S8x3584x1024 .bf16) :
    FVec Ideal S46080x1024 .f32 :=
  Host.dotGeneral dot_S46080x3584_S3584x1024_S46080x1024_1_0_0_1_n_n none
    (mulf (mulf (wide e h x wg) (Host.divf (broadcastInDim S46080x3584 ![] bcast_S_S46080x3584 (constant S_ .f32 0x3F800000#32))
      (addf (broadcastInDim S46080x3584 ![] bcast_S_S46080x3584 (constant S_ .f32 0x3F800000#32)) (Host.exp (Host.negf (wide e h x wg))))))
      (wide e h x wu))
    (extf .f32 (shapeCast _ (extractStridedSlice S1x3584x1024 ![e.val, 0, 0] wd h') shapeCasts_S1x3584x1024_S3584x1024) bitsLt_bf16_f32)

theorem down_at (e : Fin 8) (h : S8x1024x3584.Slices ![e.val, 0, 0] S1x1024x3584) (h' : S8x3584x1024.Slices ![e.val, 0, 0] S1x3584x1024)
    (x : FVec Ideal S46080x1024 .f32) (wg wu : FVec Ideal S8x1024x3584 .bf16) (wd : FVec Ideal S8x3584x1024 .bf16)
    (r : Fin 46080) (o : Fin 1024) :
    (down e h h' x wg wu wd : S46080x1024.Idx → EReal) (ix2 r o) =
      ∑ k : Fin 3584, Cert.Ex.hid (∑ j : Fin 1024, x (ix2 r j) * wg (ix3 e j k)) (∑ j : Fin 1024, x (ix2 r j) * wu (ix3 e j k)) *
        wd (ix3 e k o) := by
  unfold down
  pointwise
  simp only [wide_at]
  rfl

/-- The mask as the reference computes it from the tables. -/
def mask (te : S90.Idx → BitVec 32) (nt : S1.Idx → BitVec 32) : FVec Ideal S46080x8 .f32 :=
  shapeCast _ (broadcastInDim S90x512x8 ![0, 1, 2] bcast_S90x1x8_S90x512x8_0_1_2 (broadcastInDim S90x1x8 ![0, 2] bcast_S90x8_S90x1x8_0_2 (select (broadcastInDim S90x8 ![0, 1] bcast_S90x1_S90x8_0_1 (broadcastInDim S90x1 ![0] bcast_S90_S90x1_0 (cmpi .slt (iotaInDim S90 32 0) (broadcastInDim S90 ![] bcast_S_S90 (shapeCast _ nt shapeCasts_S1_S_))))) (uitofp .f32 (cmpi .eq (broadcastInDim S90x8 ![0, 1] bcast_S90x1_S90x8_0_1 (broadcastInDim S90x1 ![0] bcast_S90_S90x1_0 te)) (broadcastInDim S90x8 ![0, 1] bcast_S1x8_S90x8_0_1 (iotaInDim S1x8 32 1)))) (broadcastInDim S90x8 ![] bcast_S_S90x8 (id (constant S_ .f32 0x00000000#32)))))) shapeCasts_S90x512x8_S46080x8

theorem mask_at (te : S90.Idx → BitVec 32) (nt : S1.Idx → BitVec 32) (k : Fin 90) (a : Fin 512) (e : Fin 8) :
    (mask te nt : S46080x8.Idx → EReal) (ix2 ⟨k.val * 512 + a.val, by omega⟩ e) =
      if IntOp.cmpi .slt (BitVec.ofNat 32 k.val) (nt (ix1 0)) = 1#1 ∧ te (ix1 k) = BitVec.ofNat 32 e.val then 1 else 0 := by
  unfold mask
  pointwise
  by_cases h1 : IntOp.cmpi .slt (BitVec.ofNat 32 k.val) (nt (ix1 0)) = 1#1
  · rw [h1]
    by_cases h2 : te (ix1 k) = BitVec.ofNat 32 e.val
    · rw [h2, if_pos ⟨rfl, rfl⟩]
      have q : IntOp.cmpi .eq (BitVec.ofNat 32 e.val) (BitVec.ofNat 32 e.val) = 1#1 := IntOp.cmpi_eq.2 rfl
      rw [q]
      show (((1#1 : BitVec 1).toNat : ℝ) : EReal) = 1
      norm_num
    · rw [if_neg fun h => h2 h.2]
      have q : IntOp.cmpi .eq (te (ix1 k)) (BitVec.ofNat 32 e.val) = 0#1 :=
        (BitVec.eq_zero_or_eq_one _).resolve_right fun h => h2 (IntOp.cmpi_eq.1 h)
      rw [q]
      show (((0#1 : BitVec 1).toNat : ℝ) : EReal) = 0
      norm_num
  · rw [if_neg fun h => h1 h.1]
    have q := (BitVec.eq_zero_or_eq_one _).resolve_right h1
    rw [q]
    show Ideal.ofBits .f32 0x00000000#32 = 0
    pointwise

end Cert.ExRef

end
-- ==== Proof.ExRefSum.lean ====
/-
The experts' reference over the extended reals: a row of its result is its tile's expert's outputs, or zero past the last tile in use.
-/
module

public import proofs.«01_k».proof.Proof.ExRef

@[expose] public section

set_option maxRecDepth 16384

noncomputable section

namespace Cert.ExRef

open Cert.Reference2Ideal Cert.Reference2Ideal.Gen Cert.Reference2Ideal.Value
open Idealize.ShloMosaic Idealize.ShloMosaic.TcCoe

variable (V : Valuation τ sig (Elt Ideal))

abbrev gte : S90.Idx → BitVec 32 := V (Proc.devRef .tc main_arg0)
abbrev gnt : S1.Idx → BitVec 32 := V (Proc.devRef .tc main_arg1)
abbrev gx : FVec Ideal S46080x1024 .f32 := V (Proc.devRef .tc main_arg2)
abbrev gg : FVec Ideal S8x1024x3584 .bf16 := V (Proc.devRef .tc main_arg3)
abbrev gu : FVec Ideal S8x1024x3584 .bf16 := V (Proc.devRef .tc main_arg4)
abbrev gd : FVec Ideal S8x3584x1024 .bf16 := V (Proc.devRef .tc main_arg5)

theorem sl : ∀ e : Fin 8, S8x1024x3584.Slices ![e.val, 0, 0] S1x1024x3584 := by decide
theorem sl' : ∀ e : Fin 8, S8x3584x1024.Slices ![e.val, 0, 0] S1x3584x1024 := by decide
theorem slc : ∀ e : Fin 8, S46080x8.Slices ![0, e.val] S46080x1 := by decide

/-- One expert's term. -/
def term (e : Fin 8) : FVec Ideal S46080x1024 .f32 :=
  mulf (broadcastInDim S46080x1024 ![0, 1] bcast_S46080x1_S46080x1024_0_1
    (extractStridedSlice S46080x1 ![0, e.val] (mask (gte V) (gnt V)) (slc e))) (down e (sl e) (sl' e) (gx V) (gg V) (gu V) (gd V))

theorem out_eq : (res_main_v154 V : FVec Ideal S46080x1024 .f32) =
    addf (addf (addf (addf (addf (addf (addf (addf (broadcastInDim S46080x1024 ![] bcast_S_S46080x1024 (constant S_ .f32 0x00000000#32))
      (term V 0)) (term V 1)) (term V 2)) (term V 3)) (term V 4)) (term V 5)) (term V 6)) (term V 7) := by
  rfl

theorem term_at (e : Fin 8) (r : Fin 46080) (o : Fin 1024) :
    (term V e : S46080x1024.Idx → EReal) (ix2 r o) = (mask (gte V) (gnt V) : S46080x8.Idx → EReal) (ix2 r e) *
      (down e (sl e) (sl' e) (gx V) (gg V) (gu V) (gd V) : S46080x1024.Idx → EReal) (ix2 r o) := by
  unfold term
  pointwise

theorem out_at (r : Fin 46080) (o : Fin 1024) :
    (res_main_v154 V : S46080x1024.Idx → EReal) (ix2 r o) = ∑ e : Fin 8, (term V e : S46080x1024.Idx → EReal) (ix2 r o) := by
  rw [show (res_main_v154 V : S46080x1024.Idx → EReal) = _ from out_eq V]
  rw [Fin.sum_univ_eight]
  pointwise

end Cert.ExRef

end
-- ==== Proof.ExAlg.lean ====
/-
The experts' call against its reference over the extended reals: both runs end with the same rows.
-/
module

public import proofs.«01_k».proof.Proof.ExPre
public import proofs.«01_k».proof.Proof.ExVal
public import proofs.«01_k».proof.Proof.ExRefSum
public import Idealize.ShloMosaic.Lib.Quiescent

@[expose] public section

set_option maxRecDepth 16384

noncomputable section

namespace Cert.Ex

open Cert.Kernel2Ideal Cert.Kernel2Ideal.Gen
open Idealize.ShloMosaic
open Idealize.ShloMosaic.TcCoe
open Idealize.SL.Sem
open Cert.ExRef (gte gnt gx gg gu gd mask mask_at down down_at term_at out_at sl sl')

variable (ch : Tabs) (m : (ℓ : Loc nD τ sig) → Buf (Elt Ideal) ℓ) (c : Dev nD)

/-- A tile is in use as the reference asks it. -/
theorem used_iff (K : Fin 90) : IntOp.cmpi .slt (BitVec.ofNat 32 K.val) (ch.nt at0) = 1#1 ↔ K.val < ntN ch := by
  unfold IntOp.cmpi
  simp only []
  rw [slt_iff _ K.isLt _ (nt_lt ch)]
  show _ ↔ K.val < (ch.nt at0).toNat
  by_cases h : K.val < (ch.nt at0).toNat <;> simp [h]

theorem expert_iff (K : Fin 90) (e : Fin 8) : ch.te (atTile K) = BitVec.ofNat 32 e.val ↔ e = ex ch K := by
  have h := ch.hte (atTile K)
  constructor
  · intro q
    apply Fin.ext
    show e.val = (ch.te (atTile K)).toNat
    rw [q, BitVec.toNat_ofNat]
    omega
  · rintro rfl
    apply BitVec.eq_of_toNat_eq
    rw [BitVec.toNat_ofNat]
    show _ = (ch.te (atTile K)).toNat % _
    omega

variable (V : Valuation Cert.Reference2Ideal.τ Cert.Reference2Ideal.sig (Elt Ideal))

/-- The reference's row. -/
theorem ref_at (h0 : gte V = ch.te) (h1 : gnt V = ch.nt) (h2 : gx V = ax m c) (h3 : gg V = ag m c) (h4 : gu V = au m c)
    (h5 : gd V = ad m c) (K : Fin 90) (r : Fin 512) (o : Fin 1024) :
    (Cert.Reference2Ideal.Value.res_main_v154 V : S46080x1024.Idx → EReal) (ix2 ⟨K.val * 512 + r.val, by omega⟩ o) =
      EXP ch m c (ix2 ⟨K.val * 512 + r.val, by omega⟩ o) := by
  rw [EXP_at]
  refine (out_at V _ o).trans ?_
  have d (e : Fin 8) : (down e (sl e) (sl' e) (gx V) (gg V) (gu V) (gd V) : S46080x1024.Idx → EReal)
      (ix2 ⟨K.val * 512 + r.val, by omega⟩ o) =
      ∑ k : Fin 3584, chan m c ⟨K.val * 512 + r.val, by omega⟩ e k * ad m c (ix3 e k o) := by
    refine (down_at e _ _ _ _ _ _ _ o).trans ?_
    rw [h2, h3, h4, h5]
    rfl
  have g (e : Fin 8) := (term_at V e ⟨K.val * 512 + r.val, by omega⟩ o).trans (congrArg₂ (fun a b : EReal => a * b) (mask_at (gte V) (gnt V) K r e) (d e))
  refine (Finset.sum_congr rfl fun e _ => g e).trans ?_
  rw [h0, h1]
  by_cases hk : K.val < ntN ch
  · rw [if_pos hk, Finset.sum_eq_single (ex ch K)]
    · rw [if_pos ⟨(used_iff ch K).mpr hk, (expert_iff ch K _).mpr rfl⟩, one_mul]
    · intro e _ he
      rw [if_neg fun q => he ((expert_iff ch K e).mp q.2), zero_mul]
    · intro q
      exact absurd (Finset.mem_univ _) q
  · rw [if_neg hk]
    refine Finset.sum_eq_zero fun e _ => ?_
    rw [if_neg fun q => hk ((used_iff ch K).mp q.1), zero_mul]

theorem ref_eq (h0 : gte V = ch.te) (h1 : gnt V = ch.nt) (h2 : gx V = ax m c) (h3 : gg V = ag m c) (h4 : gu V = au m c)
    (h5 : gd V = ad m c) : (Cert.Reference2Ideal.Value.res_main_v154 V : S46080x1024.Idx → EReal) = EXP ch m c := by
  funext y
  obtain ⟨R, o, rfl⟩ : ∃ (R : Fin 46080) (o : Fin 1024), y = ix2 R o := ⟨y 0, y 1, eq_ix2 y⟩
  obtain ⟨K, r, rfl⟩ : ∃ (K : Fin 90) (r : Fin 512), R = ⟨K.val * 512 + r.val, by omega⟩ :=
    ⟨⟨R.val / 512, by omega⟩, ⟨R.val % 512, by omega⟩, Fin.ext (by show R.val = R.val / 512 * 512 + R.val % 512; omega)⟩
  exact ref_at ch m c V h0 h1 h2 h3 h4 h5 K r o

/-- The reference's run ends with its arguments unchanged and every counter at zero. -/
theorem ref_quiescent : Cert.quiescent_Reference2Ideal (hReference2Ideal := Cert.Reference2Ideal.Gen.facts) := fun m g _ =>
  (θ_run _ _ _).mono (fun r h => ⟨fun c => (h c).2, sem_eq_zero_of_no_sems rfl _⟩) (Cert.Reference2Ideal.Value.run m g)

/-- The kernel's run, its result's rows named. -/
theorem kernel_run (g : Dev nD → PrngReg) (hp : Pinned ch m) :
    θ_run (defs (F := Ideal)) (onTc (τ := τ) (main (F := Ideal))) ⟨m, fun _ => 0, g⟩ (fun r => ∀ c : Dev nD,
      r.2.mem ((c.tc : Thread nD τ).loc main_v0) = EXP ch m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨(h.2 c).trans (arr4 ch m g c), h.1.1 c⟩) (run_main (F := Ideal) ch m g hp)

/-- Both runs end with the same rows. -/
theorem alg : Cert.algebraic_Kernel2Ideal_Reference2Ideal (hKernel2Ideal := Cert.Kernel2Ideal.Gen.facts)
    (hReference2Ideal := Cert.Reference2Ideal.Gen.facts) (hPre_routed := Cert.Pre_routed.Gen.facts) := fun m g m' g' hm heq => by
  obtain ⟨ch, hp⟩ := pinned_of (F := Ideal) m hm
  refine ⟨fun c => EXP ch m c, kernel_run ch m g hp, ?_⟩
  refine (θ_run _ _ _).mono (fun r h c => ?_) (Cert.Reference2Ideal.Value.run m' g')
  obtain ⟨e0, e1, e2, e3, e4, e5⟩ := heq c
  obtain ⟨k, h⟩ := h c
  exact ⟨k.trans (ref_eq ch m c _ (e0.trans (hp.1 c)) (e1.trans (hp.2 c)) e2 e3 e4 e5), h⟩

end Cert.Ex

end
-- ==== Proof.S5Spec.lean ====
/-
The one step of the state space mixer as numbers: the discretisation, the new state and the output of a row.
-/
module

public import Idealize.ShloMosaic.PureOps
public import Idealize.ShloMosaic.Lib.Pipeline.ValueKit

@[expose] public section

noncomputable section

namespace Cert.S5

open Idealize.ShloMosaic

/-! ## Numbers -/

/-- An extended real that is a number. -/
def Num (x : EReal) : Prop := ∃ r : ℝ, x = (r : EReal)

theorem Num.add {x y : EReal} (hx : Num x) (hy : Num y) : Num (x + y) := by
  obtain ⟨a, rfl⟩ := hx
  obtain ⟨b, rfl⟩ := hy
  exact ⟨a + b, (EReal.coe_add a b).symm⟩
theorem Num.sub {x y : EReal} (hx : Num x) (hy : Num y) : Num (x - y) := by
  obtain ⟨a, rfl⟩ := hx
  obtain ⟨b, rfl⟩ := hy
  exact ⟨a - b, (EReal.coe_sub a b).symm⟩
theorem Num.mul {x y : EReal} (hx : Num x) (hy : Num y) : Num (x * y) := by
  obtain ⟨a, rfl⟩ := hx
  obtain ⟨b, rfl⟩ := hy
  exact ⟨a * b, (EReal.coe_mul a b).symm⟩
theorem Num.neg {x : EReal} (hx : Num x) : Num (-x) := by
  obtain ⟨a, rfl⟩ := hx
  exact ⟨-a, (EReal.coe_neg a).symm⟩
theorem Num.zero : Num 0 := ⟨0, rfl⟩
theorem Num.one : Num 1 := ⟨1, rfl⟩
theorem Num.ite {p : Prop} [Decidable p] : Num (if p then 1 else 0) := by
  split
  · exact Num.one
  · exact Num.zero
theorem Num.sum {n : ℕ} {f : Fin n → EReal} (h : ∀ i, Num (f i)) : Num (∑ i, f i) :=
  Finset.sum_induction f Num (fun _ _ => Num.add) Num.zero fun i _ => h i
theorem Num.exp {x : EReal} (hx : Num x) : Num (Ideal.exp x) := by
  obtain ⟨a, rfl⟩ := hx
  exact ⟨_, rfl⟩
theorem Num.cos {x : EReal} (hx : Num x) : Num (Ideal.cos x) := by
  obtain ⟨a, rfl⟩ := hx
  exact ⟨_, rfl⟩
theorem Num.sin {x : EReal} (hx : Num x) : Num (Ideal.sin x) := by
  obtain ⟨a, rfl⟩ := hx
  exact ⟨_, rfl⟩
theorem Num.div {x y : EReal} (hx : Num x) (hy : Num y) (h : y ≠ 0) : Num (Ideal.div x y) := by
  obtain ⟨a, rfl⟩ := hx
  obtain ⟨b, rfl⟩ := hy
  rw [Ideal.div_coe fun hb => h (by rw [hb]; rfl)]
  exact ⟨_, (EReal.coe_mul _ _).symm⟩
theorem Num.sub_self {x : EReal} (hx : Num x) : x - x = 0 := by
  obtain ⟨a, rfl⟩ := hx
  rw [← EReal.coe_sub, _root_.sub_self]
  rfl

theorem neg_add_num {x y : EReal} (hx : Num x) (hy : Num y) : -(x + y) = -x + -y := by
  obtain ⟨a, rfl⟩ := hx
  obtain ⟨b, rfl⟩ := hy
  rw [← EReal.coe_add, ← EReal.coe_neg, ← EReal.coe_neg, ← EReal.coe_neg, ← EReal.coe_add, neg_add]

theorem sum_neg_num {n : ℕ} {f : Fin n → EReal} (h : ∀ i, Num (f i)) : (∑ i, -(f i)) = -∑ i, f i := by
  induction n with
  | zero => simp
  | succ n ih =>
    rw [Fin.sum_univ_succ, Fin.sum_univ_succ, ih fun i => h i.succ, neg_add_num (h 0) (Num.sum fun i => h i.succ)]

/-- A sum over eight blocks of which one is kept. -/
theorem sum_blk {k : ℕ} (f : Fin 8 → Fin k → EReal) (q : Fin 8) :
    (∑ i : Fin 8, ∑ r : Fin k, f i r * (if i = q then 1 else 0)) = ∑ r : Fin k, f q r := by
  rw [Finset.sum_eq_single q]
  · simp
  · intro i _ hi
    simp [hi]
  · simp

/-- A sum by blocks. -/
theorem sum_split {k n : ℕ} (hn : 8 * k = n) (f : Fin n → EReal) :
    (∑ l, f l) = ∑ i : Fin 8, ∑ r : Fin k, f ⟨k * i.val + r.val, by
      have h : k * i.val + k ≤ k * 8 := by rw [← Nat.mul_succ]; exact Nat.mul_le_mul_left k i.isLt
      have := r.isLt
      rw [← hn, Nat.mul_comm 8 k]; omega⟩ := by
  subst hn
  rw [← Fintype.sum_prod_type', ← Equiv.sum_comp finProdFinEquiv]
  refine Finset.sum_congr rfl fun x _ => congrArg f (Fin.ext ?_)
  show x.2.val + k * x.1.val = k * x.1.val + x.2.val
  omega

/-! ## The step -/

/-- The arguments: the inputs, the poles, the step sizes, the two matrices, the skip and the carried state. -/
structure Args where
  u : (⟨2, ![128, 1024]⟩ : Shape).Idx → EReal
  are : (⟨2, ![64, 64]⟩ : Shape).Idx → EReal
  aim : (⟨2, ![64, 64]⟩ : Shape).Idx → EReal
  ls : (⟨1, ![64]⟩ : Shape).Idx → EReal
  br : (⟨3, ![64, 64, 16]⟩ : Shape).Idx → EReal
  bi : (⟨3, ![64, 64, 16]⟩ : Shape).Idx → EReal
  cr : (⟨3, ![64, 16, 64]⟩ : Shape).Idx → EReal
  ci : (⟨3, ![64, 16, 64]⟩ : Shape).Idx → EReal
  d : (⟨2, ![64, 16]⟩ : Shape).Idx → EReal
  sr : (⟨3, ![128, 64, 64]⟩ : Shape).Idx → EReal
  si : (⟨3, ![128, 64, 64]⟩ : Shape).Idx → EReal

namespace Args

variable (a : Args)

/-- The square of a pole. -/
def den (g p : Fin 64) : EReal := a.are (ix2 g p) * a.are (ix2 g p) + a.aim (ix2 g p) * a.aim (ix2 g p)
/-- The discretised pole. -/
def abr (g p : Fin 64) : EReal :=
  Ideal.exp (Ideal.exp (a.ls (ix1 g)) * a.are (ix2 g p)) * Ideal.cos (Ideal.exp (a.ls (ix1 g)) * a.aim (ix2 g p))
def abi (g p : Fin 64) : EReal :=
  Ideal.exp (Ideal.exp (a.ls (ix1 g)) * a.are (ix2 g p)) * Ideal.sin (Ideal.exp (a.ls (ix1 g)) * a.aim (ix2 g p))
/-- The factor of the input matrix. -/
def fr (g p : Fin 64) : EReal :=
  Ideal.div ((a.abr g p - 1) * a.are (ix2 g p) + a.abi g p * a.aim (ix2 g p)) (a.den g p)
def fi (g p : Fin 64) : EReal :=
  Ideal.div (a.abi g p * a.are (ix2 g p) - (a.abr g p - 1) * a.aim (ix2 g p)) (a.den g p)
/-- The discretised input matrix. -/
def bbr (g p : Fin 64) (i : Fin 16) : EReal := a.fr g p * a.br (ix3 g p i) - a.fi g p * a.bi (ix3 g p i)
def bbi (g p : Fin 64) (i : Fin 16) : EReal := a.fr g p * a.bi (ix3 g p i) + a.fi g p * a.br (ix3 g p i)
/-- A group's input channel. -/
def uu (b : Fin 128) (g : Fin 64) (i : Fin 16) : EReal := a.u (ix2 b ⟨g.val * 16 + i.val, by omega⟩)
/-- The new state. -/
def nr (b : Fin 128) (g p : Fin 64) : EReal :=
  (a.abr g p * a.sr (ix3 b g p) - a.abi g p * a.si (ix3 b g p)) + ∑ i, a.uu b g i * a.bbr g p i
def ni (b : Fin 128) (g p : Fin 64) : EReal :=
  (a.abr g p * a.si (ix3 b g p) + a.abi g p * a.sr (ix3 b g p)) + ∑ i, a.uu b g i * a.bbi g p i
/-- The output before its activation. -/
def yy (b : Fin 128) (g : Fin 64) (i : Fin 16) : EReal :=
  ((∑ p, a.nr b g p * a.cr (ix3 g i p)) - ∑ p, a.ni b g p * a.ci (ix3 g i p)) + a.d (ix2 g i) * a.uu b g i

/-- Every entry is a number and no pole is zero. -/
structure Ok : Prop where
  u : ∀ x, Num (a.u x)
  are : ∀ x, Num (a.are x)
  aim : ∀ x, Num (a.aim x)
  ls : ∀ x, Num (a.ls x)
  br : ∀ x, Num (a.br x)
  bi : ∀ x, Num (a.bi x)
  cr : ∀ x, Num (a.cr x)
  ci : ∀ x, Num (a.ci x)
  sr : ∀ x, Num (a.sr x)
  si : ∀ x, Num (a.si x)
  pole : ∀ g p, a.den g p ≠ 0

variable {a}

theorem Ok.den (h : a.Ok) (g p : Fin 64) : Num (a.den g p) := ((h.are _).mul (h.are _)).add ((h.aim _).mul (h.aim _))
theorem Ok.abr (h : a.Ok) (g p : Fin 64) : Num (a.abr g p) := (((h.ls _).exp.mul (h.are _)).exp).mul ((h.ls _).exp.mul (h.aim _)).cos
theorem Ok.abi (h : a.Ok) (g p : Fin 64) : Num (a.abi g p) := (((h.ls _).exp.mul (h.are _)).exp).mul ((h.ls _).exp.mul (h.aim _)).sin
theorem Ok.fr (h : a.Ok) (g p : Fin 64) : Num (a.fr g p) :=
  ((((h.abr g p).sub Num.one).mul (h.are _)).add ((h.abi g p).mul (h.aim _))).div (h.den g p) (h.pole g p)
theorem Ok.fi (h : a.Ok) (g p : Fin 64) : Num (a.fi g p) :=
  (((h.abi g p).mul (h.are _)).sub (((h.abr g p).sub Num.one).mul (h.aim _))).div (h.den g p) (h.pole g p)
theorem Ok.bbr (h : a.Ok) (g p : Fin 64) (i : Fin 16) : Num (a.bbr g p i) := ((h.fr g p).mul (h.br _)).sub ((h.fi g p).mul (h.bi _))
theorem Ok.bbi (h : a.Ok) (g p : Fin 64) (i : Fin 16) : Num (a.bbi g p i) := ((h.fr g p).mul (h.bi _)).add ((h.fi g p).mul (h.br _))
theorem Ok.nr (h : a.Ok) (b : Fin 128) (g p : Fin 64) : Num (a.nr b g p) :=
  (((h.abr g p).mul (h.sr _)).sub ((h.abi g p).mul (h.si _))).add (Num.sum fun i => (h.u _).mul (h.bbr g p i))
theorem Ok.ni (h : a.Ok) (b : Fin 128) (g p : Fin 64) : Num (a.ni b g p) :=
  (((h.abr g p).mul (h.si _)).add ((h.abi g p).mul (h.sr _))).add (Num.sum fun i => (h.u _).mul (h.bbi g p i))

end Args

/-- The activation. -/
def act (x : EReal) : EReal :=
  x * (Ideal.ofBits .f32 0x3F000000#32 * (1 + Ideal.tanh (Ideal.ofBits .f32 0x3F4C422A#32 * (x + Ideal.ofBits .f32 0x3D372713#32 * (x * x * x)))))

end Cert.S5

end
-- ==== Proof.S5Pay.lean ====
/-
The one step of the state space mixer on its blocks, over the extended reals: entries of the new states and of the output.
-/
module

public import proofs.«01_k».proof.Proof.Gen.Kernel3Ideal.Skeleton
public import proofs.«01_k».proof.Proof.S5Spec

@[expose] public section

set_option maxRecDepth 16384

noncomputable section

namespace Cert.S5

open Cert.Kernel3Ideal Cert.Kernel3Ideal.Gen
open Idealize.ShloMosaic

/-! ## The payloads -/

theorem pay2_at (x : FVec Ideal S128x128 .f32) (w : FVec Ideal S1x128x1024 .f32) (hx : ∀ y, Num (x y)) (hw : ∀ y, Num (w y))
    (b : Fin 128) (l : Fin 1024) :
    (k0_pay2 (F := Ideal) x w : S128x1024.Idx → EReal) (ix2 b l) = ∑ j : Fin 128, x (ix2 b j) * w (ix3 0 j l) := by
  unfold k0_pay2
  pointwise
  have ex (j) : (x (ix2 b j) : EReal) - x (ix2 b j) = 0 := (hx _).sub_self
  have ew (j) : (w (ix3 0 j l) : EReal) - w (ix3 0 j l) = 0 := (hw _).sub_self
  simp [ex, ew]

theorem pay8_at (v : FVec Ideal S128x1024 .f32) (x3 x4 : FVec Ideal S1x1x512 .f32) (x6 x7 : FVec Ideal S128x512 .f32) (b : Fin 128) (l : Fin 512) :
    (k0_pay8 (F := Ideal) v (k0_pay4 x4) (k0_pay6 x7) (k0_pay7 x3 x6) : S128x512.Idx → EReal) (ix2 b l) =
      (x3 (ix3 0 0 l) * x6 (ix2 b l) - x4 (ix3 0 0 l) * x7 (ix2 b l)) + v (ix2 b ⟨l.val, by omega⟩) := by
  unfold k0_pay8 k0_pay4 k0_pay6 k0_pay7 k0_pay3 k0_pay5
  pointwise

theorem pay9_at (v : FVec Ideal S128x1024 .f32) (x3 x4 : FVec Ideal S1x1x512 .f32) (x6 x7 : FVec Ideal S128x512 .f32) (b : Fin 128) (l : Fin 512) :
    (k0_pay9 (F := Ideal) v (k0_pay3 x3) (k0_pay4 x4) (k0_pay5 x6) (k0_pay6 x7) : S128x512.Idx → EReal) (ix2 b l) =
      (x3 (ix3 0 0 l) * x7 (ix2 b l) + x4 (ix3 0 0 l) * x6 (ix2 b l)) + v (ix2 b ⟨512 + l.val, by omega⟩) := by
  unfold k0_pay9 k0_pay3 k0_pay4 k0_pay5 k0_pay6
  pointwise

theorem pay10_at (v : FVec Ideal S128x1024 .f32) (y3 y4 : FVec Ideal S1x512 .f32) (y6 y7 y8 : FVec Ideal S128x512 .f32)
    (w : FVec Ideal S1x1024x128 .f32)
    (hr : ∀ y, Num (k0_pay8 (F := Ideal) v y4 y7 y8 y)) (hi : ∀ y, Num (k0_pay9 (F := Ideal) v y3 y4 y6 y7 y)) (hw : ∀ y, Num (w y))
    (b : Fin 128) (o : Fin 128) :
    (k0_pay10 (F := Ideal) v y3 y4 y6 y7 y8 w : S128x128.Idx → EReal) (ix2 b o) =
      (∑ l : Fin 512, (k0_pay8 (F := Ideal) v y4 y7 y8 : S128x512.Idx → EReal) (ix2 b l) * w (ix3 0 ⟨l.val, by omega⟩ o)) +
        ∑ l : Fin 512, (k0_pay9 (F := Ideal) v y3 y4 y6 y7 : S128x512.Idx → EReal) (ix2 b l) * w (ix3 0 ⟨512 + l.val, by omega⟩ o) := by
  unfold k0_pay10
  generalize k0_pay8 (F := Ideal) v y4 y7 y8 = R at hr ⊢
  generalize k0_pay9 (F := Ideal) v y3 y4 y6 y7 = I at hi ⊢
  pointwise
  have er (j) : (R (ix2 b j) : EReal) - R (ix2 b j) = 0 := (hr _).sub_self
  have ei (j) : (I (ix2 b j) : EReal) - I (ix2 b j) = 0 := (hi _).sub_self
  have ew (j) : (w (ix3 0 j o) : EReal) - w (ix3 0 j o) = 0 := (hw _).sub_self
  simp only [er, ei, ew, sub_zero, mul_zero, zero_mul, Finset.sum_const_zero, add_zero]

theorem pay1_at (x0 : FVec Ideal S128x128 .f32) (v : FVec Ideal S128x128 .f32) (x5 : FVec Ideal S1x1x128 .f32) (b o : Fin 128) :
    (k0_pay1 (F := Ideal) x0 v x5 : S128x128.Idx → EReal) (ix2 b o) = act (v (ix2 b o) + x5 (ix3 0 0 o) * x0 (ix2 b o)) := by
  unfold k0_pay1 act
  pointwise
  rw [mul_comm (Ideal.ofBits FTy.f32 _) (v (ix2 b o) + _), mul_assoc]

end Cert.S5

end
-- ==== Proof.S5Host.lean ====
/-
What the host hands the state space step, entry by entry, over the extended reals.
-/
module

public import proofs.«01_k».proof.Proof.S5Pay
public import proofs.«01_k».proof.Proof.Gen.Kernel3Ideal.Frame

@[expose] public section

set_option maxRecDepth 16384

noncomputable section

namespace Cert.S5

open Cert.Kernel3Ideal Cert.Kernel3Ideal.Gen
open Idealize.ShloMosaic
open Idealize.ShloMosaic.TcCoe

variable (m : (ℓ : Loc nD τ sig) → Buf (Elt Ideal) ℓ) (c : Dev nD)

/-- The arguments of the program. -/
def args : Args where
  u := m ((c.tc : Thread nD τ).loc main_arg0)
  are := m ((c.tc : Thread nD τ).loc main_arg1)
  aim := m ((c.tc : Thread nD τ).loc main_arg2)
  ls := m ((c.tc : Thread nD τ).loc main_arg3)
  br := m ((c.tc : Thread nD τ).loc main_arg4)
  bi := m ((c.tc : Thread nD τ).loc main_arg5)
  cr := m ((c.tc : Thread nD τ).loc main_arg6)
  ci := m ((c.tc : Thread nD τ).loc main_arg7)
  d := m ((c.tc : Thread nD τ).loc main_arg8)
  sr := m ((c.tc : Thread nD τ).loc main_arg9)
  si := m ((c.tc : Thread nD τ).loc main_arg10)

/-- An entry of the identity. -/
def eye (x y : ℕ) : EReal := if x = y then 1 else 0

theorem eye_num (x y : ℕ) : Num (eye x y) := Num.ite

theorem eye_at (x y : ℕ) (hx : x < 8) (hy : y < 8) :
    (FloatOps.uitofp (F := Ideal) FTy.f32 (IntOp.cmpi CmpIPredicate.eq (IntOp.addi (BitVec.ofNat 32 x) 0#32) (BitVec.ofNat 32 y)) : EReal) = eye x y := by
  have e : IntOp.cmpi CmpIPredicate.eq (IntOp.addi (BitVec.ofNat 32 x) 0#32) (BitVec.ofNat 32 y) = if x = y then 1#1 else 0#1 := by
    have h : ∀ x y : Fin 8, IntOp.cmpi CmpIPredicate.eq (IntOp.addi (BitVec.ofNat 32 x.val) 0#32) (BitVec.ofNat 32 y.val) = if x.val = y.val then 1#1 else 0#1 := by decide
    exact h ⟨x, hx⟩ ⟨y, hy⟩
  rw [e]
  unfold eye
  show (((if x = y then 1#1 else 0#1 : BitVec 1).toNat : ℝ) : EReal) = _
  split <;> simp

theorem entry81 (j : Fin 8) (l : Fin 512) : (V m c main_v81 : S8x1x512.Idx → EReal) (ix3 j 0 l) =
    (args m c).abr ⟨j.val * 8 + l.val / 64, by omega⟩ ⟨l.val % 64, by omega⟩ := by
  have e : V m c main_v81 = StableHlo.after hostOps0 (fun b => m (c, b)) (Proc.tc.devRef main_v81) := rfl
  rw [e]
  entry_read
  pointwise
  rfl

theorem entry82 (j : Fin 8) (l : Fin 512) : (V m c main_v82 : S8x1x512.Idx → EReal) (ix3 j 0 l) =
    (args m c).abi ⟨j.val * 8 + l.val / 64, by omega⟩ ⟨l.val % 64, by omega⟩ := by
  have e : V m c main_v82 = StableHlo.after hostOps0 (fun b => m (c, b)) (Proc.tc.devRef main_v82) := rfl
  rw [e]
  entry_read
  pointwise
  rfl

theorem entry83 (j : Fin 8) (o : Fin 128) : (V m c main_v83 : S8x1x128.Idx → EReal) (ix3 j 0 o) =
    (args m c).d (ix2 ⟨j.val * 8 + o.val / 16, by omega⟩ ⟨o.val % 16, by omega⟩) := by
  have e : V m c main_v83 = StableHlo.after hostOps0 (fun b => m (c, b)) (Proc.tc.devRef main_v83) := rfl
  rw [e]
  entry_read
  pointwise
  rfl

theorem entry84 (b : Fin 128) (l : Fin 4096) : (V m c main_v84 : S128x4096.Idx → EReal) (ix2 b l) =
    (args m c).sr (ix3 b ⟨l.val / 64, by omega⟩ ⟨l.val % 64, by omega⟩) := by
  have e : V m c main_v84 = StableHlo.after hostOps0 (fun b => m (c, b)) (Proc.tc.devRef main_v84) := rfl
  rw [e]
  entry_read
  pointwise
  rfl

theorem entry85 (b : Fin 128) (l : Fin 4096) : (V m c main_v85 : S128x4096.Idx → EReal) (ix2 b l) =
    (args m c).si (ix3 b ⟨l.val / 64, by omega⟩ ⟨l.val % 64, by omega⟩) := by
  have e : V m c main_v85 = StableHlo.after hostOps0 (fun b => m (c, b)) (Proc.tc.devRef main_v85) := rfl
  rw [e]
  entry_read
  pointwise
  rfl

end Cert.S5

end
-- ==== Proof.S5Mats.lean ====
/-
The two block-diagonal matrices the host hands the state space step, entry by entry, over the extended reals.
-/
module

public import proofs.«01_k».proof.Proof.S5Host

@[expose] public section

set_option maxRecDepth 16384

noncomputable section

namespace Cert.S5

open Cert.Kernel3Ideal Cert.Kernel3Ideal.Gen
open Idealize.ShloMosaic
open Idealize.ShloMosaic.TcCoe

variable (m : (ℓ : Loc nD τ sig) → Buf (Elt Ideal) ℓ) (c : Dev nD)

/-- The input matrix of eight groups. -/
def bbBlk (a : Args) (j : Fin 8) (r : Fin 128) (l : Fin 1024) : EReal :=
  if h : l.val < 512 then
    a.bbr ⟨j.val * 8 + r.val / 16, by omega⟩ ⟨l.val % 64, by omega⟩ ⟨r.val % 16, by omega⟩ * eye (r.val / 16) (l.val / 64)
  else a.bbi ⟨j.val * 8 + r.val / 16, by omega⟩ ⟨(l.val - 512) % 64, by omega⟩ ⟨r.val % 16, by omega⟩ * eye (r.val / 16) ((l.val - 512) / 64)

/-- The output matrix of eight groups. -/
def cBlk (a : Args) (j : Fin 8) (l : Fin 1024) (o : Fin 128) : EReal :=
  if h : l.val < 512 then
    a.cr (ix3 ⟨j.val * 8 + l.val / 64, by omega⟩ ⟨o.val % 16, by omega⟩ ⟨l.val % 64, by omega⟩) * eye (l.val / 64) (o.val / 16)
  else -a.ci (ix3 ⟨j.val * 8 + (l.val - 512) / 64, by omega⟩ ⟨o.val % 16, by omega⟩ ⟨(l.val - 512) % 64, by omega⟩) *
    eye ((l.val - 512) / 64) (o.val / 16)

set_option maxHeartbeats 1000000 in
theorem entry62 (j : Fin 8) (r : Fin 128) (l : Fin 1024) :
    (V m c main_v62 : S8x128x1024.Idx → EReal) (ix3 j r l) = bbBlk (args m c) j r l := by
  have e : V m c main_v62 = StableHlo.after hostOps0 (fun b => m (c, b)) (Proc.tc.devRef main_v62) := rfl
  rw [e]
  entry_read
  pointwise
  clear e
  refine dite_congr rfl (fun h => ?_) (fun h => ?_)
  · exact congrArg₂ (fun x y : EReal => x * y) rfl (eye_at _ _ (by omega) (by omega))
  · exact congrArg₂ (fun x y : EReal => x * y) rfl (eye_at _ _ (by omega) (by omega))

set_option maxHeartbeats 1000000 in
theorem entry80 (j : Fin 8) (l : Fin 1024) (o : Fin 128) :
    (V m c main_v80 : S8x1024x128.Idx → EReal) (ix3 j l o) = cBlk (args m c) j l o := by
  have e : V m c main_v80 = StableHlo.after hostOps0 (fun b => m (c, b)) (Proc.tc.devRef main_v80) := rfl
  rw [e]
  entry_read
  pointwise
  clear e
  refine dite_congr rfl (fun h => ?_) (fun h => ?_)
  · exact congrArg₂ (fun x y : EReal => x * y) rfl (eye_at _ _ (by omega) (by omega))
  · exact congrArg₂ (fun x y : EReal => x * y) rfl (eye_at _ _ (by omega) (by omega))

end Cert.S5

end
-- ==== Proof.S5Body.lean ====
/-
One grid point of the state space step: from the blocks it finds, the new states and the outputs of eight groups.
-/
module

public import proofs.«01_k».proof.Proof.S5Mats

@[expose] public section

set_option maxRecDepth 16384

noncomputable section

namespace Cert.S5

open Cert.Kernel3Ideal Cert.Kernel3Ideal.Gen
open Idealize.ShloMosaic

/-! ## The two matrices, by groups -/

section
variable (a : Args) (j : Fin 8)

theorem bb_lo (i : Fin 8) (r : Fin 16) (q : Fin 8) (p : Fin 64) (h1 h2) :
    bbBlk a j ⟨16 * i.val + r.val, h1⟩ ⟨64 * q.val + p.val, h2⟩ = a.bbr ⟨j.val * 8 + i.val, by omega⟩ p r * (if i = q then 1 else 0) := by
  have e1 : (16 * i.val + r.val) / 16 = i.val := by omega
  have e2 : (16 * i.val + r.val) % 16 = r.val := by omega
  have e3 : (64 * q.val + p.val) / 64 = q.val := by omega
  have e4 : (64 * q.val + p.val) % 64 = p.val := by omega
  have h : 64 * q.val + p.val < 512 := by omega
  unfold bbBlk
  rw [dif_pos h]
  unfold eye
  simp only [e1, e2, e3, e4, Fin.ext_iff]

theorem bb_hi (i : Fin 8) (r : Fin 16) (q : Fin 8) (p : Fin 64) (h1 h2) :
    bbBlk a j ⟨16 * i.val + r.val, h1⟩ ⟨512 + (64 * q.val + p.val), h2⟩ = a.bbi ⟨j.val * 8 + i.val, by omega⟩ p r * (if i = q then 1 else 0) := by
  have e1 : (16 * i.val + r.val) / 16 = i.val := by omega
  have e2 : (16 * i.val + r.val) % 16 = r.val := by omega
  have e0 : 512 + (64 * q.val + p.val) - 512 = 64 * q.val + p.val := by omega
  have e3 : (64 * q.val + p.val) / 64 = q.val := by omega
  have e4 : (64 * q.val + p.val) % 64 = p.val := by omega
  have h : ¬ (512 + (64 * q.val + p.val) < 512) := by omega
  unfold bbBlk
  rw [dif_neg h]
  unfold eye
  simp only [e0, e1, e2, e3, e4, Fin.ext_iff]

theorem c_lo (q : Fin 8) (p : Fin 64) (o : Fin 8) (i : Fin 16) (h1 h2) :
    cBlk a j ⟨64 * q.val + p.val, h1⟩ ⟨16 * o.val + i.val, h2⟩ = a.cr (ix3 ⟨j.val * 8 + q.val, by omega⟩ i p) * (if q = o then 1 else 0) := by
  have e1 : (16 * o.val + i.val) / 16 = o.val := by omega
  have e2 : (16 * o.val + i.val) % 16 = i.val := by omega
  have e3 : (64 * q.val + p.val) / 64 = q.val := by omega
  have e4 : (64 * q.val + p.val) % 64 = p.val := by omega
  have h : 64 * q.val + p.val < 512 := by omega
  unfold cBlk
  rw [dif_pos h]
  unfold eye
  simp only [e1, e2, e3, e4, Fin.ext_iff]

theorem c_hi (q : Fin 8) (p : Fin 64) (o : Fin 8) (i : Fin 16) (h1 h2) :
    cBlk a j ⟨512 + (64 * q.val + p.val), h1⟩ ⟨16 * o.val + i.val, h2⟩ = -a.ci (ix3 ⟨j.val * 8 + q.val, by omega⟩ i p) * (if q = o then 1 else 0) := by
  have e1 : (16 * o.val + i.val) / 16 = o.val := by omega
  have e2 : (16 * o.val + i.val) % 16 = i.val := by omega
  have e0 : 512 + (64 * q.val + p.val) - 512 = 64 * q.val + p.val := by omega
  have e3 : (64 * q.val + p.val) / 64 = q.val := by omega
  have e4 : (64 * q.val + p.val) % 64 = p.val := by omega
  have h : ¬ (512 + (64 * q.val + p.val) < 512) := by omega
  unfold cBlk
  rw [dif_neg h]
  unfold eye
  simp only [e0, e1, e2, e3, e4, Fin.ext_iff]

variable {a}

theorem bb_num (ok : a.Ok) (r : Fin 128) (l : Fin 1024) : Num (bbBlk a j r l) := by
  unfold bbBlk
  split
  · exact (ok.bbr _ _ _).mul (eye_num _ _)
  · exact (ok.bbi _ _ _).mul (eye_num _ _)

theorem c_num (ok : a.Ok) (l : Fin 1024) (o : Fin 128) : Num (cBlk a j l o) := by
  unfold cBlk
  split
  · exact (ok.cr _).mul (eye_num _ _)
  · exact (ok.ci _).neg.mul (eye_num _ _)

end

/-! ## The point -/

/-- The blocks a point finds are the arguments' entries of its eight groups. -/
structure Blk (a : Args) (j : Fin 8) (x0 : FVec Ideal S128x128 .f32) (x1 : FVec Ideal S1x128x1024 .f32) (x2 : FVec Ideal S1x1024x128 .f32)
    (x3 x4 : FVec Ideal S1x1x512 .f32) (x5 : FVec Ideal S1x1x128 .f32) (x6 x7 : FVec Ideal S128x512 .f32) : Prop where
  h0 : ∀ b r, x0 (ix2 b r) = a.u (ix2 b ⟨128 * j.val + r.val, by omega⟩)
  h1 : ∀ r l, x1 (ix3 0 r l) = bbBlk a j r l
  h2 : ∀ l o, x2 (ix3 0 l o) = cBlk a j l o
  h3 : ∀ l : Fin 512, x3 (ix3 0 0 l) = a.abr ⟨j.val * 8 + l.val / 64, by omega⟩ ⟨l.val % 64, by omega⟩
  h4 : ∀ l : Fin 512, x4 (ix3 0 0 l) = a.abi ⟨j.val * 8 + l.val / 64, by omega⟩ ⟨l.val % 64, by omega⟩
  h5 : ∀ o : Fin 128, x5 (ix3 0 0 o) = a.d (ix2 ⟨j.val * 8 + o.val / 16, by omega⟩ ⟨o.val % 16, by omega⟩)
  h6 : ∀ b (l : Fin 512), x6 (ix2 b l) = a.sr (ix3 b ⟨j.val * 8 + l.val / 64, by omega⟩ ⟨l.val % 64, by omega⟩)
  h7 : ∀ b (l : Fin 512), x7 (ix2 b l) = a.si (ix3 b ⟨j.val * 8 + l.val / 64, by omega⟩ ⟨l.val % 64, by omega⟩)

namespace Blk

variable {a : Args} {j : Fin 8} {x0 : FVec Ideal S128x128 .f32} {x1 : FVec Ideal S1x128x1024 .f32} {x2 : FVec Ideal S1x1024x128 .f32}
  {x3 x4 : FVec Ideal S1x1x512 .f32} {x5 : FVec Ideal S1x1x128 .f32} {x6 x7 : FVec Ideal S128x512 .f32}

theorem num0 (k : Blk a j x0 x1 x2 x3 x4 x5 x6 x7) (ok : a.Ok) (y : S128x128.Idx) : Num (x0 y) := by
  obtain ⟨b, r, rfl⟩ : ∃ (b : Fin 128) (r : Fin 128), y = ix2 b r := ⟨y 0, y 1, eq_ix2 y⟩
  rw [k.h0]
  exact ok.u _

theorem num1 (k : Blk a j x0 x1 x2 x3 x4 x5 x6 x7) (ok : a.Ok) (y : S1x128x1024.Idx) : Num (x1 y) := by
  obtain ⟨z, b, r, rfl⟩ : ∃ (z : Fin 1) (b : Fin 128) (r : Fin 1024), y = ix3 z b r := ⟨y 0, y 1, y 2, eq_ix3 y⟩
  obtain rfl : z = 0 := Subsingleton.elim _ _
  rw [k.h1]
  exact bb_num j ok _ _

theorem num2 (k : Blk a j x0 x1 x2 x3 x4 x5 x6 x7) (ok : a.Ok) (y : S1x1024x128.Idx) : Num (x2 y) := by
  obtain ⟨z, b, r, rfl⟩ : ∃ (z : Fin 1) (b : Fin 1024) (r : Fin 128), y = ix3 z b r := ⟨y 0, y 1, y 2, eq_ix3 y⟩
  obtain rfl : z = 0 := Subsingleton.elim _ _
  rw [k.h2]
  exact c_num j ok _ _

/-- The input through the input matrix. -/
theorem bu_lo (k : Blk a j x0 x1 x2 x3 x4 x5 x6 x7) (ok : a.Ok) (b : Fin 128) (q : Fin 8) (p : Fin 64) (h) :
    (k0_pay2 (F := Ideal) x0 x1 : S128x1024.Idx → EReal) (ix2 b ⟨64 * q.val + p.val, h⟩) =
      ∑ i, a.uu b ⟨j.val * 8 + q.val, by omega⟩ i * a.bbr ⟨j.val * 8 + q.val, by omega⟩ p i := by
  rw [pay2_at x0 x1 (k.num0 ok) (k.num1 ok), sum_split (k := 16) (by norm_num)]
  refine Eq.trans ?_ (sum_blk (fun i r => a.uu b ⟨j.val * 8 + i.val, by omega⟩ r * a.bbr ⟨j.val * 8 + i.val, by omega⟩ p r) q)
  refine Finset.sum_congr rfl fun i _ => Finset.sum_congr rfl fun r _ => ?_
  rw [k.h0, k.h1, bb_lo, ← mul_assoc]
  have e : 128 * j.val + (16 * i.val + r.val) = (j.val * 8 + i.val) * 16 + r.val := by omega
  unfold Args.uu
  simp only [e]

theorem bu_hi (k : Blk a j x0 x1 x2 x3 x4 x5 x6 x7) (ok : a.Ok) (b : Fin 128) (q : Fin 8) (p : Fin 64) (h) :
    (k0_pay2 (F := Ideal) x0 x1 : S128x1024.Idx → EReal) (ix2 b ⟨512 + (64 * q.val + p.val), h⟩) =
      ∑ i, a.uu b ⟨j.val * 8 + q.val, by omega⟩ i * a.bbi ⟨j.val * 8 + q.val, by omega⟩ p i := by
  rw [pay2_at x0 x1 (k.num0 ok) (k.num1 ok), sum_split (k := 16) (by norm_num)]
  refine Eq.trans ?_ (sum_blk (fun i r => a.uu b ⟨j.val * 8 + i.val, by omega⟩ r * a.bbi ⟨j.val * 8 + i.val, by omega⟩ p r) q)
  refine Finset.sum_congr rfl fun i _ => Finset.sum_congr rfl fun r _ => ?_
  rw [k.h0, k.h1, bb_hi, ← mul_assoc]
  have e : 128 * j.val + (16 * i.val + r.val) = (j.val * 8 + i.val) * 16 + r.val := by omega
  unfold Args.uu
  simp only [e]

/-- The real part of the new state. -/
theorem re (k : Blk a j x0 x1 x2 x3 x4 x5 x6 x7) (ok : a.Ok) (b : Fin 128) (q : Fin 8) (p : Fin 64) (h) :
    (k0_pay8 (F := Ideal) (k0_pay2 x0 x1) (k0_pay4 x4) (k0_pay6 x7) (k0_pay7 x3 x6) : S128x512.Idx → EReal) (ix2 b ⟨64 * q.val + p.val, h⟩) =
      a.nr b ⟨j.val * 8 + q.val, by omega⟩ p := by
  have e3 : (64 * q.val + p.val) / 64 = q.val := by omega
  have e4 : (64 * q.val + p.val) % 64 = p.val := by omega
  rw [pay8_at, k.h3, k.h4, k.h6, k.h7, k.bu_lo ok]
  simp only [e3, e4]
  rfl

/-- The imaginary part of the new state. -/
theorem im (k : Blk a j x0 x1 x2 x3 x4 x5 x6 x7) (ok : a.Ok) (b : Fin 128) (q : Fin 8) (p : Fin 64) (h) :
    (k0_pay9 (F := Ideal) (k0_pay2 x0 x1) (k0_pay3 x3) (k0_pay4 x4) (k0_pay5 x6) (k0_pay6 x7) : S128x512.Idx → EReal) (ix2 b ⟨64 * q.val + p.val, h⟩) =
      a.ni b ⟨j.val * 8 + q.val, by omega⟩ p := by
  have e3 : (64 * q.val + p.val) / 64 = q.val := by omega
  have e4 : (64 * q.val + p.val) % 64 = p.val := by omega
  rw [pay9_at, k.h3, k.h4, k.h6, k.h7, k.bu_hi ok]
  simp only [e3, e4]
  rfl

theorem split512 (l : Fin 512) : ∃ (q : Fin 8) (p : Fin 64) (h : 64 * q.val + p.val < 512), l = ⟨64 * q.val + p.val, h⟩ :=
  ⟨⟨l.val / 64, by omega⟩, ⟨l.val % 64, by omega⟩, by show 64 * (l.val / 64) + l.val % 64 < 512; omega,
    Fin.ext (by show l.val = 64 * (l.val / 64) + l.val % 64; omega)⟩

theorem re_num (k : Blk a j x0 x1 x2 x3 x4 x5 x6 x7) (ok : a.Ok) (y : S128x512.Idx) :
    Num (k0_pay8 (F := Ideal) (k0_pay2 x0 x1) (k0_pay4 x4) (k0_pay6 x7) (k0_pay7 x3 x6) y) := by
  obtain ⟨b, l, rfl⟩ : ∃ (b : Fin 128) (l : Fin 512), y = ix2 b l := ⟨y 0, y 1, eq_ix2 y⟩
  obtain ⟨q, p, h, rfl⟩ := split512 l
  have e := k.re ok b q p h
  exact e ▸ ok.nr _ _ _

theorem im_num (k : Blk a j x0 x1 x2 x3 x4 x5 x6 x7) (ok : a.Ok) (y : S128x512.Idx) :
    Num (k0_pay9 (F := Ideal) (k0_pay2 x0 x1) (k0_pay3 x3) (k0_pay4 x4) (k0_pay5 x6) (k0_pay6 x7) y) := by
  obtain ⟨b, l, rfl⟩ : ∃ (b : Fin 128) (l : Fin 512), y = ix2 b l := ⟨y 0, y 1, eq_ix2 y⟩
  obtain ⟨q, p, h, rfl⟩ := split512 l
  have e := k.im ok b q p h
  exact e ▸ ok.ni _ _ _

/-- The output. -/
theorem out (k : Blk a j x0 x1 x2 x3 x4 x5 x6 x7) (ok : a.Ok) (b : Fin 128) (o : Fin 8) (i : Fin 16) (h) :
    (k0_pay1 (F := Ideal) x0 (k0_pay10 (k0_pay2 x0 x1) (k0_pay3 x3) (k0_pay4 x4) (k0_pay5 x6) (k0_pay6 x7) (k0_pay7 x3 x6) x2) x5 : S128x128.Idx → EReal)
      (ix2 b ⟨16 * o.val + i.val, h⟩) = act (a.yy b ⟨j.val * 8 + o.val, by omega⟩ i) := by
  have e1 : (16 * o.val + i.val) / 16 = o.val := by omega
  have e2 : (16 * o.val + i.val) % 16 = i.val := by omega
  have e : 128 * j.val + (16 * o.val + i.val) = (j.val * 8 + o.val) * 16 + i.val := by omega
  rw [pay1_at, pay10_at _ _ _ _ _ _ _ (k.re_num ok) (k.im_num ok) (k.num2 ok), k.h5, k.h0]
  refine congrArg act ?_
  unfold Args.yy
  refine congrArg₂ (fun x y : EReal => x + y) ?_ ?_
  · rw [sub_eq_add_neg]
    refine congrArg₂ (fun x y : EReal => x + y) ?_ ?_
    · rw [sum_split (k := 64) (by norm_num)]
      refine Eq.trans ?_ (sum_blk (fun q p => a.nr b ⟨j.val * 8 + q.val, by omega⟩ p * a.cr (ix3 ⟨j.val * 8 + q.val, by omega⟩ i p)) o)
      refine Finset.sum_congr rfl fun q _ => Finset.sum_congr rfl fun p _ => ?_
      rw [k.re ok, k.h2, c_lo, ← mul_assoc]
    · rw [sum_split (k := 64) (by norm_num), ← sum_neg_num fun p => (ok.ni _ _ _).mul (ok.ci _)]
      refine Eq.trans ?_ (sum_blk (fun q p => -(a.ni b ⟨j.val * 8 + q.val, by omega⟩ p * a.ci (ix3 ⟨j.val * 8 + q.val, by omega⟩ i p))) o)
      refine Finset.sum_congr rfl fun q _ => Finset.sum_congr rfl fun p _ => ?_
      rw [k.im ok, k.h2, c_hi, ← mul_assoc, mul_neg]
  · unfold Args.uu
    simp only [e, e1, e2]

end Blk

end Cert.S5

end
-- ==== Proof.S5Blk.lean ====
/-
The blocks the state space step reads at each grid point, and its results' closed forms.
-/
module

public import proofs.«01_k».proof.Proof.S5Body
public import proofs.«01_k».proof.Proof.Gen.Kernel3Ideal.Value

@[expose] public section

set_option maxRecDepth 16384

noncomputable section

namespace Cert.S5

open Cert.Kernel3Ideal Cert.Kernel3Ideal.Gen
open Idealize.ShloMosaic
open Idealize.ShloMosaic.TcCoe

/-! ## The results -/

/-- The outputs and the two parts of the new states. -/
def OUT (a : Args) : (⟨2, ![128, 1024]⟩ : Shape).Idx → EReal := fun y =>
  act (a.yy (y 0) ⟨(y 1).val / 16, by have : (y 1).val < 1024 := (y 1).isLt; omega⟩ ⟨(y 1).val % 16, by omega⟩)
def RE (a : Args) : (⟨2, ![128, 4096]⟩ : Shape).Idx → EReal := fun y =>
  a.nr (y 0) ⟨(y 1).val / 64, by have : (y 1).val < 4096 := (y 1).isLt; omega⟩ ⟨(y 1).val % 64, by omega⟩
def IM (a : Args) : (⟨2, ![128, 4096]⟩ : Shape).Idx → EReal := fun y =>
  a.ni (y 0) ⟨(y 1).val / 64, by have : (y 1).val < 4096 := (y 1).isLt; omega⟩ ⟨(y 1).val % 64, by omega⟩

variable (m : (ℓ : Loc nD τ sig) → Buf (Elt Ideal) ℓ) (c : Dev nD)

/-! ## The blocks -/

theorem idx : ∀ t : Fin cfg0.N, win0_0.index t = ![0, t.val] ∧ win0_1.index t = ![t.val, 0, 0] ∧
    win0_2.index t = ![t.val, 0, 0] ∧ win0_3.index t = ![t.val, 0, 0] ∧ win0_4.index t = ![t.val, 0, 0] ∧
    win0_5.index t = ![t.val, 0, 0] ∧ win0_6.index t = ![0, t.val] ∧ win0_7.index t = ![0, t.val] ∧
    win0_8.index t = ![0, t.val] ∧ win0_9.index t = ![0, t.val] ∧ win0_10.index t = ![0, t.val] := by decide +kernel

theorem lt8 (t : Fin cfg0.N) : t.val < 8 := lt_of_lt_of_eq t.isLt N_0

theorem b0 (t : Fin cfg0.N) (b r : Fin 128) : (iblk m c 0 t : S128x128.Idx → EReal) (ix2 b r) =
    (args m c).u (ix2 b ⟨128 * t.val + r.val, by have := lt8 t; omega⟩) := by
  unfold args
  blk_ext [iblk, V_main_arg0, idx t]

theorem b1 (t : Fin cfg0.N) (r : Fin 128) (l : Fin 1024) : (iblk m c 1 t : S1x128x1024.Idx → EReal) (ix3 0 r l) =
    bbBlk (args m c) ⟨t.val, lt8 t⟩ r l := by
  rw [← entry62]
  blk_ext [iblk, idx t]

theorem b2 (t : Fin cfg0.N) (l : Fin 1024) (o : Fin 128) : (iblk m c 2 t : S1x1024x128.Idx → EReal) (ix3 0 l o) =
    cBlk (args m c) ⟨t.val, lt8 t⟩ l o := by
  rw [← entry80]
  blk_ext [iblk, idx t]

theorem b3 (t : Fin cfg0.N) (l : Fin 512) : (iblk m c 3 t : S1x1x512.Idx → EReal) (ix3 0 0 l) =
    (args m c).abr ⟨t.val * 8 + l.val / 64, by have := lt8 t; omega⟩ ⟨l.val % 64, by omega⟩ := by
  refine Eq.trans ?_ (entry81 m c ⟨t.val, lt8 t⟩ l)
  blk_ext [iblk, idx t]

theorem b4 (t : Fin cfg0.N) (l : Fin 512) : (iblk m c 4 t : S1x1x512.Idx → EReal) (ix3 0 0 l) =
    (args m c).abi ⟨t.val * 8 + l.val / 64, by have := lt8 t; omega⟩ ⟨l.val % 64, by omega⟩ := by
  refine Eq.trans ?_ (entry82 m c ⟨t.val, lt8 t⟩ l)
  blk_ext [iblk, idx t]

theorem b5 (t : Fin cfg0.N) (o : Fin 128) : (iblk m c 5 t : S1x1x128.Idx → EReal) (ix3 0 0 o) =
    (args m c).d (ix2 ⟨t.val * 8 + o.val / 16, by have := lt8 t; omega⟩ ⟨o.val % 16, by omega⟩) := by
  refine Eq.trans ?_ (entry83 m c ⟨t.val, lt8 t⟩ o)
  blk_ext [iblk, idx t]

theorem b6 (t : Fin cfg0.N) (b : Fin 128) (l : Fin 512) : (iblk m c 6 t : S128x512.Idx → EReal) (ix2 b l) =
    (args m c).sr (ix3 b ⟨t.val * 8 + l.val / 64, by have := lt8 t; omega⟩ ⟨l.val % 64, by omega⟩) := by
  have ht := lt8 t
  have e := entry84 m c b ⟨512 * t.val + l.val, by omega⟩
  have e1 : (512 * t.val + l.val) / 64 = t.val * 8 + l.val / 64 := by omega
  have e2 : (512 * t.val + l.val) % 64 = l.val % 64 := by omega
  simp only [e1, e2] at e
  refine Eq.trans ?_ e
  blk_ext [iblk, idx t]

theorem b7 (t : Fin cfg0.N) (b : Fin 128) (l : Fin 512) : (iblk m c 7 t : S128x512.Idx → EReal) (ix2 b l) =
    (args m c).si (ix3 b ⟨t.val * 8 + l.val / 64, by have := lt8 t; omega⟩ ⟨l.val % 64, by omega⟩) := by
  have ht := lt8 t
  have e := entry85 m c b ⟨512 * t.val + l.val, by omega⟩
  have e1 : (512 * t.val + l.val) / 64 = t.val * 8 + l.val / 64 := by omega
  have e2 : (512 * t.val + l.val) % 64 = l.val % 64 := by omega
  simp only [e1, e2] at e
  refine Eq.trans ?_ e
  blk_ext [iblk, idx t]

theorem blk (t : Fin cfg0.N) : Blk (args m c) ⟨t.val, lt8 t⟩ (iblk m c 0 t) (iblk m c 1 t) (iblk m c 2 t) (iblk m c 3 t) (iblk m c 4 t)
    (iblk m c 5 t) (iblk m c 6 t) (iblk m c 7 t) :=
  ⟨b0 m c t, b1 m c t, b2 m c t, b3 m c t, b4 m c t, b5 m c t, b6 m c t, b7 m c t⟩

end Cert.S5

end
-- ==== Proof.S5Val.lean ====
/-
The arrays the state space step leaves, over the extended reals.
-/
module

public import proofs.«01_k».proof.Proof.S5Blk

@[expose] public section

set_option maxRecDepth 16384

noncomputable section

namespace Cert.S5

open Cert.Kernel3Ideal Cert.Kernel3Ideal.Gen
open Idealize.ShloMosaic
open Idealize.ShloMosaic.TcCoe

/-! ## What a point leaves -/

section
variable (x0 : FVec Ideal S128x128 .f32) (x1 : FVec Ideal S1x128x1024 .f32) (x2 : FVec Ideal S1x1024x128 .f32)
  (x3 x4 : FVec Ideal S1x1x512 .f32) (x5 : FVec Ideal S1x1x128 .f32) (x6 x7 : FVec Ideal S128x512 .f32)

theorem z2 : (![0, 0] : Fin 2 → ℕ) = fun _ => 0 := by decide
theorem z3 : (![0, 0, 0] : Fin 3 → ℕ) = fun _ => 0 := by decide

theorem out8_eq : (out0_8 (F := Ideal) x0 x1 x2 x3 x4 x5 x6 x7 : S128x128.Idx → EReal) =
    (k0_pay1 (F := Ideal) x0 (k0_pay10 (k0_pay2 x0 x1) (k0_pay3 x3) (k0_pay4 x4) (k0_pay5 x6) (k0_pay6 x7) (k0_pay7 x3 x6) x2) x5 : S128x128.Idx → EReal) := by
  unfold out0_8 k0_pay16 k0_pay15 k0_pay14 k0_pay13 k0_pay12 k0_pay11
  rw [View.canon_unit_zero z2]
  simp only [View.ld_unit_zero (S := S128x128) z2, View.ld_unit_zero (S := S128x512) z2, View.ld_unit_zero (S := S1x128x1024) z3,
    View.ld_unit_zero (S := S1x1x512) z3, View.ld_unit_zero (S := S1x1x128) z3, View.ld_unit_zero (S := S1x1024x128) z3]

theorem out9_eq : (out0_9 (F := Ideal) x0 x1 x2 x3 x4 x5 x6 x7 : S128x512.Idx → EReal) =
    (k0_pay8 (F := Ideal) (k0_pay2 x0 x1) (k0_pay4 x4) (k0_pay6 x7) (k0_pay7 x3 x6) : S128x512.Idx → EReal) := by
  unfold out0_9 k0_pay16 k0_pay15 k0_pay13 k0_pay11
  rw [View.canon_unit_zero z2]
  simp only [View.ld_unit_zero (S := S128x128) z2, View.ld_unit_zero (S := S128x512) z2, View.ld_unit_zero (S := S1x128x1024) z3,
    View.ld_unit_zero (S := S1x1x512) z3, View.ld_unit_zero (S := S1x1x128) z3, View.ld_unit_zero (S := S1x1024x128) z3]

theorem out10_eq : (out0_10 (F := Ideal) x0 x1 x2 x3 x4 x5 x6 x7 : S128x512.Idx → EReal) =
    (k0_pay9 (F := Ideal) (k0_pay2 x0 x1) (k0_pay3 x3) (k0_pay4 x4) (k0_pay5 x6) (k0_pay6 x7) : S128x512.Idx → EReal) := by
  unfold out0_10 k0_pay15 k0_pay14 k0_pay13 k0_pay12 k0_pay11
  rw [View.canon_unit_zero z2]
  simp only [View.ld_unit_zero (S := S128x128) z2, View.ld_unit_zero (S := S128x512) z2, View.ld_unit_zero (S := S1x128x1024) z3,
    View.ld_unit_zero (S := S1x1x512) z3, View.ld_unit_zero (S := S1x1x128) z3, View.ld_unit_zero (S := S1x1024x128) z3]

end

/-! ## The arrays after the grid -/

variable (m : (ℓ : Loc nD τ sig) → Buf (Elt Ideal) ℓ) (c : Dev nD)

theorem RE_at (a : Args) (b : Fin 128) (l : Fin 4096) :
    RE a (ix2 b l) = a.nr b ⟨l.val / 64, by omega⟩ ⟨l.val % 64, by omega⟩ := rfl
theorem IM_at (a : Args) (b : Fin 128) (l : Fin 4096) :
    IM a (ix2 b l) = a.ni b ⟨l.val / 64, by omega⟩ ⟨l.val % 64, by omega⟩ := rfl
theorem OUT_at (a : Args) (b : Fin 128) (l : Fin 1024) :
    OUT a (ix2 b l) = act (a.yy b ⟨l.val / 16, by omega⟩ ⟨l.val % 16, by omega⟩) := rfl

set_option maxHeartbeats 2000000 in
theorem arr9 (ok : (args m c).Ok) : ((dats m 0 c).arrAt 9 cfg0.N : S128x4096.Idx → EReal) = RE (args m c) := by
  refine (dats m 0 c).arrAt_eq_of_covers 9 _ (by decide +kernel) fun t hf y => ?_
  have ht := lt8 t
  obtain ⟨b, l, rfl⟩ : ∃ (b : Fin 128) (l : Fin 512), y = ix2 b l := ⟨y 0, y 1, eq_ix2 y⟩
  obtain ⟨q, p, h, rfl⟩ := Blk.split512 l
  rw [after0_9]
  have e : (win0_9.blk t).view.emb (ix2 b ⟨64 * q.val + p.val, h⟩) =
      (ix2 b (⟨512 * t.val + (64 * q.val + p.val), by omega⟩ : Fin 4096) : S128x4096.Idx) := by
    blk_ext [idx t]
  refine Eq.trans ?_ (congrArg (RE (args m c)) e).symm
  refine (congrFun (out9_eq _ _ _ _ _ _ _ _) _).trans (((blk m c t).re ok b q p h).trans ?_)
  rw [RE_at]
  have e1 : (512 * t.val + (64 * q.val + p.val)) / 64 = t.val * 8 + q.val := by omega
  have e2 : (512 * t.val + (64 * q.val + p.val)) % 64 = p.val := by omega
  simp only [e1, e2]

set_option maxHeartbeats 2000000 in
theorem arr10 (ok : (args m c).Ok) : ((dats m 0 c).arrAt 10 cfg0.N : S128x4096.Idx → EReal) = IM (args m c) := by
  refine (dats m 0 c).arrAt_eq_of_covers 10 _ (by decide +kernel) fun t hf y => ?_
  have ht := lt8 t
  obtain ⟨b, l, rfl⟩ : ∃ (b : Fin 128) (l : Fin 512), y = ix2 b l := ⟨y 0, y 1, eq_ix2 y⟩
  obtain ⟨q, p, h, rfl⟩ := Blk.split512 l
  rw [after0_10]
  have e : (win0_10.blk t).view.emb (ix2 b ⟨64 * q.val + p.val, h⟩) =
      (ix2 b (⟨512 * t.val + (64 * q.val + p.val), by omega⟩ : Fin 4096) : S128x4096.Idx) := by
    blk_ext [idx t]
  refine Eq.trans ?_ (congrArg (IM (args m c)) e).symm
  refine (congrFun (out10_eq _ _ _ _ _ _ _ _) _).trans (((blk m c t).im ok b q p h).trans ?_)
  rw [IM_at]
  have e1 : (512 * t.val + (64 * q.val + p.val)) / 64 = t.val * 8 + q.val := by omega
  have e2 : (512 * t.val + (64 * q.val + p.val)) % 64 = p.val := by omega
  simp only [e1, e2]

theorem arr8 (ok : (args m c).Ok) : ((dats m 0 c).arrAt 8 cfg0.N : S128x1024.Idx → EReal) = OUT (args m c) := by
  refine (dats m 0 c).arrAt_eq_of_covers 8 _ (by decide +kernel) fun t hf y => ?_
  have ht := lt8 t
  obtain ⟨b, l, rfl⟩ : ∃ (b : Fin 128) (l : Fin 128), y = ix2 b l := ⟨y 0, y 1, eq_ix2 y⟩
  obtain ⟨o, i, h, rfl⟩ : ∃ (o : Fin 8) (i : Fin 16) (h : 16 * o.val + i.val < 128), l = ⟨16 * o.val + i.val, h⟩ :=
    ⟨⟨l.val / 16, by omega⟩, ⟨l.val % 16, by omega⟩, by show 16 * (l.val / 16) + l.val % 16 < 128; omega,
      Fin.ext (by show l.val = 16 * (l.val / 16) + l.val % 16; omega)⟩
  rw [after0_8]
  have e : (win0_8.blk t).view.emb (ix2 b ⟨16 * o.val + i.val, h⟩) =
      (ix2 b (⟨128 * t.val + (16 * o.val + i.val), by omega⟩ : Fin 1024) : S128x1024.Idx) := by
    blk_ext [idx t]
  refine Eq.trans ?_ (congrArg (OUT (args m c)) e).symm
  refine (congrFun (out8_eq _ _ _ _ _ _ _ _) _).trans (((blk m c t).out ok b o i h).trans ?_)
  rw [OUT_at]
  have e1 : (128 * t.val + (16 * o.val + i.val)) / 16 = t.val * 8 + o.val := by omega
  have e2 : (128 * t.val + (16 * o.val + i.val)) % 16 = i.val := by omega
  simp only [e1, e2]

end Cert.S5

end
-- ==== Proof.S5Pre.lean ====
/-
The precondition of the state space step: every entry is a number and no pole is zero.
-/
module

public import proofs.«01_k».proof.Proof.S5Spec
public import proofs.«01_k».proof.Pre_finite
public import proofs.«01_k».proof.Proof.Gen.Pre_finite
public import Idealize.ShloMosaic.Lib.ReduceAll

@[expose] public section

set_option maxRecDepth 16384

noncomputable section

namespace Cert.S5

open Idealize.ShloMosaic

theorem num_of_lt {x : EReal} (h : Ideal.cmp .olt (max x (-x)) (Ideal.ofBits .f32 0x7F800000#32) = 1#1) : Num x := by
  have e : Ideal.ofBits .f32 0x7F800000#32 = ⊤ := by
    simp [Ideal.ofBits, Ideal.ieee]
  rw [e] at h
  have h' : max x (-x) < ⊤ := by
    by_contra hn
    simp [Ideal.cmp, hn] at h
  induction x with
  | bot => simp at h'
  | top => simp at h'
  | coe r => exact ⟨r, rfl⟩

theorem pos_of_gt {x : EReal} (h : Ideal.cmp .ogt x (Ideal.ofBits .f32 0x00000000#32) = 1#1) : x ≠ 0 := by
  have e : Ideal.ofBits .f32 0x00000000#32 = 0 := by
    simp [Ideal.ofBits, Ideal.ieee]
  rw [e] at h
  rintro rfl
  simp [Ideal.cmp] at h

theorem ok_of_pre (a : Args)
    (h : (Cert.Pre_finite.fn (F := Ideal) a.u a.are a.aim a.ls a.br a.bi a.cr a.ci a.d a.sr a.si) = fun _ => 1#1) : a.Ok := by
  have andi_one (a b : BitVec 1) : IntOp.andi a b = 1#1 ↔ a = 1#1 ∧ b = 1#1 := by revert a b; decide
  have sub : Subsingleton Cert.Pre_finite.S_.Idx := ⟨fun a b => funext fun k => k.elim0⟩
  have pre := congrFun h (fun k : Fin 0 => k.elim0)
  unfold Cert.Pre_finite.fn Cert.Pre_finite.fn_part1 Cert.Pre_finite.fn_part2 at pre
  obtain ⟨pre, p10⟩ := (andi_one _ _).1 pre
  obtain ⟨pre, p9⟩ := (andi_one _ _).1 pre
  obtain ⟨pre, p8⟩ := (andi_one _ _).1 pre
  obtain ⟨pre, p7⟩ := (andi_one _ _).1 pre
  obtain ⟨pre, p6⟩ := (andi_one _ _).1 pre
  obtain ⟨pre, p5⟩ := (andi_one _ _).1 pre
  obtain ⟨pre, p4⟩ := (andi_one _ _).1 pre
  obtain ⟨pre, p3⟩ := (andi_one _ _).1 pre
  obtain ⟨pre, p2⟩ := (andi_one _ _).1 pre
  obtain ⟨p0, p1⟩ := (andi_one _ _).1 pre
  exact
    { u := fun x => num_of_lt (Host.reduce_andi_all _ _ _ _ _ p0 x)
      are := fun x => num_of_lt (Host.reduce_andi_all _ _ _ _ _ p1 x)
      aim := fun x => num_of_lt (Host.reduce_andi_all _ _ _ _ _ p2 x)
      ls := fun x => num_of_lt (Host.reduce_andi_all _ _ _ _ _ p3 x)
      br := fun x => num_of_lt (Host.reduce_andi_all _ _ _ _ _ p4 x)
      bi := fun x => num_of_lt (Host.reduce_andi_all _ _ _ _ _ p5 x)
      cr := fun x => num_of_lt (Host.reduce_andi_all _ _ _ _ _ p6 x)
      ci := fun x => num_of_lt (Host.reduce_andi_all _ _ _ _ _ p7 x)
      sr := fun x => num_of_lt (Host.reduce_andi_all _ _ _ _ _ p8 x)
      si := fun x => num_of_lt (Host.reduce_andi_all _ _ _ _ _ p9 x)
      pole := fun g p => pos_of_gt (Host.reduce_andi_all _ _ _ _ _ p10 (ix2 g p)) }

end Cert.S5

end
-- ==== Proof.S5Ref.lean ====
/-
The plain step of the state space mixer, entry by entry, over the extended reals.
-/
module

public import proofs.«01_k».proof.Proof.S5Spec
public import proofs.«01_k».proof.Proof.Gen.Reference3Ideal.Run

@[expose] public section

set_option maxRecDepth 200000

noncomputable section

namespace Cert.S5

open Cert.Reference3Ideal Cert.Reference3Ideal.Value
open Idealize.ShloMosaic
open Idealize.ShloMosaic.TcCoe

variable (m : (ℓ : Loc nD τ sig) → Buf (Elt Ideal) ℓ) (c : Dev nD)

/-- The arguments of the plain program. -/
def rargs : Args where
  u := m ((c.tc : Thread nD τ).loc main_arg0)
  are := m ((c.tc : Thread nD τ).loc main_arg1)
  aim := m ((c.tc : Thread nD τ).loc main_arg2)
  ls := m ((c.tc : Thread nD τ).loc main_arg3)
  br := m ((c.tc : Thread nD τ).loc main_arg4)
  bi := m ((c.tc : Thread nD τ).loc main_arg5)
  cr := m ((c.tc : Thread nD τ).loc main_arg6)
  ci := m ((c.tc : Thread nD τ).loc main_arg7)
  d := m ((c.tc : Thread nD τ).loc main_arg8)
  sr := m ((c.tc : Thread nD τ).loc main_arg9)
  si := m ((c.tc : Thread nD τ).loc main_arg10)

set_option maxHeartbeats 1000000 in
theorem re_at (b : Fin 128) (l : Fin 4096) : (res_main_v90 (F := Ideal) m c : S128x4096.Idx → EReal) (ix2 b l) =
    (rargs m c).nr b ⟨l.val / 64, by omega⟩ ⟨l.val % 64, by omega⟩ := by
  unfold res_main_v90
  pointwise
  refine Eq.trans (α := EReal) (@add_comm EReal _ _ _) (congrArg₂ (fun x y : EReal => x + y) ?_ (Finset.sum_congr rfl fun x _ =>
    Eq.trans (α := EReal) (@mul_comm EReal _ _ _) (congrArg₂ (fun x y : EReal => x * y) ?_ ?_)))
  · rfl
  · rfl
  · rfl

set_option maxHeartbeats 1000000 in
theorem im_at (b : Fin 128) (l : Fin 4096) : (res_main_v92 (F := Ideal) m c : S128x4096.Idx → EReal) (ix2 b l) =
    (rargs m c).ni b ⟨l.val / 64, by omega⟩ ⟨l.val % 64, by omega⟩ := by
  unfold res_main_v92
  pointwise
  refine Eq.trans (α := EReal) (@add_comm EReal _ _ _) (congrArg₂ (fun x y : EReal => x + y) ?_ (Finset.sum_congr rfl fun x _ =>
    Eq.trans (α := EReal) (@mul_comm EReal _ _ _) (congrArg₂ (fun x y : EReal => x * y) ?_ ?_)))
  · rfl
  · rfl
  · rfl

end Cert.S5

end
-- ==== Proof.S5RefY.lean ====
/-
The plain step of the state space mixer, its outputs entry by entry, over the extended reals.
-/
module

public import proofs.«01_k».proof.Proof.S5Ref

@[expose] public section

set_option maxRecDepth 200000

noncomputable section

namespace Cert.S5

open Cert.Reference3Ideal Cert.Reference3Ideal.Value
open Idealize.ShloMosaic
open Idealize.ShloMosaic.TcCoe

variable (m : (ℓ : Loc nD τ sig) → Buf (Elt Ideal) ℓ) (c : Dev nD)

set_option maxHeartbeats 4000000 in
theorem y_at (b : Fin 128) (l : Fin 1024) : (res_main_v88 (F := Ideal) m c : S128x1024.Idx → EReal) (ix2 b l) =
    act ((rargs m c).yy b ⟨l.val / 16, by omega⟩ ⟨l.val % 16, by omega⟩) := by
  unfold res_main_v88
  pointwise
  refine Eq.trans (α := EReal) (show _ = act _ from rfl) (congrArg act ?_)
  refine congrArg₂ (fun x y : EReal => x + y) (congrArg₂ (fun x y : EReal => x - y)
    (Finset.sum_congr rfl fun p _ => congrArg₂ (fun x y : EReal => x * y) ?_ ?_)
    (Finset.sum_congr rfl fun p _ => congrArg₂ (fun x y : EReal => x * y) ?_ ?_)) ?_
  · refine Eq.trans (α := EReal) (@add_comm EReal _ _ _)
      (congrArg₂ (fun x y : EReal => x + y) ?_ (Finset.sum_congr rfl fun x _ =>
        Eq.trans (α := EReal) (@mul_comm EReal _ _ _) (congrArg₂ (fun x y : EReal => x * y) ?_ ?_)))
    all_goals rfl
  · rfl
  · refine Eq.trans (α := EReal) (@add_comm EReal _ _ _)
      (congrArg₂ (fun x y : EReal => x + y) ?_ (Finset.sum_congr rfl fun x _ =>
        Eq.trans (α := EReal) (@mul_comm EReal _ _ _) (congrArg₂ (fun x y : EReal => x * y) ?_ ?_)))
    all_goals rfl
  · rfl
  · refine congrArg₂ (fun x y : EReal => x * y) rfl (congrArg (rargs m c).u (congrArg (ix2 b) (Fin.ext ?_)))
    show l.val = l.val / 16 * 16 + l.val % 16
    omega

end Cert.S5

end
-- ==== Proof.S5Alg.lean ====
/-
The state space step and its plain statement end with the same results, over the extended reals.
-/
module

public import proofs.«01_k».proof.Defs
public import proofs.«01_k».proof.Proof.S5Val
public import proofs.«01_k».proof.Proof.S5Pre
public import proofs.«01_k».proof.Proof.S5RefY
public import proofs.«01_k».proof.Proof.Gen.Kernel3Ideal
public import proofs.«01_k».proof.Proof.Gen.Reference3Ideal
public import proofs.«01_k».proof.Proof.Gen.Pre_finite
public import Idealize.ShloMosaic.Lib.Quiescent

@[expose] public section

noncomputable section

namespace Cert.S5

open Idealize.ShloMosaic
open Idealize.ShloMosaic.TcCoe
open Idealize.SL.Sem

section
open Cert.Reference3Ideal Cert.Reference3Ideal.Value

variable (m : (ℓ : Loc nD τ sig) → Buf (Elt Ideal) ℓ) (c : Dev nD)

/-! ## The plain program's results -/

theorem ref_out : (res_main_v88 (F := Ideal) m c : S128x1024.Idx → EReal) = OUT (rargs m c) := by
  funext y
  obtain ⟨b, l, rfl⟩ : ∃ (b : Fin 128) (l : Fin 1024), y = ix2 b l := ⟨y 0, y 1, eq_ix2 y⟩
  exact y_at m c b l

theorem ref_re : (res_main_v90 (F := Ideal) m c : S128x4096.Idx → EReal) = RE (rargs m c) := by
  funext y
  obtain ⟨b, l, rfl⟩ : ∃ (b : Fin 128) (l : Fin 4096), y = ix2 b l := ⟨y 0, y 1, eq_ix2 y⟩
  exact re_at m c b l

theorem ref_im : (res_main_v92 (F := Ideal) m c : S128x4096.Idx → EReal) = IM (rargs m c) := by
  funext y
  obtain ⟨b, l, rfl⟩ : ∃ (b : Fin 128) (l : Fin 4096), y = ix2 b l := ⟨y 0, y 1, eq_ix2 y⟩
  exact im_at m c b l

end

/-- The reference's run ends with its arguments unchanged and every counter at zero. -/
theorem ref_quiescent : Cert.quiescent_Reference3Ideal (hReference3Ideal := Cert.Reference3Ideal.Gen.facts) := fun m g _ =>
  (θ_run _ _ _).mono (fun r h => ⟨fun c => (h c).2.2.2, sem_eq_zero_of_no_sems rfl _⟩) (Cert.Reference3Ideal.Value.run m g)

/-- Both runs end with the same outputs and new states. -/
theorem alg : Cert.algebraic_Kernel3Ideal_Reference3Ideal_pre_finite (hKernel3Ideal := Cert.Kernel3Ideal.Gen.facts)
    (hReference3Ideal := Cert.Reference3Ideal.Gen.facts) (hPre_finite := Cert.Pre_finite.Gen.facts) := fun m g m' g' hm heq => by
  have ok (c : Dev Cert.Kernel3Ideal.nD) : (args m c).Ok := ok_of_pre (args m c) (hm c)
  refine ⟨fun c => OUT (args m c), fun c => RE (args m c), fun c => IM (args m c), ?_, ?_⟩
  · refine (θ_run _ _ _).mono (fun r h c => ?_) (Cert.Kernel3Ideal.Value.run_blocks m g)
    obtain ⟨h8, h9, h10, h⟩ := h c
    exact ⟨h8.trans (arr8 m c (ok c)), h9.trans (arr9 m c (ok c)), h10.trans (arr10 m c (ok c)), h⟩
  · refine (θ_run _ _ _).mono (fun r h c => ?_) (Cert.Reference3Ideal.Value.run m' g')
    obtain ⟨e0, e1, e2, e3, e4, e5, e6, e7, e8, e9, e10⟩ := heq c
    have e : rargs m' c = args m c := by
      unfold rargs args
      simp only [Args.mk.injEq]
      exact ⟨e0, e1, e2, e3, e4, e5, e6, e7, e8, e9, e10⟩
    obtain ⟨h0, h1, h2, h⟩ := h c
    exact ⟨h0.trans ((ref_out m' c).trans (congrArg OUT e)), h1.trans ((ref_re m' c).trans (congrArg RE e)),
      h2.trans ((ref_im m' c).trans (congrArg IM e)), h⟩

end Cert.S5

end
-- ==== Proof.Block.lean ====
/- The gated-linear-attention kernel's grid point, cut into named blocks: the log-decay of a tile, its
   running sum, and for one chunk of 64 rows and one head the output and the new state. The
   definitions are over any reading of floats; `Proof/Pieces.lean` says that they are the values the
   printed body stores. -/
module

public import proofs.«01_k».proof.Proof.Gen.KernelIdeal.Frame
public import Idealize.ShloMosaic.Lib.Pointwise

@[expose] public section

set_option maxRecDepth 16384

noncomputable section

namespace Cert.Gla

open Idealize.ShloMosaic Cert.KernelIdeal Cert.KernelIdeal.Gen

variable {F : FTy → Type} [FloatOps F]

theorem slLane (h : Fin 4) : S64x256.Slices ![0, 128 * (h.val / 2)] S64x128 := by
  revert h; decide
theorem slRowLane (h : Fin 4) : S1x256.Slices ![0, 128 * (h.val / 2)] S1x128 := by
  revert h; decide
theorem slChunk (c : Fin 4) : S256x256.Slices ![64 * c.val, 0] S64x256 := by
  revert c; decide

/-- The log-decay of a tile's 256 rows and 256 gate lanes. -/
def LOGG (x : Vec F S256x128 .f32) (w : Vec F S128x256 .bf16) (b : Vec F S1x256 .f32) :
    FVec F S256x256 .f32 := k0_pay7 x w b

/-- The matrix that sums a chunk's rows up to a row: one where the column is in the row's chunk and
    not after the row. -/
def TRI : FVec F S256x256 .bf16 :=
  k0_pay10 (iota .tc S256x256 32 [0] iota_S256x256_d0_w32)
    (iota .tc S256x256 32 [1] iota_S256x256_d1_w32) 64#32 k0_pay8 k0_pay9 1#32

/-- The running log-decay of every row within its chunk, summed in three roundings. -/
def BC (g : FVec F S256x256 .f32) : FVec F S256x256 .f32 :=
  k0_pay14 TRI (k0_pay11 g) (k0_pay12 g) (k0_pay13 g)

/-- A chunk's rows of the running log-decay. -/
def BR (c : Fin 4) (bc : FVec F S256x256 .f32) : FVec F S64x256 .f32 :=
  extractStridedSlice S64x256 ![64 * c.val, 0] bc (slChunk c)

/-- The last row of a chunk's running log-decay. -/
def BLAST (b : FVec F S64x256 .f32) : FVec F S1x256 .f32 :=
  extractStridedSlice S1x256 ![63, 0] b slices_S64x256_o63_0_S1x256

/-- The scaled queries, decayed from the chunk's start. -/
def QIN (b : FVec F S64x256 .f32) (q : Vec F S64x256 .f32) : FVec F S64x256 .bf16 :=
  truncf .bf16 (mulf (mulf q (broadcast S64x256 (Scalar.ofBits .f32 0x3E000000#32))) (exp b))
    bitsLt_bf16_f32

/-- The keys, with the decay from the chunk's start taken out. -/
def KOUT (b : FVec F S64x256 .f32) (k : Vec F S64x256 .f32) : FVec F S64x256 .bf16 :=
  truncf .bf16 (mulf k (exp (subf (broadcast S64x256 (Scalar.ofBits .f32 0x00000000#32)) b)))
    bitsLt_bf16_f32

/-- The keys, decayed to the chunk's end. -/
def KDEC (b : FVec F S64x256 .f32) (k : Vec F S64x256 .f32) : FVec F S64x256 .bf16 :=
  truncf .bf16 (mulf k (exp (subf (broadcastTo S64x256 (BLAST b) broadcasts_S1x256_S64x256) b)))
    bitsLt_bf16_f32

/-- The decay over a whole chunk. -/
def DECAY (b : FVec F S64x256 .f32) : FVec F S1x256 .f32 := exp (BLAST b)

/-- The lane numbers of a pair of heads. -/
def LANE : IVec S64x128 32 := iota .tc S64x128 32 [1] iota_S64x128_d1_w32

/-- Which of a pair's two heads a lane belongs to, as the printed floor division of the lane. -/
def LANEHEAD : IVec S64x128 32 :=
  select (k0_pay34 LANE) (subi (k0_pay33 LANE) (broadcast S64x128 1#32)) (k0_pay33 LANE)

/-- The queries of one head: its own lanes of its pair, and zero on the other head's. -/
def QM (h : Fin 4) (q : FVec F S64x256 .bf16) : FVec F S64x128 .bf16 :=
  select (cmpi .eq LANEHEAD (broadcast S64x128 (BitVec.ofNat 32 (h.val % 2))))
    (extractStridedSlice S64x128 ![0, 128 * (h.val / 2)] q (slLane h))
    (broadcast S64x128 (Scalar.ofBits .bf16 0x0000#16))

/-- One head's output for one chunk: the masked scores within the chunk times the values, and the
    queries times the state before it. -/
def OUT (h : Fin 4) (q : FVec F S64x256 .bf16) (k : FVec F S64x256 .bf16)
    (v : Vec F S64x128 .f32) (s : FVec F S128x128 .f32) : FVec F S64x128 .f32 :=
  addf
    (matmul dot_S64x64_S64x128_S64x128_1_0_0_1_n_n none
      (truncf .bf16
        (select k0_pay15
          (matmul dot_S64x128_S64x128_S64x64_1_1_0_0_n_n none (QM h q)
            (extractStridedSlice S64x128 ![0, 128 * (h.val / 2)] k (slLane h))
            (constant S64x64 .f32 0x00000000#32))
          (broadcast S64x64 (Scalar.ofBits .f32 0x00000000#32)))
        bitsLt_bf16_f32)
      (truncf .bf16 v bitsLt_bf16_f32) (constant S64x128 .f32 0x00000000#32))
    (matmul dot_S64x128_S128x128_S64x128_1_1_0_0_n_n none (QM h q)
      (truncf .bf16 s bitsLt_bf16_f32) (constant S64x128 .f32 0x00000000#32))

/-- One head's state after a chunk: the decayed state and the chunk's values times its keys. -/
def NEXT (h : Fin 4) (k : FVec F S64x256 .bf16) (d : FVec F S1x256 .f32)
    (v : Vec F S64x128 .f32) (s : FVec F S128x128 .f32) : FVec F S128x128 .f32 :=
  addf
    (mulf s (broadcastTo S128x128
      (extractStridedSlice S1x128 ![0, 128 * (h.val / 2)] d (slRowLane h))
      broadcasts_S1x128_S128x128))
    (matmul dot_S64x128_S64x128_S128x128_0_0_1_1_n_n none (truncf .bf16 v bitsLt_bf16_f32)
      (extractStridedSlice S64x128 ![0, 128 * (h.val / 2)] k (slLane h))
      (constant S128x128 .f32 0x00000000#32))

/-- A head's output, normed and gated. -/
def RES (o g : FVec F S64x128 .f32) (w : Vec F S1x128 .f32) : FVec F S64x128 .bf16 :=
  truncf .bf16
    (mulf
      (mulf
        (mulf o (broadcastTo S64x128
          (rsqrt (addf
            (divf
              (shapeCast S64x1
                (multiReduction .add [1] S64 (mulf o o) 0x00000000#32 reduces_S64x128_S64
                  (.inl rfl) rfl)
                shapeCasts_S64_S64x1)
              (broadcast S64x1 (Scalar.ofBits .f32 0x43000000#32)))
            (broadcast S64x1 (Scalar.ofBits .f32 0x358637BD#32))))
          broadcasts_S64x1_S64x128))
        (broadcastTo S64x128 (shapeCast S1x128 w shapeCasts_S1x128_S1x128)
          broadcasts_S1x128_S64x128))
      (mulf g (logistic g)))
    bitsLt_bf16_f32

/-! ## The loads of a tile -/

theorem ldQ (c : Fin 4) : ∀ a, (![64 * c.val, 0] : Fin 2 → Nat) a + S64x256.size a ≤ S256x3200.size a := by
  revert c; decide
theorem ldK (c : Fin 4) : ∀ a, (![64 * c.val, 256] : Fin 2 → Nat) a + S64x256.size a ≤ S256x3200.size a := by
  revert c; decide
theorem ldV (c h : Fin 4) : ∀ a, (![64 * c.val, 512 + 128 * h.val] : Fin 2 → Nat) a + S64x128.size a ≤ S256x3200.size a := by
  revert c h; decide
theorem ldO (c h : Fin 4) : ∀ a, (![64 * c.val, 1024 + 128 * h.val] : Fin 2 → Nat) a + S64x128.size a ≤ S256x3200.size a := by
  revert c h; decide
theorem ldS (h : Fin 4) : ∀ a, (![h.val, 0, 0] : Fin 3 → Nat) a + S1x128x128.size a ≤ S4x128x128.size a := by
  revert h; decide

variable (x : Vec F S256x3200 .f32) (bc : FVec F S256x256 .f32)

def QL (c : Fin 4) : Vec F S64x256 .f32 := View.ld x (Rect.unit ![64 * c.val, 0] S64x256.size (ldQ c))
def KL (c : Fin 4) : Vec F S64x256 .f32 := View.ld x (Rect.unit ![64 * c.val, 256] S64x256.size (ldK c))
def VL (c h : Fin 4) : Vec F S64x128 .f32 :=
  View.ld x (Rect.unit ![64 * c.val, 512 + 128 * h.val] S64x128.size (ldV c h))
def OL (c h : Fin 4) : Vec F S64x128 .f32 :=
  View.ld x (Rect.unit ![64 * c.val, 1024 + 128 * h.val] S64x128.size (ldO c h))

/-- The state of head `h` after chunk `c` of a tile, from the state before the chunk. -/
def CS (h c : Fin 4) (s : FVec F S128x128 .f32) : FVec F S128x128 .f32 :=
  NEXT h (KDEC (BR c bc) (KL x c)) (DECAY (BR c bc)) (VL x c h) s

/-- What head `h` of chunk `c` stores, from the state before the chunk. -/
def CO (w : Vec F S1x128 .f32) (h c : Fin 4) (s : FVec F S128x128 .f32) : FVec F S64x128 .bf16 :=
  RES (OUT h (QIN (BR c bc) (QL x c)) (KOUT (BR c bc) (KL x c)) (VL x c h) s) (OL x c h) w

/-- The states of head `h` after each of a tile's chunks. -/
def S1 (s : Fin 4 → FVec F S128x128 .f32) (h : Fin 4) : FVec F S128x128 .f32 := CS x bc h 0 (s h)
def S2 (s : Fin 4 → FVec F S128x128 .f32) (h : Fin 4) : FVec F S128x128 .f32 := CS x bc h 1 (S1 x bc s h)
def S3 (s : Fin 4 → FVec F S128x128 .f32) (h : Fin 4) : FVec F S128x128 .f32 := CS x bc h 2 (S2 x bc s h)
def S4 (s : Fin 4 → FVec F S128x128 .f32) (h : Fin 4) : FVec F S128x128 .f32 := CS x bc h 3 (S3 x bc s h)

/-- The four heads' states as a state block holds them. -/
def SPLIT (s : Vec F S4x128x128 .f32) (h : Fin 4) : FVec F S128x128 .f32 :=
  shapeCast S128x128 (View.ld s (Rect.unit ![h.val, 0, 0] S1x128x128.size (ldS h)))
    shapeCasts_S1x128x128_S128x128

end Cert.Gla

end

end
-- ==== Proof.Pieces.lean ====
/- What one grid point of the kernel stores, in the named blocks of `Proof/Block.lean`: the seventeen
   pieces of the mixer's block, the four heads' states, and the scratch rows the convolution reads.
   Each equation is the printed body's stored value, unfolded. -/
module

public import proofs.«01_k».proof.Proof.Block
public import Idealize.ShloMosaic.Lib.Pipeline.Value

@[expose] public section

set_option maxRecDepth 16384

noncomputable section

namespace Cert.Gla

open Idealize.ShloMosaic Cert.KernelIdeal Cert.KernelIdeal.Gen

variable {F : FTy → Type} [FloatOps F]

/-- The log-decay of a tile, from its block of the projection. -/
def GG (x0 : Vec F S256x3200 .f32) (x1 : Vec F S128x256 .bf16) (x2 : Vec F S1x256 .f32) :
    FVec F S256x256 .f32 :=
  LOGG (View.ld x0 (Rect.unit ![0, 3072] S256x128.size inb_S256x3200_S256x128_0_3072))
    (View.ld x1 (Rect.unit ![0, 0] S128x256.size inb_S128x256_S128x256_0_0))
    (View.ld x2 (Rect.unit ![0, 0] S1x256.size inb_S1x256_S1x256_0_0))

/-- The running log-decay of a tile. -/
def BB (x0 : Vec F S256x3200 .f32) (x1 : Vec F S128x256 .bf16) (x2 : Vec F S1x256 .f32) :
    FVec F S256x256 .f32 := BC (GG x0 x1 x2)

def GH (x3 : Vec F S1x128 .f32) : Vec F S1x128 .f32 :=
  View.ld x3 (Rect.unit ![0, 0] S1x128.size inb_S1x128_S1x128_0_0)

/-- The rows the convolution runs over. -/
def UU (x0 : Vec F S256x3200 .f32) : FVec F S256x512 .f32 :=
  k0_pay149 (View.ld x0 (Rect.unit ![0, 2560] S256x512.size inb_S256x3200_S256x512_0_2560))
    (View.ld x0 (Rect.unit ![0, 1536] S256x512.size inb_S256x3200_S256x512_0_1536))

/-- The convolution's block, from its scratch rows. -/
def CONV (x0 : Vec F S256x3200 .f32) (x4 : Vec F S3x512 .f32) (u : Vec F S264x512 .f32) :
    FVec F S256x512 .bf16 :=
  k0_pay1 (k0_pay150
      (View.ld x0 (Rect.unit ![0, 2560] S256x512.size inb_S256x3200_S256x512_0_2560))
      (View.ld x0 (Rect.unit ![0, 1536] S256x512.size inb_S256x3200_S256x512_0_1536))
      (View.ld x4 (Rect.unit ![0, 0] S1x512.size inb_S3x512_S1x512_0_0))
      (View.ld u (Rect.unit ![6, 0] S256x512.size inb_S264x512_S256x512_6_0))
      (View.ld x4 (Rect.unit ![1, 0] S1x512.size inb_S3x512_S1x512_1_0))
      (View.ld u (Rect.unit ![7, 0] S256x512.size inb_S264x512_S256x512_7_0))
      (View.ld x4 (Rect.unit ![2, 0] S1x512.size inb_S3x512_S1x512_2_0)))
    (View.ld x0 (Rect.unit ![0, 2048] S256x512.size inb_S256x3200_S256x512_0_2048))

/-- The new rows' piece of the convolution's scratch. -/
def UPIECE (x0 : Vec F S256x3200 .f32) : View.Piece (Elt F) S264x512 .f32 :=
  ⟨Rect.unit ![8, 0] S256x512.size inb_S264x512_S256x512_8_0, UU x0⟩

/-- The four heads' states as pieces of the state scratch. -/
def LS (s : Fin 4 → FVec F S128x128 .f32) : List (View.Piece (Elt F) S4x128x128 .f32) :=
  [⟨Rect.unit ![3, 0, 0] S1x128x128.size inb_S4x128x128_S1x128x128_3_0_0,
      shapeCast S1x128x128 (s 3) shapeCasts_S128x128_S1x128x128⟩,
    ⟨Rect.unit ![2, 0, 0] S1x128x128.size inb_S4x128x128_S1x128x128_2_0_0,
      shapeCast S1x128x128 (s 2) shapeCasts_S128x128_S1x128x128⟩,
    ⟨Rect.unit ![1, 0, 0] S1x128x128.size inb_S4x128x128_S1x128x128_1_0_0,
      shapeCast S1x128x128 (s 1) shapeCasts_S128x128_S1x128x128⟩,
    ⟨Rect.unit ![0, 0, 0] S1x128x128.size inb_S4x128x128_S1x128x128_0_0_0,
      shapeCast S1x128x128 (s 0) shapeCasts_S128x128_S1x128x128⟩]

/-- The state before chunk `c` of a tile, from the state before the tile. -/
def SB (x : Vec F S256x3200 .f32) (bc : FVec F S256x256 .f32) (s : Fin 4 → FVec F S128x128 .f32) :
    Fin 4 → Fin 4 → FVec F S128x128 .f32
  | 0 => s
  | 1 => S1 x bc s
  | 2 => S2 x bc s
  | 3 => S3 x bc s

/-- The mixer's block as pieces. -/
def L5 (x : Vec F S256x3200 .f32) (bc : FVec F S256x256 .f32) (w : Vec F S1x128 .f32)
    (s : Fin 4 → FVec F S128x128 .f32) (cv : FVec F S256x512 .bf16) :
    List (View.Piece (Elt F) S256x1024 .bf16) :=
  [⟨Rect.unit ![0, 512] S256x512.size inb_S256x1024_S256x512_0_512, cv⟩,
    ⟨Rect.unit ![192, 384] S64x128.size inb_S256x1024_S64x128_192_384, CO x bc w 3 3 (S3 x bc s 3)⟩,
    ⟨Rect.unit ![192, 256] S64x128.size inb_S256x1024_S64x128_192_256, CO x bc w 2 3 (S3 x bc s 2)⟩,
    ⟨Rect.unit ![192, 128] S64x128.size inb_S256x1024_S64x128_192_128, CO x bc w 1 3 (S3 x bc s 1)⟩,
    ⟨Rect.unit ![192, 0] S64x128.size inb_S256x1024_S64x128_192_0, CO x bc w 0 3 (S3 x bc s 0)⟩,
    ⟨Rect.unit ![128, 384] S64x128.size inb_S256x1024_S64x128_128_384, CO x bc w 3 2 (S2 x bc s 3)⟩,
    ⟨Rect.unit ![128, 256] S64x128.size inb_S256x1024_S64x128_128_256, CO x bc w 2 2 (S2 x bc s 2)⟩,
    ⟨Rect.unit ![128, 128] S64x128.size inb_S256x1024_S64x128_128_128, CO x bc w 1 2 (S2 x bc s 1)⟩,
    ⟨Rect.unit ![128, 0] S64x128.size inb_S256x1024_S64x128_128_0, CO x bc w 0 2 (S2 x bc s 0)⟩,
    ⟨Rect.unit ![64, 384] S64x128.size inb_S256x1024_S64x128_64_384, CO x bc w 3 1 (S1 x bc s 3)⟩,
    ⟨Rect.unit ![64, 256] S64x128.size inb_S256x1024_S64x128_64_256, CO x bc w 2 1 (S1 x bc s 2)⟩,
    ⟨Rect.unit ![64, 128] S64x128.size inb_S256x1024_S64x128_64_128, CO x bc w 1 1 (S1 x bc s 1)⟩,
    ⟨Rect.unit ![64, 0] S64x128.size inb_S256x1024_S64x128_64_0, CO x bc w 0 1 (S1 x bc s 0)⟩,
    ⟨Rect.unit ![0, 384] S64x128.size inb_S256x1024_S64x128_0_384, CO x bc w 3 0 (s 3)⟩,
    ⟨Rect.unit ![0, 256] S64x128.size inb_S256x1024_S64x128_0_256, CO x bc w 2 0 (s 2)⟩,
    ⟨Rect.unit ![0, 128] S64x128.size inb_S256x1024_S64x128_0_128, CO x bc w 1 0 (s 1)⟩,
    ⟨Rect.unit ![0, 0] S64x128.size inb_S256x1024_S64x128_0_0, CO x bc w 0 0 (s 0)⟩]

/-- The states a point starts from when it clears its scratch: the printed cleared block, read head by
    head through the scratch's own view. -/
def CLEARED (v : View sig .tc .vmem S4x128x128 .f32) (h : Fin 4) : FVec F S128x128 .f32 :=
  shapeCast S128x128 (v.readCov kernelRun0_A.sl.HS0_1
    (Rect.unit (s := S4x128x128) ![h.val, 0, 0] S1x128x128.size (ldS h)).toLoadRect) shapeCasts_S1x128x128_S128x128

/-- The mixer's pieces. -/
theorem pieces5_A (c : Dev nD) (i : grid0.Coords) (arg2 : Memref sig .tc .vmem S256x3200 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S3x512 .f32) (harg6 : arg6.IsWhole) (arg7 : Memref sig .tc .vmem S256x1024 .bf16) (harg7 : arg7.IsWhole) (arg8 : Memref sig .tc .vmem S1x4x128x128 .f32) (harg8 : arg8.IsWhole) (arg9 : Memref sig .tc .vmem S1x2x512 .f32) (harg9 : arg9.IsWhole) (arg10 : Memref sig .tc .vmem S4x128x128 .f32) (harg10 : arg10.IsWhole) (arg11 : Memref sig .tc .vmem S264x512 .f32) (harg11 : arg11.IsWhole) (hc0 : cond0_0 i) (hc1 : ¬cond0_1 i)
    (x0 : Vec F S256x3200 .f32) (x1 : Vec F S128x256 .bf16) (x2 : Vec F S1x256 .f32) (x3 : Vec F S1x128 .f32) (x4 : Vec F S3x512 .f32) :
    (kernelRun0_A c i arg2 harg2 arg3 harg3 arg4 harg4 arg5 harg5 arg6 harg6 arg7 harg7 arg8 harg8 arg9 harg9 arg10 harg10 arg11 harg11 hc0 hc1 x0 x1 x2 x3 x4).1 =
      L5 x0 (BB x0 x1 x2) (GH x3) (CLEARED arg10.view) (CONV x0 x4 (arg11.view.read (Elt F) (arg11.view.writes (Elt F) arg11.view.junk [UPIECE x0, ⟨Rect.unit ![0, 0] S8x512.size inb_S264x512_S8x512_0_0, k0_pay6⟩]))) := by
  have h : (kernelRun0_A c i arg2 harg2 arg3 harg3 arg4 harg4 arg5 harg5 arg6 harg6 arg7 harg7 arg8 harg8 arg9 harg9 arg10 harg10 arg11 harg11 hc0 hc1 x0 x1 x2 x3 x4).1 =
      L5 (arg2.view.read (Elt F) (harg2.unread x0)) (BB (arg2.view.read (Elt F) (harg2.unread x0)) (arg3.view.read (Elt F) (harg3.unread x1)) (arg4.view.read (Elt F) (harg4.unread x2))) (GH (arg5.view.read (Elt F) (harg5.unread x3))) (CLEARED arg10.view) (CONV (arg2.view.read (Elt F) (harg2.unread x0)) (arg6.view.read (Elt F) (harg6.unread x4)) (arg11.view.read (Elt F) (arg11.view.writes (Elt F) arg11.view.junk [UPIECE (arg2.view.read (Elt F) (harg2.unread x0)), ⟨Rect.unit ![0, 0] S8x512.size inb_S264x512_S8x512_0_0, k0_pay6⟩]))) := rfl
  simpa only [harg2.read_unread, harg3.read_unread, harg4.read_unread, harg5.read_unread, harg6.read_unread] using h

/-- The state scratch's pieces. -/
theorem piecesS0_A (c : Dev nD) (i : grid0.Coords) (arg2 : Memref sig .tc .vmem S256x3200 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S3x512 .f32) (harg6 : arg6.IsWhole) (arg7 : Memref sig .tc .vmem S256x1024 .bf16) (harg7 : arg7.IsWhole) (arg8 : Memref sig .tc .vmem S1x4x128x128 .f32) (harg8 : arg8.IsWhole) (arg9 : Memref sig .tc .vmem S1x2x512 .f32) (harg9 : arg9.IsWhole) (arg10 : Memref sig .tc .vmem S4x128x128 .f32) (harg10 : arg10.IsWhole) (arg11 : Memref sig .tc .vmem S264x512 .f32) (harg11 : arg11.IsWhole) (hc0 : cond0_0 i) (hc1 : ¬cond0_1 i)
    (x0 : Vec F S256x3200 .f32) (x1 : Vec F S128x256 .bf16) (x2 : Vec F S1x256 .f32) (x3 : Vec F S1x128 .f32) (x4 : Vec F S3x512 .f32) :
    (kernelRun0_A c i arg2 harg2 arg3 harg3 arg4 harg4 arg5 harg5 arg6 harg6 arg7 harg7 arg8 harg8 arg9 harg9 arg10 harg10 arg11 harg11 hc0 hc1 x0 x1 x2 x3 x4).2.2.2.1 =
      LS (S4 x0 (BB x0 x1 x2) (CLEARED arg10.view)) ++ kernelRun0_A.sl.HS0_1 := by
  have h : (kernelRun0_A c i arg2 harg2 arg3 harg3 arg4 harg4 arg5 harg5 arg6 harg6 arg7 harg7 arg8 harg8 arg9 harg9 arg10 harg10 arg11 harg11 hc0 hc1 x0 x1 x2 x3 x4).2.2.2.1 =
      LS (S4 (arg2.view.read (Elt F) (harg2.unread x0)) (BB (arg2.view.read (Elt F) (harg2.unread x0)) (arg3.view.read (Elt F) (harg3.unread x1)) (arg4.view.read (Elt F) (harg4.unread x2))) (CLEARED arg10.view)) ++ kernelRun0_A.sl.HS0_1 := rfl
  simpa only [harg2.read_unread, harg3.read_unread, harg4.read_unread, harg5.read_unread, harg6.read_unread] using h

/-- The convolution scratch's pieces. -/
theorem piecesS1_A (c : Dev nD) (i : grid0.Coords) (arg2 : Memref sig .tc .vmem S256x3200 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S3x512 .f32) (harg6 : arg6.IsWhole) (arg7 : Memref sig .tc .vmem S256x1024 .bf16) (harg7 : arg7.IsWhole) (arg8 : Memref sig .tc .vmem S1x4x128x128 .f32) (harg8 : arg8.IsWhole) (arg9 : Memref sig .tc .vmem S1x2x512 .f32) (harg9 : arg9.IsWhole) (arg10 : Memref sig .tc .vmem S4x128x128 .f32) (harg10 : arg10.IsWhole) (arg11 : Memref sig .tc .vmem S264x512 .f32) (harg11 : arg11.IsWhole) (hc0 : cond0_0 i) (hc1 : ¬cond0_1 i)
    (x0 : Vec F S256x3200 .f32) (x1 : Vec F S128x256 .bf16) (x2 : Vec F S1x256 .f32) (x3 : Vec F S1x128 .f32) (x4 : Vec F S3x512 .f32) :
    (kernelRun0_A c i arg2 harg2 arg3 harg3 arg4 harg4 arg5 harg5 arg6 harg6 arg7 harg7 arg8 harg8 arg9 harg9 arg10 harg10 arg11 harg11 hc0 hc1 x0 x1 x2 x3 x4).2.2.2.2.1 =
      ⟨Rect.unit ![6, 0] S2x512.size inb_S264x512_S2x512_6_0, (shapeCast S2x512 (View.ld (arg11.view.read (Elt F) (arg11.view.writes (Elt F) arg11.view.junk [UPIECE x0, ⟨Rect.unit ![0, 0] S8x512.size inb_S264x512_S8x512_0_0, k0_pay6⟩])) (Rect.unit ![262, 0] ![2, 512] inb_S264x512_S2x512_262_0)) shapeCasts_S2x512_S2x512)⟩ :: [UPIECE x0, ⟨Rect.unit ![0, 0] S8x512.size inb_S264x512_S8x512_0_0, k0_pay6⟩] := by
  have h : (kernelRun0_A c i arg2 harg2 arg3 harg3 arg4 harg4 arg5 harg5 arg6 harg6 arg7 harg7 arg8 harg8 arg9 harg9 arg10 harg10 arg11 harg11 hc0 hc1 x0 x1 x2 x3 x4).2.2.2.2.1 =
      ⟨Rect.unit ![6, 0] S2x512.size inb_S264x512_S2x512_6_0, (shapeCast S2x512 (View.ld (arg11.view.read (Elt F) (arg11.view.writes (Elt F) arg11.view.junk [UPIECE (arg2.view.read (Elt F) (harg2.unread x0)), ⟨Rect.unit ![0, 0] S8x512.size inb_S264x512_S8x512_0_0, k0_pay6⟩])) (Rect.unit ![262, 0] ![2, 512] inb_S264x512_S2x512_262_0)) shapeCasts_S2x512_S2x512)⟩ :: [UPIECE (arg2.view.read (Elt F) (harg2.unread x0)), ⟨Rect.unit ![0, 0] S8x512.size inb_S264x512_S8x512_0_0, k0_pay6⟩] := rfl
  simpa only [harg2.read_unread, harg3.read_unread, harg4.read_unread, harg5.read_unread, harg6.read_unread] using h

/-- The mixer's pieces. -/
theorem pieces5_B (c : Dev nD) (i : grid0.Coords) (arg2 : Memref sig .tc .vmem S256x3200 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S3x512 .f32) (harg6 : arg6.IsWhole) (arg7 : Memref sig .tc .vmem S256x1024 .bf16) (harg7 : arg7.IsWhole) (arg8 : Memref sig .tc .vmem S1x4x128x128 .f32) (harg8 : arg8.IsWhole) (arg9 : Memref sig .tc .vmem S1x2x512 .f32) (harg9 : arg9.IsWhole) (arg10 : Memref sig .tc .vmem S4x128x128 .f32) (harg10 : arg10.IsWhole) (arg11 : Memref sig .tc .vmem S264x512 .f32) (harg11 : arg11.IsWhole) (hc0 : ¬cond0_0 i) (hc1 : ¬cond0_1 i)
    (x0 : Vec F S256x3200 .f32) (x1 : Vec F S128x256 .bf16) (x2 : Vec F S1x256 .f32) (x3 : Vec F S1x128 .f32) (x4 : Vec F S3x512 .f32) (xs0 : Vec F S4x128x128 .f32) (xs1 : Vec F S264x512 .f32) :
    (kernelRun0_B c i arg2 harg2 arg3 harg3 arg4 harg4 arg5 harg5 arg6 harg6 arg7 harg7 arg8 harg8 arg9 harg9 arg10 harg10 arg11 harg11 hc0 hc1 x0 x1 x2 x3 x4 xs0 xs1).1 =
      L5 x0 (BB x0 x1 x2) (GH x3) (SPLIT xs0) (CONV x0 x4 (arg11.view.read (Elt F) (arg11.view.writes (Elt F) (harg11.unread xs1) [UPIECE x0]))) := by
  have h : (kernelRun0_B c i arg2 harg2 arg3 harg3 arg4 harg4 arg5 harg5 arg6 harg6 arg7 harg7 arg8 harg8 arg9 harg9 arg10 harg10 arg11 harg11 hc0 hc1 x0 x1 x2 x3 x4 xs0 xs1).1 =
      L5 (arg2.view.read (Elt F) (harg2.unread x0)) (BB (arg2.view.read (Elt F) (harg2.unread x0)) (arg3.view.read (Elt F) (harg3.unread x1)) (arg4.view.read (Elt F) (harg4.unread x2))) (GH (arg5.view.read (Elt F) (harg5.unread x3))) (SPLIT (arg10.view.read (Elt F) (harg10.unread xs0))) (CONV (arg2.view.read (Elt F) (harg2.unread x0)) (arg6.view.read (Elt F) (harg6.unread x4)) (arg11.view.read (Elt F) (arg11.view.writes (Elt F) (harg11.unread xs1) [UPIECE (arg2.view.read (Elt F) (harg2.unread x0))]))) := rfl
  simpa only [harg2.read_unread, harg3.read_unread, harg4.read_unread, harg5.read_unread, harg6.read_unread, harg10.read_unread] using h

/-- The state scratch's pieces. -/
theorem piecesS0_B (c : Dev nD) (i : grid0.Coords) (arg2 : Memref sig .tc .vmem S256x3200 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S3x512 .f32) (harg6 : arg6.IsWhole) (arg7 : Memref sig .tc .vmem S256x1024 .bf16) (harg7 : arg7.IsWhole) (arg8 : Memref sig .tc .vmem S1x4x128x128 .f32) (harg8 : arg8.IsWhole) (arg9 : Memref sig .tc .vmem S1x2x512 .f32) (harg9 : arg9.IsWhole) (arg10 : Memref sig .tc .vmem S4x128x128 .f32) (harg10 : arg10.IsWhole) (arg11 : Memref sig .tc .vmem S264x512 .f32) (harg11 : arg11.IsWhole) (hc0 : ¬cond0_0 i) (hc1 : ¬cond0_1 i)
    (x0 : Vec F S256x3200 .f32) (x1 : Vec F S128x256 .bf16) (x2 : Vec F S1x256 .f32) (x3 : Vec F S1x128 .f32) (x4 : Vec F S3x512 .f32) (xs0 : Vec F S4x128x128 .f32) (xs1 : Vec F S264x512 .f32) :
    (kernelRun0_B c i arg2 harg2 arg3 harg3 arg4 harg4 arg5 harg5 arg6 harg6 arg7 harg7 arg8 harg8 arg9 harg9 arg10 harg10 arg11 harg11 hc0 hc1 x0 x1 x2 x3 x4 xs0 xs1).2.2.2.1 =
      LS (S4 x0 (BB x0 x1 x2) (SPLIT xs0)) := by
  have h : (kernelRun0_B c i arg2 harg2 arg3 harg3 arg4 harg4 arg5 harg5 arg6 harg6 arg7 harg7 arg8 harg8 arg9 harg9 arg10 harg10 arg11 harg11 hc0 hc1 x0 x1 x2 x3 x4 xs0 xs1).2.2.2.1 =
      LS (S4 (arg2.view.read (Elt F) (harg2.unread x0)) (BB (arg2.view.read (Elt F) (harg2.unread x0)) (arg3.view.read (Elt F) (harg3.unread x1)) (arg4.view.read (Elt F) (harg4.unread x2))) (SPLIT (arg10.view.read (Elt F) (harg10.unread xs0)))) := rfl
  simpa only [harg2.read_unread, harg3.read_unread, harg4.read_unread, harg5.read_unread, harg6.read_unread, harg10.read_unread] using h

/-- The convolution scratch's pieces. -/
theorem piecesS1_B (c : Dev nD) (i : grid0.Coords) (arg2 : Memref sig .tc .vmem S256x3200 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S3x512 .f32) (harg6 : arg6.IsWhole) (arg7 : Memref sig .tc .vmem S256x1024 .bf16) (harg7 : arg7.IsWhole) (arg8 : Memref sig .tc .vmem S1x4x128x128 .f32) (harg8 : arg8.IsWhole) (arg9 : Memref sig .tc .vmem S1x2x512 .f32) (harg9 : arg9.IsWhole) (arg10 : Memref sig .tc .vmem S4x128x128 .f32) (harg10 : arg10.IsWhole) (arg11 : Memref sig .tc .vmem S264x512 .f32) (harg11 : arg11.IsWhole) (hc0 : ¬cond0_0 i) (hc1 : ¬cond0_1 i)
    (x0 : Vec F S256x3200 .f32) (x1 : Vec F S128x256 .bf16) (x2 : Vec F S1x256 .f32) (x3 : Vec F S1x128 .f32) (x4 : Vec F S3x512 .f32) (xs0 : Vec F S4x128x128 .f32) (xs1 : Vec F S264x512 .f32) :
    (kernelRun0_B c i arg2 harg2 arg3 harg3 arg4 harg4 arg5 harg5 arg6 harg6 arg7 harg7 arg8 harg8 arg9 harg9 arg10 harg10 arg11 harg11 hc0 hc1 x0 x1 x2 x3 x4 xs0 xs1).2.2.2.2.1 =
      ⟨Rect.unit ![6, 0] S2x512.size inb_S264x512_S2x512_6_0, (shapeCast S2x512 (View.ld (arg11.view.read (Elt F) (arg11.view.writes (Elt F) arg11.view.junk [UPIECE x0])) (Rect.unit ![262, 0] ![2, 512] inb_S264x512_S2x512_262_0)) shapeCasts_S2x512_S2x512)⟩ :: [UPIECE x0] := by
  have h : (kernelRun0_B c i arg2 harg2 arg3 harg3 arg4 harg4 arg5 harg5 arg6 harg6 arg7 harg7 arg8 harg8 arg9 harg9 arg10 harg10 arg11 harg11 hc0 hc1 x0 x1 x2 x3 x4 xs0 xs1).2.2.2.2.1 =
      ⟨Rect.unit ![6, 0] S2x512.size inb_S264x512_S2x512_6_0, (shapeCast S2x512 (View.ld (arg11.view.read (Elt F) (arg11.view.writes (Elt F) arg11.view.junk [UPIECE (arg2.view.read (Elt F) (harg2.unread x0))])) (Rect.unit ![262, 0] ![2, 512] inb_S264x512_S2x512_262_0)) shapeCasts_S2x512_S2x512)⟩ :: [UPIECE (arg2.view.read (Elt F) (harg2.unread x0))] := rfl
  simpa only [harg2.read_unread, harg3.read_unread, harg4.read_unread, harg5.read_unread, harg6.read_unread, harg10.read_unread] using h

/-- The mixer's pieces. -/
theorem pieces5_C (c : Dev nD) (i : grid0.Coords) (arg2 : Memref sig .tc .vmem S256x3200 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S3x512 .f32) (harg6 : arg6.IsWhole) (arg7 : Memref sig .tc .vmem S256x1024 .bf16) (harg7 : arg7.IsWhole) (arg8 : Memref sig .tc .vmem S1x4x128x128 .f32) (harg8 : arg8.IsWhole) (arg9 : Memref sig .tc .vmem S1x2x512 .f32) (harg9 : arg9.IsWhole) (arg10 : Memref sig .tc .vmem S4x128x128 .f32) (harg10 : arg10.IsWhole) (arg11 : Memref sig .tc .vmem S264x512 .f32) (harg11 : arg11.IsWhole) (hc0 : ¬cond0_0 i) (hc1 : cond0_1 i)
    (x0 : Vec F S256x3200 .f32) (x1 : Vec F S128x256 .bf16) (x2 : Vec F S1x256 .f32) (x3 : Vec F S1x128 .f32) (x4 : Vec F S3x512 .f32) (xs0 : Vec F S4x128x128 .f32) (xs1 : Vec F S264x512 .f32) :
    (kernelRun0_C c i arg2 harg2 arg3 harg3 arg4 harg4 arg5 harg5 arg6 harg6 arg7 harg7 arg8 harg8 arg9 harg9 arg10 harg10 arg11 harg11 hc0 hc1 x0 x1 x2 x3 x4 xs0 xs1).1 =
      L5 x0 (BB x0 x1 x2) (GH x3) (SPLIT xs0) (CONV x0 x4 (arg11.view.read (Elt F) (arg11.view.writes (Elt F) (harg11.unread xs1) [UPIECE x0]))) := by
  have h : (kernelRun0_C c i arg2 harg2 arg3 harg3 arg4 harg4 arg5 harg5 arg6 harg6 arg7 harg7 arg8 harg8 arg9 harg9 arg10 harg10 arg11 harg11 hc0 hc1 x0 x1 x2 x3 x4 xs0 xs1).1 =
      L5 (arg2.view.read (Elt F) (harg2.unread x0)) (BB (arg2.view.read (Elt F) (harg2.unread x0)) (arg3.view.read (Elt F) (harg3.unread x1)) (arg4.view.read (Elt F) (harg4.unread x2))) (GH (arg5.view.read (Elt F) (harg5.unread x3))) (SPLIT (arg10.view.read (Elt F) (harg10.unread xs0))) (CONV (arg2.view.read (Elt F) (harg2.unread x0)) (arg6.view.read (Elt F) (harg6.unread x4)) (arg11.view.read (Elt F) (arg11.view.writes (Elt F) (harg11.unread xs1) [UPIECE (arg2.view.read (Elt F) (harg2.unread x0))]))) := rfl
  simpa only [harg2.read_unread, harg3.read_unread, harg4.read_unread, harg5.read_unread, harg6.read_unread, harg10.read_unread] using h

/-- The state scratch's pieces. -/
theorem piecesS0_C (c : Dev nD) (i : grid0.Coords) (arg2 : Memref sig .tc .vmem S256x3200 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S3x512 .f32) (harg6 : arg6.IsWhole) (arg7 : Memref sig .tc .vmem S256x1024 .bf16) (harg7 : arg7.IsWhole) (arg8 : Memref sig .tc .vmem S1x4x128x128 .f32) (harg8 : arg8.IsWhole) (arg9 : Memref sig .tc .vmem S1x2x512 .f32) (harg9 : arg9.IsWhole) (arg10 : Memref sig .tc .vmem S4x128x128 .f32) (harg10 : arg10.IsWhole) (arg11 : Memref sig .tc .vmem S264x512 .f32) (harg11 : arg11.IsWhole) (hc0 : ¬cond0_0 i) (hc1 : cond0_1 i)
    (x0 : Vec F S256x3200 .f32) (x1 : Vec F S128x256 .bf16) (x2 : Vec F S1x256 .f32) (x3 : Vec F S1x128 .f32) (x4 : Vec F S3x512 .f32) (xs0 : Vec F S4x128x128 .f32) (xs1 : Vec F S264x512 .f32) :
    (kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.1 =
      LS (S4 x0 (BB x0 x1 x2) (SPLIT xs0)) := by
  have h : (kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.1 =
      LS (S4 (arg2.view.read (Elt F) (harg2.unread x0)) (BB (arg2.view.read (Elt F) (harg2.unread x0)) (arg3.view.read (Elt F) (harg3.unread x1)) (arg4.view.read (Elt F) (harg4.unread x2))) (SPLIT (arg10.view.read (Elt F) (harg10.unread xs0)))) := rfl
  simpa only [harg2.read_unread, harg3.read_unread, harg4.read_unread, harg5.read_unread, harg6.read_unread, harg10.read_unread] using h

/-- The convolution scratch's pieces. -/
theorem piecesS1_C (c : Dev nD) (i : grid0.Coords) (arg2 : Memref sig .tc .vmem S256x3200 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S3x512 .f32) (harg6 : arg6.IsWhole) (arg7 : Memref sig .tc .vmem S256x1024 .bf16) (harg7 : arg7.IsWhole) (arg8 : Memref sig .tc .vmem S1x4x128x128 .f32) (harg8 : arg8.IsWhole) (arg9 : Memref sig .tc .vmem S1x2x512 .f32) (harg9 : arg9.IsWhole) (arg10 : Memref sig .tc .vmem S4x128x128 .f32) (harg10 : arg10.IsWhole) (arg11 : Memref sig .tc .vmem S264x512 .f32) (harg11 : arg11.IsWhole) (hc0 : ¬cond0_0 i) (hc1 : cond0_1 i)
    (x0 : Vec F S256x3200 .f32) (x1 : Vec F S128x256 .bf16) (x2 : Vec F S1x256 .f32) (x3 : Vec F S1x128 .f32) (x4 : Vec F S3x512 .f32) (xs0 : Vec F S4x128x128 .f32) (xs1 : Vec F S264x512 .f32) :
    (kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.2.1 =
      ⟨Rect.unit ![6, 0] S2x512.size inb_S264x512_S2x512_6_0, (shapeCast S2x512 (View.ld (arg11.view.read (Elt F) (arg11.view.writes (Elt F) arg11.view.junk [UPIECE x0])) (Rect.unit ![262, 0] ![2, 512] inb_S264x512_S2x512_262_0)) shapeCasts_S2x512_S2x512)⟩ :: [UPIECE x0] := by
  have h : (kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.2.1 =
      ⟨Rect.unit ![6, 0] S2x512.size inb_S264x512_S2x512_6_0, (shapeCast S2x512 (View.ld (arg11.view.read (Elt F) (arg11.view.writes (Elt F) arg11.view.junk [UPIECE (arg2.view.read (Elt F) (harg2.unread x0))])) (Rect.unit ![262, 0] ![2, 512] inb_S264x512_S2x512_262_0)) shapeCasts_S2x512_S2x512)⟩ :: [UPIECE (arg2.view.read (Elt F) (harg2.unread x0))] := rfl
  simpa only [harg2.read_unread, harg3.read_unread, harg4.read_unread, harg5.read_unread, harg6.read_unread, harg10.read_unread] using h

/-- The final states' piece. -/
theorem pieces6_C (c : Dev nD) (i : grid0.Coords) (arg2 : Memref sig .tc .vmem S256x3200 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S3x512 .f32) (harg6 : arg6.IsWhole) (arg7 : Memref sig .tc .vmem S256x1024 .bf16) (harg7 : arg7.IsWhole) (arg8 : Memref sig .tc .vmem S1x4x128x128 .f32) (harg8 : arg8.IsWhole) (arg9 : Memref sig .tc .vmem S1x2x512 .f32) (harg9 : arg9.IsWhole) (arg10 : Memref sig .tc .vmem S4x128x128 .f32) (harg10 : arg10.IsWhole) (arg11 : Memref sig .tc .vmem S264x512 .f32) (harg11 : arg11.IsWhole) (hc0 : ¬cond0_0 i) (hc1 : cond0_1 i)
    (x0 : Vec F S256x3200 .f32) (x1 : Vec F S128x256 .bf16) (x2 : Vec F S1x256 .f32) (x3 : Vec F S1x128 .f32) (x4 : Vec F S3x512 .f32) (xs0 : Vec F S4x128x128 .f32) (xs1 : Vec F S264x512 .f32) :
    (kernelRun0_C c i arg2 harg2 arg3 harg3 arg4 harg4 arg5 harg5 arg6 harg6 arg7 harg7 arg8 harg8 arg9 harg9 arg10 harg10 arg11 harg11 hc0 hc1 x0 x1 x2 x3 x4 xs0 xs1).2.1 =
      [⟨Rect.unit ![0, 0, 0, 0] S1x4x128x128.size inb_S1x4x128x128_S1x4x128x128_0_0_0_0, shapeCast S1x4x128x128 (View.ld (arg10.view.read (Elt F) (arg10.view.writes (Elt F) arg10.view.junk (LS (S4 x0 (BB x0 x1 x2) (SPLIT xs0))))) (Rect.unit ![0, 0, 0] S4x128x128.size inb_S4x128x128_S4x128x128_0_0_0)) shapeCasts_S4x128x128_S1x4x128x128⟩] := by
  have h : (kernelRun0_C c i arg2 harg2 arg3 harg3 arg4 harg4 arg5 harg5 arg6 harg6 arg7 harg7 arg8 harg8 arg9 harg9 arg10 harg10 arg11 harg11 hc0 hc1 x0 x1 x2 x3 x4 xs0 xs1).2.1 =
      [⟨Rect.unit ![0, 0, 0, 0] S1x4x128x128.size inb_S1x4x128x128_S1x4x128x128_0_0_0_0, shapeCast S1x4x128x128 (View.ld (arg10.view.read (Elt F) (arg10.view.writes (Elt F) arg10.view.junk (LS (S4 (arg2.view.read (Elt F) (harg2.unread x0)) (BB (arg2.view.read (Elt F) (harg2.unread x0)) (arg3.view.read (Elt F) (harg3.unread x1)) (arg4.view.read (Elt F) (harg4.unread x2))) (SPLIT (arg10.view.read (Elt F) (harg10.unread xs0))))))) (Rect.unit ![0, 0, 0] S4x128x128.size inb_S4x128x128_S4x128x128_0_0_0)) shapeCasts_S4x128x128_S1x4x128x128⟩] := rfl
  simpa only [harg2.read_unread, harg3.read_unread, harg4.read_unread, harg5.read_unread, harg6.read_unread, harg10.read_unread] using h

/-- The convolution tail's piece. -/
theorem pieces7_C (c : Dev nD) (i : grid0.Coords) (arg2 : Memref sig .tc .vmem S256x3200 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S3x512 .f32) (harg6 : arg6.IsWhole) (arg7 : Memref sig .tc .vmem S256x1024 .bf16) (harg7 : arg7.IsWhole) (arg8 : Memref sig .tc .vmem S1x4x128x128 .f32) (harg8 : arg8.IsWhole) (arg9 : Memref sig .tc .vmem S1x2x512 .f32) (harg9 : arg9.IsWhole) (arg10 : Memref sig .tc .vmem S4x128x128 .f32) (harg10 : arg10.IsWhole) (arg11 : Memref sig .tc .vmem S264x512 .f32) (harg11 : arg11.IsWhole) (hc0 : ¬cond0_0 i) (hc1 : cond0_1 i)
    (x0 : Vec F S256x3200 .f32) (x1 : Vec F S128x256 .bf16) (x2 : Vec F S1x256 .f32) (x3 : Vec F S1x128 .f32) (x4 : Vec F S3x512 .f32) (xs0 : Vec F S4x128x128 .f32) (xs1 : Vec F S264x512 .f32) :
    (kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.1 =
      [⟨Rect.unit ![0, 0, 0] S1x2x512.size inb_S1x2x512_S1x2x512_0_0_0, shapeCast S1x2x512 (View.ld (arg11.view.read (Elt F) (arg11.view.writes (Elt F) arg11.view.junk [UPIECE x0])) (Rect.unit ![262, 0] ![2, 512] inb_S264x512_S2x512_262_0)) shapeCasts_S2x512_S1x2x512⟩] := by
  have h : (kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.1 =
      [⟨Rect.unit ![0, 0, 0] S1x2x512.size inb_S1x2x512_S1x2x512_0_0_0, shapeCast S1x2x512 (View.ld (arg11.view.read (Elt F) (arg11.view.writes (Elt F) arg11.view.junk [UPIECE (arg2.view.read (Elt F) (harg2.unread x0))])) (Rect.unit ![262, 0] ![2, 512] inb_S264x512_S2x512_262_0)) shapeCasts_S2x512_S1x2x512⟩] := rfl
  simpa only [harg2.read_unread, harg3.read_unread, harg4.read_unread, harg5.read_unread, harg6.read_unread, harg10.read_unread] using h

end Cert.Gla

end

end
-- ==== Proof.Spec.lean ====
/- The chunked gated linear attention and the short convolution as plain sums over the extended reals:
   the common ground on which the kernel and the reference meet. -/
module

public import Idealize.ShloMosaic.Lib.Pointwise
public import Idealize.ShloMosaic.Lib.WordCmp

@[expose] public section

set_option maxRecDepth 16384

noncomputable section

namespace Cert.Gla

open Idealize.ShloMosaic

/-! ## One chunk -/

/-- The log of the sigmoid of `z`, over sixteen. -/
def lsg (z : EReal) : EReal :=
  Ideal.div (-(max (-z) 0 + Ideal.log1p (Ideal.exp (-(max z (-z))))))
    (Ideal.ofBits .f32 0x41800000#32)

/-- Gate lane `d` of head `h`. -/
def ln (h : Fin 4) (d : Fin 64) : Fin 256 := ⟨64 * h.val + d.val, by omega⟩

/-- The log-decay of row `i` at a gate lane, from the row's projection. -/
def LG (W : Fin 16 → Fin 256 → EReal) (β : Fin 256 → EReal) (p : Fin 64 → Fin 3200 → EReal)
    (i : Fin 64) (c : Fin 256) : EReal :=
  lsg (∑ k : Fin 16, p i ⟨3072 + k.val, by omega⟩ * W k c + β c)

/-- A running sum down the rows of a chunk. -/
def CB (g : Fin 64 → Fin 256 → EReal) (i : Fin 64) (c : Fin 256) : EReal :=
  ∑ j : Fin 64, if j.val ≤ i.val then g j c else 0

variable (B : Fin 64 → Fin 256 → EReal) (p : Fin 64 → Fin 3200 → EReal)

def qi (i : Fin 64) (c : Fin 256) : EReal :=
  p i ⟨c.val, by omega⟩ * Ideal.ofBits .f32 0x3E000000#32 * Ideal.exp (B i c)
def ko (j : Fin 64) (c : Fin 256) : EReal := p j ⟨256 + c.val, by omega⟩ * Ideal.exp (-(B j c))
def kd (j : Fin 64) (c : Fin 256) : EReal :=
  p j ⟨256 + c.val, by omega⟩ * Ideal.exp (B 63 c - B j c)
def vv (j : Fin 64) (h : Fin 4) (v : Fin 128) : EReal :=
  p j ⟨512 + 128 * h.val + v.val, by omega⟩

/-- The score of row `j` for row `i`, in head `h`. -/
def att (h : Fin 4) (i j : Fin 64) : EReal :=
  if j.val ≤ i.val then ∑ d : Fin 64, qi B p i (ln h d) * ko B p j (ln h d) else 0

/-- A head's output at row `i`, from the state before the chunk. -/
def oo (h : Fin 4) (S : Fin 64 → Fin 128 → EReal) (i : Fin 64) (v : Fin 128) : EReal :=
  ∑ j : Fin 64, att B p h i j * vv p j h v + ∑ d : Fin 64, qi B p i (ln h d) * S d v

/-- A head's state after the chunk. -/
def nx (h : Fin 4) (S : Fin 64 → Fin 128 → EReal) (d : Fin 64) (v : Fin 128) : EReal :=
  S d v * Ideal.exp (B 63 (ln h d)) + ∑ j : Fin 64, kd B p j (ln h d) * vv p j h v

/-- The norm and the gate on one row of a head's output. -/
def rs (o : Fin 128 → EReal) (w g : Fin 128 → EReal) (v : Fin 128) : EReal :=
  o v * Ideal.rsqrt (Ideal.div (∑ x : Fin 128, o x * o x) (Ideal.ofBits .f32 0x43000000#32)
      + Ideal.ofBits .f32 0x358637BD#32) * w v * (g v * Ideal.logistic (g v))

/-! ## The chunks of a sequence -/

/-- Row `i` of chunk `n` of batch entry `b`, as a row of the projection. -/
def rowOf (b : Fin 8) (n : ℕ) (i : Fin 64) : Fin 16384 :=
  ⟨(2048 * b.val + 64 * n + i.val) % 16384, Nat.mod_lt _ (by decide)⟩

/-- The projection's rows of a chunk. -/
def ch (X : (⟨2, ![16384, 3200]⟩ : Shape).Idx → EReal) (b : Fin 8) (n : ℕ) (i : Fin 64)
    (c : Fin 3200) : EReal := X (ix2 (rowOf b n i) c)

/-- The state before chunk `n`. -/
def St (W : Fin 16 → Fin 256 → EReal) (β : Fin 256 → EReal)
    (X : (⟨2, ![16384, 3200]⟩ : Shape).Idx → EReal) (b : Fin 8) :
    ℕ → Fin 4 → Fin 64 → Fin 128 → EReal
  | 0 => fun _ _ _ => 0
  | n + 1 => fun h => nx (CB (LG W β (ch X b n))) (ch X b n) h (St W β X b n h)

/-- A row of the attention's half of the mixed block. -/
def gla (W : Fin 16 → Fin 256 → EReal) (β : Fin 256 → EReal) (w : Fin 128 → EReal)
    (X : (⟨2, ![16384, 3200]⟩ : Shape).Idx → EReal) (b : Fin 8) (n : ℕ) (i : Fin 64) (h : Fin 4)
    (v : Fin 128) : EReal :=
  rs (oo (CB (LG W β (ch X b n))) (ch X b n) h (St W β X b n h) i) w
    (fun x => ch X b n i ⟨1024 + 128 * h.val + x.val, by omega⟩) v

/-! ## The convolution -/

/-- Row `s` of the sequence of batch entry `b`, as a row of the projection. -/
def rowAt (b : Fin 8) (s : ℕ) : Fin 16384 :=
  ⟨(2048 * b.val + s) % 16384, Nat.mod_lt _ (by decide)⟩

/-- The convolved rows, two rows of zero first. -/
def up (X : (⟨2, ![16384, 3200]⟩ : Shape).Idx → EReal) (b : Fin 8) (s : ℕ) (c : Fin 512) : EReal :=
  if s < 2 then 0 else
    X (ix2 (rowAt b (s - 2)) ⟨2560 + c.val, by omega⟩) * X (ix2 (rowAt b (s - 2)) ⟨1536 + c.val, by omega⟩)

/-- A row of the convolution's half of the mixed block. -/
def cv (w : Fin 3 → Fin 512 → EReal) (X : (⟨2, ![16384, 3200]⟩ : Shape).Idx → EReal) (b : Fin 8)
    (s : ℕ) (c : Fin 512) : EReal :=
  X (ix2 (rowAt b s) ⟨2048 + c.val, by omega⟩) *
    (w 0 c * up X b s c + w 1 c * up X b (s + 1) c + w 2 c * up X b (s + 2) c)

/-! ## Facts about the extended reals -/

theorem log1p_nonneg {x : EReal} (h : 0 ≤ x) : 0 ≤ Ideal.log1p x := by
  unfold Ideal.log1p
  induction x with
  | bot => simp at h
  | top =>
    rw [show (1 : EReal) + ⊤ = ⊤ from rfl]
    exact (le_top : (0 : EReal) ≤ ⊤)
  | coe r =>
    have hr : (0 : ℝ) ≤ r := by exact_mod_cast h
    have e : (1 : EReal) + (r : EReal) = ((1 + r : ℝ) : EReal) := by push_cast; rfl
    rw [e]
    show (0 : EReal) ≤ if 1 + r ≤ 0 then ⊥ else ((Real.log (1 + r) : ℝ) : EReal)
    rw [if_neg (by linarith)]
    exact_mod_cast Real.log_nonneg (by linarith)

theorem exp_nonneg (x : EReal) : 0 ≤ Ideal.exp x := by
  induction x with
  | bot => exact le_refl (0 : EReal)
  | top => exact (le_top : (0 : EReal) ≤ ⊤)
  | coe r =>
    show (0 : EReal) ≤ ((Real.exp r : ℝ) : EReal)
    exact_mod_cast (Real.exp_pos r).le

theorem lsg_ne_top (z : EReal) : lsg z ≠ ⊤ := by
  have h : 0 ≤ max (-z) 0 + Ideal.log1p (Ideal.exp (-(max z (-z)))) :=
    add_nonneg (le_max_right _ _) (log1p_nonneg (exp_nonneg _))
  have h' : -(max (-z) 0 + Ideal.log1p (Ideal.exp (-(max z (-z))))) ≤ 0 := by
    rw [EReal.neg_le, neg_zero]; exact h
  have e : Ideal.ofBits .f32 0x41800000#32 = ((16 : ℝ) : EReal) := by
    simp [Ideal.ofBits, Ideal.ieee, -EReal.coe_mul]; norm_num
  unfold lsg
  rw [e]
  unfold Ideal.div
  rw [if_neg (by norm_num)]
  refine ne_top_of_le_ne_top EReal.zero_ne_top ?_
  rw [← EReal.coe_inv]
  exact mul_nonpos_of_nonpos_of_nonneg h' (by norm_num)

theorem sum_half (f : Fin 128 → EReal) (a : ℕ) (ha : a < 2) :
    (∑ l : Fin 128, if l.val / 64 = a then f l else 0) =
      ∑ d : Fin 64, f ⟨64 * a + d.val, by omega⟩ := by
  rw [Fin.sum_univ_two_halves 64 64 rfl]
  obtain rfl | rfl : a = 0 ∨ a = 1 := by omega
  · rw [Finset.sum_congr rfl fun (k : Fin 64) _ => if_pos (show k.val / 64 = 0 by omega),
      Finset.sum_congr rfl fun (k : Fin 64) _ => if_neg (show ¬(64 + k.val) / 64 = 0 by omega),
      Finset.sum_const_zero, add_zero]
    exact Finset.sum_congr rfl fun k _ => congrArg f (Fin.ext (by simp))
  · rw [Finset.sum_congr rfl fun (k : Fin 64) _ => if_neg (show ¬k.val / 64 = 1 by omega),
      Finset.sum_congr rfl fun (k : Fin 64) _ => if_pos (show (64 + k.val) / 64 = 1 by omega),
      Finset.sum_const_zero, zero_add]

/-- A sum over the 256 rows of a tile that keeps one chunk's rows is the sum over the chunk. -/
theorem sum_chunk (f : Fin 256 → EReal) (a : Fin 4) :
    (∑ l : Fin 256, if l.val / 64 = a.val then f l else 0) =
      ∑ d : Fin 64, f ⟨64 * a.val + d.val, by omega⟩ := by
  rw [Finset.sum_ite, Finset.sum_const_zero, add_zero]
  symm
  refine Finset.sum_bij (fun d _ => (⟨64 * a.val + d.val, by omega⟩ : Fin 256)) ?_ ?_ ?_ ?_
  · intro d _; simp only [Finset.mem_filter, Finset.mem_univ, true_and]; omega
  · intro d _ e _ h; have := congrArg Fin.val h; exact Fin.ext (by simpa using this)
  · intro l hl
    have h : l.val / 64 = a.val := by simpa using hl
    exact ⟨⟨l.val - 64 * a.val, by omega⟩, Finset.mem_univ _, Fin.ext (by simp only []; omega)⟩
  · intro d _; rfl

/-- What the three roundings of a value add up to, under a weight of zero or one. -/
theorem three_parts (t g : EReal) (ht : t = 0 ∨ t = 1) (hg : g ≠ ⊤) :
    t * g + (t * (g - g) + t * (g - g - (g - g))) = t * g := by
  rcases ht with rfl | rfl
  · simp
  · simp only [one_mul]
    induction g with
    | bot => rfl
    | top => exact absurd rfl hg
    | coe r => simp only [← EReal.coe_sub, sub_self]; simp

end Cert.Gla

end

end
-- ==== Proof.BlockMath.lean ====
/- The named blocks of a grid point, read entry by entry over the extended reals: the running
   log-decay, one head's output for one chunk and one head's state after it are the plain sums of
   `Proof/Spec.lean`. -/
module

public import proofs.«01_k».proof.Proof.Pieces
public import proofs.«01_k».proof.Proof.Spec

@[expose] public section

set_option maxRecDepth 16384

noncomputable section

namespace Cert.Gla

open Idealize.ShloMosaic Cert.KernelIdeal Cert.KernelIdeal.Gen

/-! ## Lane numbers -/

/-- The printed floor division of a lane or row number by 64. -/
def fdiv (n : BitVec 32) : BitVec 32 :=
  Scalar.select
    (IntOp.andi
      (IntOp.cmpi .ne
        (IntOp.subi (BitVec.setWidth 32 (IntOp.cmpi .sgt n 0#32))
          (BitVec.setWidth 32 (IntOp.cmpi .slt n 0#32)))
        1#32)
      (IntOp.cmpi .ne (IntOp.remsi ArithUnit.vector n 64#32) 0#32))
    (IntOp.subi (IntOp.divsi ArithUnit.vector n 64#32) 1#32)
    (IntOp.divsi ArithUnit.vector n 64#32)

theorem fdiv_ofNat (n : Fin 256) : fdiv (BitVec.ofNat 32 n.val) = BitVec.ofNat 32 (n.val / 64) := by
  revert n; decide +kernel

theorem cmp_div (a b : ℕ) (ha : a < 256) (hb : b < 256) :
    IntOp.cmpi .eq (BitVec.ofNat 32 a) (BitVec.ofNat 32 b) = if a = b then 1#1 else 0#1 := by
  show BitVec.ofBool (decide _) = _
  by_cases h : a = b
  · subst h; simp
  · rw [if_neg h, decide_eq_false]; rfl
    intro e
    have := congrArg BitVec.toNat e
    simp only [BitVec.toNat_ofNat] at this
    omega

theorem cmp_le (a b : ℕ) (ha : a < 256) (hb : b < 256) :
    IntOp.cmpi .sle (BitVec.ofNat 32 a) (BitVec.ofNat 32 b) = if a ≤ b then 1#1 else 0#1 := by
  have e : (BitVec.ofNat 32 a).sle (BitVec.ofNat 32 b) = decide (a ≤ b) := by
    rw [BitVec.sle_eq_decide, BitVec.toInt_ofNat', BitVec.toInt_ofNat',
      Int.bmod_eq_of_le (by omega) (by omega), Int.bmod_eq_of_le (by omega) (by omega)]
    simp
  show BitVec.ofBool ((BitVec.ofNat 32 a).sle (BitVec.ofNat 32 b)) = _
  rw [e]
  by_cases h : a ≤ b <;> simp [h]

theorem tri_apply (r c : Fin 256) :
    TRI (F := Ideal) (ix2 r c) =
      if r.val / 64 = c.val / 64 then (if c.val ≤ r.val then (1 : EReal) else 0) else 0 := by
  pointwise [TRI, k0_pay10, k0_pay8, k0_pay9]
  change Scalar.select
    (IntOp.andi (IntOp.cmpi .eq (fdiv (BitVec.ofNat 32 r.val)) (fdiv (BitVec.ofNat 32 c.val)))
      (IntOp.cmpi .sle (BitVec.ofNat 32 c.val) (BitVec.ofNat 32 r.val))) (1 : EReal) 0 = _
  rw [fdiv_ofNat, fdiv_ofNat, cmp_div _ _ (by omega) (by omega), cmp_le _ _ (by omega) (by omega)]
  by_cases h : r.val / 64 = c.val / 64 <;> by_cases h' : c.val ≤ r.val <;>
    simp only [h, h', if_true, if_false] <;> rfl

theorem qm_apply (h : Fin 4) (i : Fin 64) (l : Fin 128) (q : FVec Ideal S64x256 .bf16) :
    QM (F := Ideal) h q (ix2 i l) =
      if l.val / 64 = h.val % 2 then (q (ix2 i ⟨128 * (h.val / 2) + l.val, by omega⟩) : EReal) else 0 := by
  pointwise [QM, LANEHEAD, LANE, k0_pay33, k0_pay34]
  change Scalar.select (IntOp.cmpi .eq (fdiv (BitVec.ofNat 32 l.val)) (BitVec.ofNat 32 (h.val % 2)))
    (q (ix2 i ⟨128 * (h.val / 2) + l.val, by omega⟩) : EReal) 0 = _
  rw [show BitVec.ofNat 32 l.val = BitVec.ofNat 32 (⟨l.val, by omega⟩ : Fin 256).val from rfl,
    fdiv_ofNat, cmp_div _ _ (by simp only []; omega) (by omega)]
  by_cases h' : l.val / 64 = h.val % 2 <;> simp only [h', if_true, if_false] <;> rfl

/-! ## The running log-decay -/

theorem tri_01 (r c : Fin 256) :
    TRI (F := Ideal) (ix2 r c) = (0 : EReal) ∨ TRI (F := Ideal) (ix2 r c) = (1 : EReal) := by
  rw [tri_apply]
  split_ifs <;> simp

theorem bc_apply (g : FVec Ideal S256x256 .f32) (hg : ∀ r c : Fin 256, (g (ix2 r c) : EReal) ≠ ⊤)
    (ck : Fin 4) (i : Fin 64) (c : Fin 256) :
    BC g (ix2 ⟨64 * ck.val + i.val, by omega⟩ c) =
      CB (fun j c => g (ix2 ⟨64 * ck.val + j.val, by omega⟩ c)) i c := by
  have e : BC g (ix2 ⟨64 * ck.val + i.val, by omega⟩ c) =
      ∑ l : Fin 256, TRI (F := Ideal) (ix2 ⟨64 * ck.val + i.val, by omega⟩ l) * (g (ix2 l c) : EReal) := by
    pointwise [BC, k0_pay14, k0_pay13, k0_pay12, k0_pay11]
    rw [← Finset.sum_add_distrib, ← Finset.sum_add_distrib]
    exact Finset.sum_congr rfl fun l _ => three_parts _ _ (tri_01 _ _) (hg _ _)
  rw [e]
  have e2 : ∀ l : Fin 256, TRI (F := Ideal) (ix2 ⟨64 * ck.val + i.val, by omega⟩ l) * (g (ix2 l c) : EReal) =
      if l.val / 64 = ck.val then
        (if l.val ≤ 64 * ck.val + i.val then (g (ix2 l c) : EReal) else 0) else 0 := by
    intro l
    rw [tri_apply]
    simp only [show (64 * ck.val + i.val) / 64 = ck.val by omega, eq_comm (a := ck.val)]
    split_ifs <;> simp
  rw [Finset.sum_congr rfl fun l _ => e2 l,
    sum_chunk (fun l => if l.val ≤ 64 * ck.val + i.val then (g (ix2 l c) : EReal) else 0) ck]
  unfold CB
  refine Finset.sum_congr rfl fun j _ => ?_
  simp only [Nat.add_le_add_iff_left]

theorem logg_apply (x : Vec Ideal S256x128 .f32) (w : Vec Ideal S128x256 .bf16)
    (b : Vec Ideal S1x256 .f32) (r c : Fin 256) :
    LOGG x w b (ix2 r c) = lsg ((∑ k : Fin 128, (x (ix2 r k) : EReal) * w (ix2 k c)) + b (ix2 0 c)) := by
  pointwise [LOGG, k0_pay7]
  unfold lsg
  simp only [zero_sub]
  rfl

/-! ## A tile's block of the projection -/

/-- Chunk `ck` of a tile's block of the projection. -/
def PX (x : Vec Ideal S256x3200 .f32) (ck : Fin 4) (i : Fin 64) (c : Fin 3200) : EReal :=
  x (ix2 ⟨64 * ck.val + i.val, by omega⟩ c)

/-- The useful lanes of a head's state. -/
def LV (h : Fin 4) (s : FVec Ideal S128x128 .f32) (d : Fin 64) (v : Fin 128) : EReal :=
  s (ix2 v ⟨64 * (h.val % 2) + d.val, by omega⟩)

theorem sum_pad (f : Fin 128 → EReal) (hf : ∀ k : Fin 128, 16 ≤ k.val → f k = 0) :
    ∑ k : Fin 128, f k = ∑ k : Fin 16, f ⟨k.val, by omega⟩ := by
  rw [Fin.sum_univ_two_halves 16 112 rfl,
    Finset.sum_eq_zero (s := (Finset.univ : Finset (Fin 112))) fun k _ => hf _ (by simp only []; omega), add_zero]

variable {W : Fin 16 → Fin 256 → EReal} {β : Fin 256 → EReal}

theorem gg_apply (x0 : Vec Ideal S256x3200 .f32) (x1 : Vec Ideal S128x256 .bf16)
    (x2 : Vec Ideal S1x256 .f32)
    (h1 : ∀ (k : Fin 128) (c : Fin 256), (x1 (ix2 k c) : EReal) = if h : k.val < 16 then W ⟨k.val, h⟩ c else 0)
    (h2 : ∀ c : Fin 256, (x2 (ix2 0 c) : EReal) = β c) (ck : Fin 4) (i : Fin 64) (c : Fin 256) :
    GG x0 x1 x2 (ix2 ⟨64 * ck.val + i.val, by omega⟩ c) = LG W β (PX x0 ck) i c := by
  unfold GG
  rw [logg_apply]
  unfold LG
  congr 2
  · rw [sum_pad]
    · refine Finset.sum_congr rfl fun k _ => ?_
      pointwise
      rw [h1, dif_pos k.2]
      rfl
    · intro k hk
      pointwise
      rw [h1, dif_neg (by omega), mul_zero]
  · pointwise
    exact h2 c

theorem bb_apply (x0 : Vec Ideal S256x3200 .f32) (x1 : Vec Ideal S128x256 .bf16)
    (x2 : Vec Ideal S1x256 .f32)
    (h1 : ∀ (k : Fin 128) (c : Fin 256), (x1 (ix2 k c) : EReal) = if h : k.val < 16 then W ⟨k.val, h⟩ c else 0)
    (h2 : ∀ c : Fin 256, (x2 (ix2 0 c) : EReal) = β c) (ck : Fin 4) (i : Fin 64) (c : Fin 256) :
    BR ck (BB x0 x1 x2) (ix2 i c) = CB (LG W β (PX x0 ck)) i c := by
  have e : BR ck (BB x0 x1 x2) (ix2 i c) = BB x0 x1 x2 (ix2 ⟨64 * ck.val + i.val, by omega⟩ c) := by
    pointwise [BR]
  rw [e]
  unfold BB
  rw [bc_apply _ fun r c => by unfold GG; rw [logg_apply]; exact lsg_ne_top _]
  unfold CB
  refine Finset.sum_congr rfl fun j _ => ?_
  have e' := gg_apply x0 x1 x2 h1 h2 ck j c
  simp only [e']

/-! ## One head of one chunk -/

section

variable (B : Fin 64 → Fin 256 → EReal) (x : Vec Ideal S256x3200 .f32) (bc : FVec Ideal S256x256 .f32)
  (ck : Fin 4) (hb : ∀ i c, BR ck bc (ix2 i c) = B i c)

include hb

theorem qin_apply (i : Fin 64) (c : Fin 256) :
    QIN (BR ck bc) (QL x ck) (ix2 i c) = qi B (PX x ck) i c := by
  pointwise [QIN, QL]
  rw [hb]; rfl

theorem kout_apply (i : Fin 64) (c : Fin 256) :
    KOUT (BR ck bc) (KL x ck) (ix2 i c) = ko B (PX x ck) i c := by
  pointwise [KOUT, KL]
  rw [hb, zero_sub]; rfl

theorem kdec_apply (i : Fin 64) (c : Fin 256) :
    KDEC (BR ck bc) (KL x ck) (ix2 i c) = kd B (PX x ck) i c := by
  have e63 := hb 63 c
  have ei := hb i c
  pointwise [KDEC, KL, BLAST]
  simp only [hb]
  rfl

theorem decay_apply (c : Fin 256) : DECAY (BR ck bc) (ix2 0 c) = Ideal.exp (B 63 c) := by
  pointwise [DECAY, BLAST]
  erw [hb 63]

omit hb in
theorem vl_apply (h : Fin 4) (i : Fin 64) (v : Fin 128) :
    VL x ck h (ix2 i v) = vv (PX x ck) i h v := by
  pointwise [VL]
  rfl

omit hb in
theorem ol_apply (h : Fin 4) (i : Fin 64) (v : Fin 128) :
    OL x ck h (ix2 i v) = PX x ck i ⟨1024 + 128 * h.val + v.val, by omega⟩ := by
  pointwise [OL]
  rfl

theorem cs_apply (h : Fin 4) (s : FVec Ideal S128x128 .f32) :
    LV h (CS x bc h ck s) = nx B (PX x ck) h (LV h s) := by
  funext d v
  unfold LV CS
  have e : (⟨128 * (h.val / 2) + (64 * (h.val % 2) + d.val), by omega⟩ : Fin 256) = ln h d :=
    Fin.ext (by simp only [ln]; omega)
  pointwise [NEXT]
  rw [e, decay_apply B bc ck hb]
  simp only [vl_apply, kdec_apply B x bc ck hb, e]
  unfold nx
  congr 1
  exact Finset.sum_congr rfl fun j _ => mul_comm _ _

theorem out_apply (h : Fin 4) (s : FVec Ideal S128x128 .f32) (i : Fin 64) (v : Fin 128) :
    OUT h (QIN (BR ck bc) (QL x ck)) (KOUT (BR ck bc) (KL x ck)) (VL x ck h) s (ix2 i v) =
      oo B (PX x ck) h (LV h s) i v := by
  pointwise [OUT, k0_pay15]
  have e : ∀ d : Fin 64, (⟨128 * (h.val / 2) + (64 * (h.val % 2) + d.val), by omega⟩ : Fin 256) = ln h d :=
    fun d => Fin.ext (by simp only [ln]; omega)
  have q : ∀ (f : Fin 128 → EReal),
      ∑ l : Fin 128, (QM h (QIN (BR ck bc) (QL x ck)) (ix2 i l) : EReal) * f l =
        ∑ d : Fin 64, qi B (PX x ck) i (ln h d) * f ⟨64 * (h.val % 2) + d.val, by omega⟩ := by
    intro f
    rw [Finset.sum_congr rfl fun l _ => show (QM h (QIN (BR ck bc) (QL x ck)) (ix2 i l) : EReal) * f l =
        (if l.val / 64 = h.val % 2 then
        (QIN (BR ck bc) (QL x ck) (ix2 i ⟨128 * (h.val / 2) + l.val, by omega⟩) : EReal) * f l else 0) by
      rw [qm_apply, ite_mul, zero_mul],
      sum_half (fun l => (QIN (BR ck bc) (QL x ck) (ix2 i ⟨128 * (h.val / 2) + l.val, by omega⟩) : EReal) * f l)
        _ (by omega)]
    refine Finset.sum_congr rfl fun d _ => ?_
    rw [e, qin_apply B x bc ck hb]
  rw [q]
  unfold oo
  congr 1
  refine Finset.sum_congr rfl fun j _ => ?_
  rw [q, vl_apply]
  rw [cmp_le _ _ (by omega) (by omega)]
  unfold att
  simp only [e, kout_apply B x bc ck hb]
  by_cases h' : j.val ≤ i.val
  · simp only [h', if_true]; rfl
  · simp only [h', if_false, zero_mul]; rfl

theorem co_apply (h : Fin 4) (w : Vec Ideal S1x128 .f32) (s : FVec Ideal S128x128 .f32) (i : Fin 64)
    (v : Fin 128) :
    CO x bc w h ck s (ix2 i v) =
      rs (oo B (PX x ck) h (LV h s) i) (fun y => w (ix2 0 y))
        (fun y => PX x ck i ⟨1024 + 128 * h.val + y.val, by omega⟩) v := by
  unfold CO
  pointwise [RES]
  simp only [out_apply B x bc ck hb, ol_apply]
  rfl

end

end Cert.Gla

end

end
-- ==== Proof.Tile.lean ====
/- One grid point as a tile of 256 rows of one sequence: from the states before the tile, what it
   stores is the sequence's chunks of `Proof/Spec.lean`, and the states after it are four chunks on. -/
module

public import Idealize.ShloMosaic.Lib.Pipeline.CanonAppend
public import proofs.«01_k».proof.Proof.BlockMath

@[expose] public section

set_option maxRecDepth 16384

noncomputable section

namespace Cert.Gla

open Idealize.ShloMosaic Cert.KernelIdeal Cert.KernelIdeal.Gen

/-! ## Pieces read back -/

theorem drop_lead {α : Type} (v : S1x128x128.Idx → α) (a l : Fin 128) :
    shapeCast S128x128 v shapeCasts_S1x128x128_S128x128 (ix2 a l) = v (ix3 0 a l) := by
  pointwise

theorem add_lead {α : Type} (v : S128x128.Idx → α) (a l : Fin 128) :
    shapeCast S1x128x128 v shapeCasts_S128x128_S1x128x128 (ix3 0 a l) = v (ix2 a l) := by
  pointwise

theorem emb_lead (h : Fin 4) (hin : ∀ a, (![h.val, 0, 0] : Fin 3 → Nat) a + S1x128x128.size a ≤ S4x128x128.size a)
    (a l : Fin 128) :
    (Rect.unit (s := S4x128x128) ![h.val, 0, 0] S1x128x128.size hin).emb (ix3 0 a l) = ix3 h a l := by
  funext k
  apply Fin.ext
  fin_cases k
  · show h.val + 1 * 0 = h.val
    omega
  · show 0 + 1 * a.val = a.val
    omega
  · show 0 + 1 * l.val = l.val
    omega

/-- A state as a function on the state scratch. -/
def STK (s : Fin 4 → FVec Ideal S128x128 .f32) : S4x128x128.Idx → EReal :=
  fun y => s (y 0) (ix2 (y 1) (y 2))

theorem stk_piece (s : Fin 4 → FVec Ideal S128x128 .f32) (h : Fin 4)
    (hin : ∀ a, (![h.val, 0, 0] : Fin 3 → Nat) a + S1x128x128.size a ≤ S4x128x128.size a)
    (y : S1x128x128.Idx) :
    shapeCast S1x128x128 (s h) shapeCasts_S128x128_S1x128x128 y =
      STK s ((Rect.unit (s := S4x128x128) ![h.val, 0, 0] S1x128x128.size hin).emb y) := by
  obtain ⟨a, l, rfl⟩ : ∃ a l, y = ix3 (0 : Fin 1) a l :=
    ⟨y 1, y 2, (eq_ix3 y).trans (congrArg (fun z : Fin 1 => ix3 z (y 1) (y 2)) (Subsingleton.elim _ _))⟩
  rw [add_lead, emb_lead]
  rfl

theorem ls_mem (s : Fin 4 → FVec Ideal S128x128 .f32) (h : Fin 4) (a l : Fin 128) :
    ∃ p ∈ LS s, ix3 h a l ∈ p.1.set := by
  have k : ∀ (h : Fin 4) (hin), ix3 h a l ∈
      (Rect.unit (s := S4x128x128) ![h.val, 0, 0] S1x128x128.size hin).set := fun h hin => by
    rw [← emb_lead h hin a l]; exact LoadRect.idx_mem _ _
  fin_cases h
  · exact ⟨_, .tail _ (.tail _ (.tail _ (.head _))), k 0 (ldS 0)⟩
  · exact ⟨_, .tail _ (.tail _ (.head _)), k 1 (ldS 1)⟩
  · exact ⟨_, .tail _ (.head _), k 2 (ldS 2)⟩
  · exact ⟨_, .head _, k 3 (ldS 3)⟩

theorem ls_apply (v : View sig .tc .vmem S4x128x128 .f32) (f : v.ty.Contents (Elt Ideal))
    (s : Fin 4 → FVec Ideal S128x128 .f32) (tl : List (View.Piece (Elt Ideal) S4x128x128 .f32))
    (h : Fin 4) (a l : Fin 128) :
    v.read (Elt Ideal) (v.writes (Elt Ideal) f (LS s ++ tl)) (ix3 h a l) = s h (ix2 a l) := by
  obtain ⟨p, hp, hy⟩ := ls_mem s h a l
  rw [View.read_writes_apply_eq_canon v f _ _ ⟨p, List.mem_append_left _ hp, hy⟩,
    View.canon_append_of_pieces (STK s) tl (LS s) ?_ _ ⟨p, hp, hy⟩]
  · rfl
  · simp only [LS, List.forall_mem_cons]
    exact ⟨stk_piece s 3 _, stk_piece s 2 _, stk_piece s 1 _, stk_piece s 0 _, fun p hp => absurd hp List.not_mem_nil⟩

theorem split_apply (xs : Vec Ideal S4x128x128 .f32) (h : Fin 4) (a l : Fin 128) :
    SPLIT xs h (ix2 a l) = xs (ix3 h a l) := by
  unfold SPLIT
  rw [drop_lead]
  exact congrArg xs (emb_lead h (ldS h) a l)

theorem cleared_apply (v : View sig .tc .vmem S4x128x128 .f32) (h : Fin 4) (a l : Fin 128) :
    CLEARED (F := Ideal) v h (ix2 a l) = (0 : EReal) := by
  unfold CLEARED
  rw [drop_lead, View.readCov_eq_canon']
  have e : (kernelRun0_A.sl.HS0_1 : List (View.Piece (Elt Ideal) S4x128x128 .f32)) =
    [⟨Rect.unit ![0, 0, 0] S4x128x128.size inb_S4x128x128_S4x128x128_0_0_0, (k0_pay5 (F := Ideal))⟩] := rfl
  rw [e]
  have e0 : ∀ y, (k0_pay5 (F := Ideal)) y = (0 : EReal) := fun y => by
    rw [eq_ix3 y]; pointwise [k0_pay5]
  have hm : ix3 h a l ∈ (Rect.unit (s := S4x128x128) ![0, 0, 0] S4x128x128.size
      inb_S4x128x128_S4x128x128_0_0_0).set := by
    rw [Rect.mem_set_unit]
    intro k
    fin_cases k
    · exact ⟨Nat.zero_le _, by simpa using h.isLt⟩
    · exact ⟨Nat.zero_le _, by simpa using a.isLt⟩
    · exact ⟨Nat.zero_le _, by simpa using l.isLt⟩
  have e1 := View.canon_apply_of_pieces (Val := Elt Ideal) (S := S4x128x128) (e := .f32) (fun _ => (0 : EReal))
    [⟨Rect.unit ![0, 0, 0] S4x128x128.size inb_S4x128x128_S4x128x128_0_0_0, (k0_pay5 (F := Ideal))⟩]
    (by simp only [List.forall_mem_cons]; exact ⟨e0, fun p hp => absurd hp List.not_mem_nil⟩) (ix3 h a l)
    ⟨_, .head _, hm⟩
  exact (congrArg (View.canon _) (emb_lead h (ldS h) a l)).trans e1

/-! ## The states of a tile -/

section

variable {W : Fin 16 → Fin 256 → EReal} {β : Fin 256 → EReal} {X : (⟨2, ![16384, 3200]⟩ : Shape).Idx → EReal}
  {b : Fin 8} {n : ℕ} {x : Vec Ideal S256x3200 .f32} {bc : FVec Ideal S256x256 .f32}
  {s : Fin 4 → FVec Ideal S128x128 .f32}
  (hx : ∀ ck, PX x ck = ch X b (n + ck.val))
  (hb : ∀ (ck : Fin 4) i c, BR ck bc (ix2 i c) = CB (LG W β (PX x ck)) i c)
  (hs : ∀ h, LV h (s h) = St W β X b n h)

include hx hb in
theorem cs_St (ck h : Fin 4) (s' : FVec Ideal S128x128 .f32) (h' : LV h s' = St W β X b (n + ck.val) h) :
    LV h (CS x bc h ck s') = St W β X b (n + ck.val + 1) h := by
  rw [cs_apply _ x bc ck (hb ck), h', hx]
  rfl

include hx hb hs

theorem S1_St (h : Fin 4) : LV h (S1 x bc s h) = St W β X b (n + 1) h := cs_St hx hb 0 h _ (hs h)
theorem S2_St (h : Fin 4) : LV h (S2 x bc s h) = St W β X b (n + 2) h :=
  cs_St hx hb 1 h _ (S1_St hx hb hs h)
theorem S3_St (h : Fin 4) : LV h (S3 x bc s h) = St W β X b (n + 3) h :=
  cs_St hx hb 2 h _ (S2_St hx hb hs h)
theorem S4_St (h : Fin 4) : LV h (S4 x bc s h) = St W β X b (n + 4) h :=
  cs_St hx hb 3 h _ (S3_St hx hb hs h)

end

/-! ## The mixer's block -/

/-- The mixer's block of a tile that starts at chunk `n` of batch entry `b`. -/
def GM (W : Fin 16 → Fin 256 → EReal) (β : Fin 256 → EReal) (w : Fin 128 → EReal)
    (wc : Fin 3 → Fin 512 → EReal) (X : (⟨2, ![16384, 3200]⟩ : Shape).Idx → EReal) (b : Fin 8) (n : ℕ)
    (r : ℕ) (l : ℕ) : EReal :=
  if l < 512 then
    gla W β w X b (n + r / 64) ⟨r % 64, by omega⟩ ⟨l / 128 % 4, by omega⟩ ⟨l % 128, by omega⟩
  else cv wc X b (64 * n + r) ⟨(l - 512) % 512, by omega⟩

section

variable {W : Fin 16 → Fin 256 → EReal} {β : Fin 256 → EReal} {w : Fin 128 → EReal}
  {wc : Fin 3 → Fin 512 → EReal} {X : (⟨2, ![16384, 3200]⟩ : Shape).Idx → EReal}
  {b : Fin 8} {n : ℕ} {x : Vec Ideal S256x3200 .f32} {bc : FVec Ideal S256x256 .f32}
  {s : Fin 4 → FVec Ideal S128x128 .f32} {gh : Vec Ideal S1x128 .f32} {cvb : FVec Ideal S256x512 .bf16}
  (hx : ∀ ck, PX x ck = ch X b (n + ck.val))
  (hb : ∀ (ck : Fin 4) i c, BR ck bc (ix2 i c) = CB (LG W β (PX x ck)) i c)
  (hs : ∀ h, LV h (s h) = St W β X b n h)
  (hw : ∀ c : Fin 128, gh (ix2 0 c) = w c)
  (hc : ∀ (i : Fin 256) (l : Fin 512), cvb (ix2 i l) = cv wc X b (64 * n + i.val) l)

include hx hb hw

theorem co_piece (ck h : Fin 4) (s' : FVec Ideal S128x128 .f32)
    (h' : LV h s' = St W β X b (n + ck.val) h)
    (hin : ∀ a, (![64 * ck.val, 128 * h.val] : Fin 2 → Nat) a + S64x128.size a ≤ S256x1024.size a)
    (y : S64x128.Idx) :
    CO x bc gh h ck s' y = GM W β w wc X b n
      (((Rect.unit (s := S256x1024) ![64 * ck.val, 128 * h.val] S64x128.size hin).emb y) 0).val
      (((Rect.unit (s := S256x1024) ![64 * ck.val, 128 * h.val] S64x128.size hin).emb y) 1).val := by
  obtain ⟨i, v, rfl⟩ : ∃ (i : Fin 64) (v : Fin 128), y = ix2 i v := ⟨y 0, y 1, eq_ix2 y⟩
  rw [co_apply _ x bc ck (hb ck), h']
  have e0 : (((Rect.unit (s := S256x1024) ![64 * ck.val, 128 * h.val] S64x128.size hin).emb (ix2 i v)) 0).val =
      64 * ck.val + i.val := by
    show 64 * ck.val + 1 * i.val = _
    omega
  have e1 : (((Rect.unit (s := S256x1024) ![64 * ck.val, 128 * h.val] S64x128.size hin).emb (ix2 i v)) 1).val =
      128 * h.val + v.val := by
    show 128 * h.val + 1 * v.val = _
    omega
  rw [e0, e1]
  unfold GM gla
  rw [if_pos (by omega), show (64 * ck.val + i.val) / 64 = ck.val by omega, hx]
  simp only [show (64 * ck.val + i.val) % 64 = i.val by omega,
    show (128 * h.val + v.val) / 128 % 4 = h.val by omega,
    show (128 * h.val + v.val) % 128 = v.val by omega, Fin.eta, hw]

omit hx hb hw in
include hc in
theorem cv_piece (y : S256x512.Idx) :
    cvb y = GM W β w wc X b n
      (((Rect.unit (s := S256x1024) ![0, 512] S256x512.size inb_S256x1024_S256x512_0_512).emb y) 0).val
      (((Rect.unit (s := S256x1024) ![0, 512] S256x512.size inb_S256x1024_S256x512_0_512).emb y) 1).val := by
  obtain ⟨i, l, rfl⟩ : ∃ (i : Fin 256) (l : Fin 512), y = ix2 i l := ⟨y 0, y 1, eq_ix2 y⟩
  have e0 : (((Rect.unit (s := S256x1024) ![0, 512] S256x512.size inb_S256x1024_S256x512_0_512).emb (ix2 i l)) 0).val =
      i.val := by
    show 0 + 1 * i.val = _
    omega
  have e1 : (((Rect.unit (s := S256x1024) ![0, 512] S256x512.size inb_S256x1024_S256x512_0_512).emb (ix2 i l)) 1).val =
      512 + l.val := by
    show 512 + 1 * l.val = _
    omega
  rw [e0, e1, hc]
  unfold GM
  rw [if_neg (by omega)]
  simp only [show (512 + l.val - 512) % 512 = l.val by omega, Fin.eta]

include hs hc

theorem l5_apply (y : S256x1024.Idx) (hy : ∃ p ∈ L5 x bc gh s cvb, y ∈ p.1.set) :
    View.canon (L5 x bc gh s cvb) y = GM W β w wc X b n (y 0).val (y 1).val := by
  refine View.canon_apply_of_pieces (fun y : S256x1024.Idx => GM W β w wc X b n (y 0).val (y 1).val) _ ?_ y hy
  simp only [L5, List.forall_mem_cons]
  have h3 := S3_St hx hb hs
  have h2 := S2_St hx hb hs
  have h1 := S1_St hx hb hs
  have q := co_piece (wc := wc) hx hb hw
  exact ⟨cv_piece hc,
    q 3 3 _ (h3 3) _, q 3 2 _ (h3 2) _, q 3 1 _ (h3 1) _, q 3 0 _ (h3 0) _,
    q 2 3 _ (h2 3) _, q 2 2 _ (h2 2) _, q 2 1 _ (h2 1) _, q 2 0 _ (h2 0) _,
    q 1 3 _ (h1 3) _, q 1 2 _ (h1 2) _, q 1 1 _ (h1 1) _, q 1 0 _ (h1 0) _,
    q 0 3 _ (hs 3) _, q 0 2 _ (hs 2) _, q 0 1 _ (hs 1) _, q 0 0 _ (hs 0) _,
    fun p hp => absurd hp List.not_mem_nil⟩

end

/-! ## The convolution's rows -/

section

variable {wc : Fin 3 → Fin 512 → EReal} {X : (⟨2, ![16384, 3200]⟩ : Shape).Idx → EReal}
  {b : Fin 8} {q : ℕ} {x : Vec Ideal S256x3200 .f32}
  (hX : ∀ (r : Fin 256) (c : Fin 3200), x (ix2 r c) = X (ix2 (rowAt b (q + r.val)) c))

include hX

theorem uu_apply (i : Fin 256) (l : Fin 512) : UU x (ix2 i l) = up X b (q + i.val + 2) l := by
  pointwise [UU, k0_pay149, k0_pay148]
  unfold up
  rw [if_neg (by omega), hX, hX]
  rfl

theorem upiece_hit (v : View sig .tc .vmem S264x512 .f32) (f : v.ty.Contents (Elt Ideal))
    (tl : List (View.Piece (Elt Ideal) S264x512 .f32)) (r : Fin 264) (hr : 8 ≤ r.val) (l : Fin 512) :
    v.read (Elt Ideal) (v.writes (Elt Ideal) f (UPIECE x :: tl)) (ix2 r l) = up X b (q + (r.val - 6)) l := by
  unfold UPIECE
  rw [View.read_writes_cons_hit v f _ _ tl (ix2 (⟨r.val - 8, by omega⟩ : Fin 256) l) (ix2 r l)
    (by
      funext k
      apply Fin.ext
      fin_cases k
      · show 8 + 1 * (r.val - 8) = r.val
        omega
      · show 0 + 1 * l.val = l.val
        omega), uu_apply hX]
  congr 1
  simp only []
  omega

omit hX in
theorem upiece_miss (v : View sig .tc .vmem S264x512 .f32) (f : v.ty.Contents (Elt Ideal))
    (tl : List (View.Piece (Elt Ideal) S264x512 .f32)) (r : Fin 264) (hr : r.val < 8) (l : Fin 512) :
    v.read (Elt Ideal) (v.writes (Elt Ideal) f (UPIECE x :: tl)) (ix2 r l) =
      v.read (Elt Ideal) (v.writes (Elt Ideal) f tl) (ix2 r l) :=
  View.read_writes_cons_miss_of_axis v f _ tl _ 0 8 256 rfl rfl rfl (Or.inl hr)

/-- The scratch rows from row 6 on, over the rows a tile before left. -/
theorem rows_carry (M : Memref sig .tc .vmem S264x512 .f32) (hv : M.IsWhole) (xs : Vec Ideal S264x512 .f32)
    (h6 : ∀ l : Fin 512, xs (ix2 6 l) = up X b q l) (h7 : ∀ l : Fin 512, xs (ix2 7 l) = up X b (q + 1) l)
    (r : Fin 264) (hr : 6 ≤ r.val) (l : Fin 512) :
    M.view.read (Elt Ideal) (M.view.writes (Elt Ideal) (hv.unread xs) [UPIECE x]) (ix2 r l) = up X b (q + (r.val - 6)) l := by
  by_cases h8 : 8 ≤ r.val
  · exact upiece_hit hX M.view _ _ r h8 l
  · rw [upiece_miss M.view _ _ r (by omega) l, View.writes_nil, hv.read_unread]
    rcases (show r.val = 6 ∨ r.val = 7 by omega) with e | e
    · rw [show r = 6 from Fin.ext e, h6]; rfl
    · rw [show r = 7 from Fin.ext e, h7]; rfl

/-- The scratch rows from row 6 on, over cleared rows. -/
theorem rows_clear (v : View sig .tc .vmem S264x512 .f32) (f : v.ty.Contents (Elt Ideal)) (hq : q = 0)
    (r : Fin 264) (hr : 6 ≤ r.val) (l : Fin 512) :
    v.read (Elt Ideal) (v.writes (Elt Ideal) f
      [UPIECE x, ⟨Rect.unit ![0, 0] S8x512.size inb_S264x512_S8x512_0_0, (k0_pay6 (F := Ideal))⟩]) (ix2 r l) =
      up X b (q + (r.val - 6)) l := by
  by_cases h8 : 8 ≤ r.val
  · exact upiece_hit hX v _ _ r h8 l
  · rw [upiece_miss v _ _ r (by omega) l,
      View.read_writes_cons_hit v f _ _ [] (ix2 (⟨r.val, by omega⟩ : Fin 8) l) (ix2 r l)
        (by
          funext k
          apply Fin.ext
          fin_cases k
          · show 0 + 1 * r.val = r.val
            omega
          · show 0 + 1 * l.val = l.val
            omega)]
    unfold up
    rw [if_pos (by omega)]
    pointwise [k0_pay6]

/-- The two rows kept for the next tile. -/
theorem rows_keep (v v' : View sig .tc .vmem S264x512 .f32) (f : v.ty.Contents (Elt Ideal))
    (f' : v'.ty.Contents (Elt Ideal)) (tl tl' : List (View.Piece (Elt Ideal) S264x512 .f32)) (j : Fin 2) (l : Fin 512) :
    v.read (Elt Ideal) (v.writes (Elt Ideal) f
      (⟨Rect.unit ![6, 0] S2x512.size inb_S264x512_S2x512_6_0,
        (shapeCast S2x512 (View.ld (v'.read (Elt Ideal) (v'.writes (Elt Ideal) f' (UPIECE x :: tl')))
          (Rect.unit ![262, 0] ![2, 512] inb_S264x512_S2x512_262_0)) shapeCasts_S2x512_S2x512)⟩ :: tl))
      (ix2 (⟨6 + j.val, by omega⟩ : Fin 264) l) = up X b (q + 256 + j.val) l := by
  rw [View.read_writes_cons_hit v f _ _ tl (ix2 j l) _
        (by
          funext k
          apply Fin.ext
          fin_cases k
          · show 6 + 1 * j.val = 6 + j.val
            omega
          · show 0 + 1 * l.val = l.val
            omega)]
  refine (congrFun (shapeCast_id (s := S2x512) _ shapeCasts_S2x512_S2x512) (ix2 j l)).trans ?_
  have e : (Rect.unit (s := S264x512) ![262, 0] ![2, 512] inb_S264x512_S2x512_262_0).emb (ix2 j l) =
      ix2 (⟨262 + j.val, by omega⟩ : Fin 264) l := by
    funext k
    apply Fin.ext
    fin_cases k
    · show 262 + 1 * j.val = 262 + j.val
      omega
    · show 0 + 1 * l.val = l.val
      omega
  refine (congrArg (v'.read (Elt Ideal) (v'.writes (Elt Ideal) f' (UPIECE x :: tl'))) e).trans ?_
  rw [upiece_hit hX v' f' tl' _ (by simp only []; omega) l]
  congr 1
  simp only []
  omega

theorem conv_apply (x4 : Vec Ideal S3x512 .f32) (hw : ∀ (k : Fin 3) (l : Fin 512), x4 (ix2 k l) = wc k l)
    (u : Vec Ideal S264x512 .f32)
    (hu : ∀ (r : Fin 264) (_ : 6 ≤ r.val) (l : Fin 512), u (ix2 r l) = up X b (q + (r.val - 6)) l)
    (i : Fin 256) (l : Fin 512) : CONV x x4 u (ix2 i l) = cv wc X b (q + i.val) l := by
  pointwise [CONV, k0_pay1, k0_pay150, k0_pay148]
  unfold cv
  rw [hu _ (by simp only []; omega), hu _ (by simp only []; omega), hX, hX, hX]
  rw [hw, hw, hw]
  rw [show q + ((⟨6 + i.val, by omega⟩ : Fin 264).val - 6) = q + i.val by simp only []; omega,
    show q + ((⟨7 + i.val, by omega⟩ : Fin 264).val - 6) = q + i.val + 1 by simp only []; omega]
  congr 2

end

end Cert.Gla

end

end
-- ==== Proof.Blocks.lean ====
/- The blocks a grid point finds in its input windows, as entries of the program's arguments. -/
module

public import proofs.«01_k».proof.Proof.Tile
public import Idealize.ShloMosaic.Lib.Pipeline.ValueKit

@[expose] public section

set_option maxRecDepth 16384

noncomputable section

namespace Cert.Gla

open Idealize.ShloMosaic Idealize.ShloMosaic.TcCoe Cert.KernelIdeal Cert.KernelIdeal.Gen

variable (m : (ℓ : Loc nD τ sig) → Buf (Elt Ideal) ℓ) (c : Dev nD)

/-! ## The arguments -/

def aX : (⟨2, ![16384, 3200]⟩ : Shape).Idx → EReal := m ((c.tc : Thread nD τ).loc main_arg0)
def aW (k : Fin 16) (l : Fin 256) : EReal :=
  (m ((c.tc : Thread nD τ).loc main_arg1) : S1x16x256.Idx → EReal) (ix3 0 k l)
def aβ (l : Fin 256) : EReal :=
  (m ((c.tc : Thread nD τ).loc main_arg2) : S1x256.Idx → EReal) (ix2 0 l)
def aw (v : Fin 128) : EReal :=
  (m ((c.tc : Thread nD τ).loc main_arg3) : S1x128.Idx → EReal) (ix2 0 v)
def awc (k : Fin 3) (l : Fin 512) : EReal :=
  (m ((c.tc : Thread nD τ).loc main_arg4) : S1x3x512.Idx → EReal) (ix3 0 k l)

theorem idx : ∀ t : Fin cfg0.N, win0_0.index t = ![t.val, 0] ∧ win0_1.index t = ![0, 0] ∧
    win0_2.index t = ![0, 0] ∧ win0_3.index t = ![0, 0] ∧ win0_4.index t = ![0, 0] ∧
    win0_5.index t = ![t.val, 0] ∧ win0_6.index t = ![t.val / 8, 0, 0, 0] ∧
    win0_7.index t = ![t.val / 8, 0, 0] := by decide +kernel

theorem lt64 (t : Fin cfg0.N) : t.val < 64 := lt_of_lt_of_eq t.isLt N_0

/-! ## What the host hands the region -/

theorem entry3 (k : Fin 128) (l : Fin 256) :
    (V m c main_v3 : S128x256.Idx → EReal) (ix2 k l) = if h : k.val < 16 then aW m c ⟨k.val, h⟩ l else 0 := by
  have e : V m c main_v3 = StableHlo.after hostOps0 (fun b => m (c, b)) (Proc.tc.devRef main_v3) := rfl
  rw [e]
  entry_read
  pointwise
  rfl

theorem entry5 (l : Fin 256) : (V m c main_v5 : S1x256.Idx → EReal) (ix2 0 l) = aβ m c l := by
  have e : V m c main_v5 = StableHlo.after hostOps0 (fun b => m (c, b)) (Proc.tc.devRef main_v5) := rfl
  rw [e]
  entry_read
  pointwise
  rfl

theorem entry7 (l : Fin 128) : (V m c main_v7 : S1x128.Idx → EReal) (ix2 0 l) = aw m c l := by
  have e : V m c main_v7 = StableHlo.after hostOps0 (fun b => m (c, b)) (Proc.tc.devRef main_v7) := rfl
  rw [e]
  entry_read
  pointwise
  rfl

theorem entry8 (k : Fin 3) (l : Fin 512) : (V m c main_v8 : S3x512.Idx → EReal) (ix2 k l) = awc m c k l := by
  have e : V m c main_v8 = StableHlo.after hostOps0 (fun b => m (c, b)) (Proc.tc.devRef main_v8) := rfl
  rw [e]
  entry_read
  pointwise
  rfl

/-! ## The blocks -/

theorem blk0 (t : Fin cfg0.N) (r : Fin 256) (l : Fin 3200) :
    (iblk m c 0 t : S256x3200.Idx → EReal) (ix2 r l) =
      aX m c (ix2 ⟨256 * t.val + r.val, by have := lt64 t; omega⟩ l) := by
  unfold aX
  blk_ext [iblk, V_main_arg0, idx t]

theorem blk1 (t : Fin cfg0.N) (k : Fin 128) (l : Fin 256) :
    (iblk m c 1 t : S128x256.Idx → EReal) (ix2 k l) = if h : k.val < 16 then aW m c ⟨k.val, h⟩ l else 0 := by
  rw [← entry3]
  blk_ext [iblk, idx t]

theorem blk2 (t : Fin cfg0.N) (l : Fin 256) :
    (iblk m c 2 t : S1x256.Idx → EReal) (ix2 0 l) = aβ m c l := by
  rw [← entry5]
  blk_ext [iblk, idx t]

theorem blk3 (t : Fin cfg0.N) (l : Fin 128) :
    (iblk m c 3 t : S1x128.Idx → EReal) (ix2 0 l) = aw m c l := by
  rw [← entry7]
  blk_ext [iblk, idx t]

theorem blk4 (t : Fin cfg0.N) (k : Fin 3) (l : Fin 512) :
    (iblk m c 4 t : S3x512.Idx → EReal) (ix2 k l) = awc m c k l := by
  rw [← entry8]
  blk_ext [iblk, idx t]

end Cert.Gla

end

end
-- ==== Proof.Grid.lean ====
/- The grid's points in order: after point `t`, tile `t % 8` of batch entry `t / 8`, the state scratch
   holds the state after that tile's four chunks and the convolution's scratch the tile's last two rows;
   the mixer's block is the tile's; and a sequence's last point hands out the final state and rows. -/
module

public import proofs.«01_k».proof.Proof.Blocks

@[expose] public section

set_option maxRecDepth 16384

noncomputable section

namespace Cert.Gla

open Idealize.ShloMosaic Idealize.ShloMosaic.TcCoe Cert.KernelIdeal Cert.KernelIdeal.Gen

variable (m : (ℓ : Loc nD τ sig) → Buf (Elt Ideal) ℓ) (c : Dev nD)

/-- The batch entry of a point. -/
def bOf (t : Fin cfg0.N) : Fin 8 := ⟨t.val / 8, by have := lt64 t; omega⟩

theorem hX (t : Fin cfg0.N) (r : Fin 256) (l : Fin 3200) :
    (iblk m c 0 t : S256x3200.Idx → EReal) (ix2 r l) =
      aX m c (ix2 (rowAt (bOf t) (256 * (t.val % 8) + r.val)) l) := by
  rw [blk0]
  congr 2
  apply Fin.ext
  have := lt64 t
  simp only [rowAt, bOf]
  omega

theorem hx (t : Fin cfg0.N) (ck : Fin 4) :
    PX (iblk m c 0 t) ck = ch (aX m c) (bOf t) (4 * (t.val % 8) + ck.val) := by
  funext i l
  unfold PX ch
  rw [hX]
  congr 2
  apply Fin.ext
  simp only [rowAt, rowOf]
  congr 1
  omega

theorem hb (t : Fin cfg0.N) (ck : Fin 4) (i : Fin 64) (l : Fin 256) :
    BR ck (BB (iblk m c 0 t) (iblk m c 1 t) (iblk m c 2 t)) (ix2 i l) =
      CB (LG (aW m c) (aβ m c) (PX (iblk m c 0 t) ck)) i l :=
  bb_apply _ _ _ (blk1 m c t) (blk2 m c t) ck i l

theorem hw (t : Fin cfg0.N) (l : Fin 128) :
    (GH (iblk m c 3 t) : S1x128.Idx → EReal) (ix2 0 l) = aw m c l := by
  pointwise [GH]
  exact blk3 m c t l

/-- The mixer's block of point `t`. -/
def GMt (t : Fin cfg0.N) (y : S256x1024.Idx) : EReal :=
  GM (aW m c) (aβ m c) (aw m c) (awc m c) (aX m c) (bOf t) (4 * (t.val % 8)) (y 0).val (y 1).val

theorem out5_of (t : Fin cfg0.N) (s : Fin 4 → FVec Ideal S128x128 .f32) (u : Vec Ideal S264x512 .f32)
    (hs : ∀ h, LV h (s h) = St (aW m c) (aβ m c) (aX m c) (bOf t) (4 * (t.val % 8)) h)
    (hu : ∀ (r : Fin 264) (_ : 6 ≤ r.val) (l : Fin 512),
      u (ix2 r l) = up (aX m c) (bOf t) (256 * (t.val % 8) + (r.val - 6)) l)
    (L : List (View.Piece (Elt Ideal) S256x1024 .bf16))
    (e : L = L5 (iblk m c 0 t) (BB (iblk m c 0 t) (iblk m c 1 t) (iblk m c 2 t)) (GH (iblk m c 3 t)) s
      (CONV (iblk m c 0 t) (iblk m c 4 t) u))
    (hL : ∀ y, ∃ p ∈ L, y ∈ p.1.set) (v : View sig .tc .vmem S256x1024 .bf16) (y : S256x1024.Idx) :
    v.read (Elt Ideal) (v.writes (Elt Ideal) v.junk L) y = GMt m c t y := by
  rw [View.read_writes_junk_eq_canon]
  subst e
  refine l5_apply (hx m c t) (hb m c t) hs (hw m c t) (fun i l => ?_) y (hL y)
  rw [conv_apply (hX m c t) _ (blk4 m c t) u hu, show 64 * (4 * (t.val % 8)) = 256 * (t.val % 8) by omega]

/-- What holds after point `t`. -/
structure Inv (t : Fin cfg0.N) : Prop where
  st : ∀ h, LV h (SPLIT (outsAt0 m c t.val t.isLt).2.2.2.1 h) =
    St (aW m c) (aβ m c) (aX m c) (bOf t) (4 * (t.val % 8) + 4) h
  rows : ∀ (j : Fin 2) (l : Fin 512),
    (outsAt0 m c t.val t.isLt).2.2.2.2 (ix2 (⟨6 + j.val, by omega⟩ : Fin 264) l) =
      up (aX m c) (bOf t) (256 * (t.val % 8) + 256 + j.val) l
  mix : ∀ y, (outsAt0 m c t.val t.isLt).1 y = GMt m c t y
  fin : t.val % 8 = 7 → ∀ (h : Fin 4) (d : Fin 64) (v : Fin 128),
    (outsAt0 m c t.val t.isLt).2.1 (ix4 (0 : Fin 1) h v (⟨64 * (h.val % 2) + d.val, by omega⟩ : Fin 128)) =
      St (aW m c) (aβ m c) (aX m c) (bOf t) 32 h d v
  tail : t.val % 8 = 7 → ∀ (j : Fin 2) (l : Fin 512),
    (outsAt0 m c t.val t.isLt).2.2.1 (ix3 (0 : Fin 1) j l) = up (aX m c) (bOf t) (2048 + j.val) l

theorem split_ls (v : View sig .tc .vmem S4x128x128 .f32) (f : v.ty.Contents (Elt Ideal))
    (s : Fin 4 → FVec Ideal S128x128 .f32) (tl : List (View.Piece (Elt Ideal) S4x128x128 .f32)) (h : Fin 4) :
    SPLIT (v.read (Elt Ideal) (v.writes (Elt Ideal) f (LS s ++ tl))) h = s h := by
  funext y
  obtain ⟨a, l, rfl⟩ : ∃ (a l : Fin 128), y = ix2 a l := ⟨y 0, y 1, eq_ix2 y⟩
  rw [split_apply, ls_apply]

theorem inv_A (t : Fin cfg0.N) (h0 : t.val % 8 = 0) : Inv m c t := by
  have h1 : ¬t.val % 8 = 7 := by omega
  have hs : ∀ h, LV h (CLEARED (F := Ideal) scM0_0.view h) =
      St (aW m c) (aβ m c) (aX m c) (bOf t) (4 * (t.val % 8)) h := fun h => by
    funext d v
    unfold LV
    rw [cleared_apply, h0]
    rfl
  have e := outsAt0_A m c t h0 h1
  refine ⟨fun h => ?_, fun j l => ?_, fun y => ?_, fun h => absurd h h1, fun h => absurd h h1⟩
  · rw [e]
    refine Eq.trans ?_ (S4_St (hx m c t) (hb m c t) hs h)
    refine congrArg (LV h) ?_
    dsimp only
    unfold sout0_A_0
    rw [piecesS0_A]
    exact split_ls _ _ _ _ h
  · rw [e]
    dsimp only
    unfold sout0_A_1
    rw [piecesS1_A]
    exact rows_keep (hX m c t) _ _ _ _ _ _ j l
  · rw [e]
    dsimp only
    unfold out0_A_5
    exact out5_of m c t _ _ hs (rows_clear (hX m c t) _ _ (by omega)) _ (pieces5_A ..) (fun y => cover0_A_5 _ _ _ _ _ _ _ _ _ _ _ _ _ _ _ _ _ _ _ _ _ _ _ _ _ _ _ _ _ y) _ y

/-- The point before one inside a sequence. -/
def pre (t : Fin cfg0.N) : Fin cfg0.N := ⟨t.val - 1, Nat.lt_of_le_of_lt (Nat.sub_le _ _) t.isLt⟩

theorem pre_st (t : Fin cfg0.N) (h0 : ¬t.val % 8 = 0) (I : Inv m c (pre t)) (h : Fin 4) :
    LV h (SPLIT (outsAt0 m c (t.val - 1) (pre t).isLt).2.2.2.1 h) =
      St (aW m c) (aβ m c) (aX m c) (bOf t) (4 * (t.val % 8)) h := by
  refine (I.st h).trans ?_
  have e1 : bOf (pre t) = bOf t := Fin.ext (by simp only [bOf, pre]; omega)
  have e2 : 4 * ((pre t).val % 8) + 4 = 4 * (t.val % 8) := by simp only [pre]; omega
  rw [e1, e2]

theorem pre_rows (t : Fin cfg0.N) (h0 : ¬t.val % 8 = 0) (I : Inv m c (pre t)) (j : Fin 2) (l : Fin 512) :
    (outsAt0 m c (t.val - 1) (pre t).isLt).2.2.2.2 (ix2 (⟨6 + j.val, by omega⟩ : Fin 264) l) =
      up (aX m c) (bOf t) (256 * (t.val % 8) + j.val) l := by
  refine (I.rows j l).trans ?_
  have e1 : bOf (pre t) = bOf t := Fin.ext (by simp only [bOf, pre]; omega)
  have e2 : 256 * ((pre t).val % 8) + 256 = 256 * (t.val % 8) := by simp only [pre]; omega
  rw [e1, e2]

theorem pre_up (t : Fin cfg0.N) (h0 : ¬t.val % 8 = 0) (I : Inv m c (pre t))
    {M : Memref sig .tc .vmem S264x512 .f32} (hv : M.IsWhole) (r : Fin 264) (hr : 6 ≤ r.val) (l : Fin 512) :
    M.view.read (Elt Ideal) (M.view.writes (Elt Ideal)
      (hv.unread (outsAt0 m c (t.val - 1) (pre t).isLt).2.2.2.2) [UPIECE (iblk m c 0 t)]) (ix2 r l) =
      up (aX m c) (bOf t) (256 * (t.val % 8) + (r.val - 6)) l :=
  rows_carry (hX m c t) M hv _ (pre_rows m c t h0 I 0) (pre_rows m c t h0 I 1) r hr l

theorem inv_B (t : Fin cfg0.N) (h0 : ¬t.val % 8 = 0) (h1 : ¬t.val % 8 = 7) (I : Inv m c (pre t)) :
    Inv m c t := by
  have e := outsAt0_B m c t h0 h1
  refine ⟨fun h => ?_, fun j l => ?_, fun y => ?_, fun h => absurd h h1, fun h => absurd h h1⟩
  · rw [e]
    refine Eq.trans ?_ (S4_St (hx m c t) (hb m c t) (pre_st m c t h0 I) h)
    refine congrArg (LV h) ?_
    dsimp only
    unfold sout0_B_0
    rw [piecesS0_B]
    exact split_ls _ _ _ [] h
  · rw [e]
    dsimp only
    unfold sout0_B_1
    rw [piecesS1_B]
    exact rows_keep (hX m c t) _ _ _ _ _ _ j l
  · rw [e]
    dsimp only
    unfold out0_B_5
    exact out5_of m c t _ _ (pre_st m c t h0 I) (pre_up m c t h0 I _) _ (pieces5_B ..)
      (fun y => cover0_B_5 _ _ _ _ _ _ _ _ _ _ _ _ _ _ _ _ _ _ _ _ _ _ _ _ _ _ _ _ _ _ _ y) _ y

theorem C_st (t : Fin cfg0.N) (h0 : ¬t.val % 8 = 0) (h1 : t.val % 8 = 7) (I : Inv m c (pre t)) (h : Fin 4) :
    LV h (SPLIT (outsAt0 m c t.val t.isLt).2.2.2.1 h) =
      St (aW m c) (aβ m c) (aX m c) (bOf t) (4 * (t.val % 8) + 4) h := by
  rw [outsAt0_C m c t h0 h1]
  refine Eq.trans ?_ (S4_St (hx m c t) (hb m c t) (pre_st m c t h0 I) h)
  refine congrArg (LV h) ?_
  dsimp only
  unfold sout0_C_0
  rw [piecesS0_C]
  exact split_ls _ _ _ [] h

theorem C_rows (t : Fin cfg0.N) (h0 : ¬t.val % 8 = 0) (h1 : t.val % 8 = 7) (I : Inv m c (pre t))
    (j : Fin 2) (l : Fin 512) :
    (outsAt0 m c t.val t.isLt).2.2.2.2 (ix2 (⟨6 + j.val, by omega⟩ : Fin 264) l) =
      up (aX m c) (bOf t) (256 * (t.val % 8) + 256 + j.val) l := by
  rw [outsAt0_C m c t h0 h1]
  dsimp only
  unfold sout0_C_1
  rw [piecesS1_C]
  exact rows_keep (hX m c t) _ _ _ _ _ _ j l

theorem C_mix (t : Fin cfg0.N) (h0 : ¬t.val % 8 = 0) (h1 : t.val % 8 = 7) (I : Inv m c (pre t))
    (y : S256x1024.Idx) : (outsAt0 m c t.val t.isLt).1 y = GMt m c t y := by
  rw [outsAt0_C m c t h0 h1]
  dsimp only
  unfold out0_C_5
  exact out5_of m c t _ _ (pre_st m c t h0 I) (pre_up m c t h0 I _) _ (pieces5_C ..)
    (fun y => cover0_C_5 _ _ _ _ _ _ _ _ _ _ _ _ _ _ _ _ _ _ _ _ _ _ _ _ _ _ _ _ _ _ _ y) _ y

/-- The state's block, one store of the whole scratch. -/
theorem whole6 (w : FVec Ideal S4x128x128 .f32) (v : View sig .tc .vmem S1x4x128x128 .f32)
    (h : Fin 4) (a l : Fin 128) :
    v.read (Elt Ideal) (v.writes (Elt Ideal) v.junk
      [⟨Rect.unit ![0, 0, 0, 0] S1x4x128x128.size inb_S1x4x128x128_S1x4x128x128_0_0_0_0,
        shapeCast S1x4x128x128 (View.ld w (Rect.unit ![0, 0, 0] S4x128x128.size inb_S4x128x128_S4x128x128_0_0_0))
          shapeCasts_S4x128x128_S1x4x128x128⟩]) (ix4 (0 : Fin 1) h a l) = w (ix3 h a l) := by
  rw [View.read_writes_cons_hit v _ _ _ [] (ix4 (0 : Fin 1) h a l) _
    (by funext k; apply Fin.ext; fin_cases k <;> first | rfl | exact (Nat.zero_add _).trans (Nat.one_mul _))]
  pointwise

/-- The rows' block, one store of the scratch's last two rows. -/
theorem whole7 (w : FVec Ideal S264x512 .f32) (v : View sig .tc .vmem S1x2x512 .f32) (j : Fin 2) (l : Fin 512) :
    v.read (Elt Ideal) (v.writes (Elt Ideal) v.junk
      [⟨Rect.unit ![0, 0, 0] S1x2x512.size inb_S1x2x512_S1x2x512_0_0_0,
        shapeCast S1x2x512 (View.ld w (Rect.unit ![262, 0] ![2, 512] inb_S264x512_S2x512_262_0))
          shapeCasts_S2x512_S1x2x512⟩]) (ix3 (0 : Fin 1) j l) = w (ix2 (⟨262 + j.val, by omega⟩ : Fin 264) l) := by
  rw [View.read_writes_cons_hit v _ _ _ [] (ix3 (0 : Fin 1) j l) _
    (by funext k; apply Fin.ext; fin_cases k <;> first | rfl | exact (Nat.zero_add _).trans (Nat.one_mul _))]
  pointwise

theorem C_fin (t : Fin cfg0.N) (h0 : ¬t.val % 8 = 0) (h1 : t.val % 8 = 7) (I : Inv m c (pre t))
    (h : Fin 4) (d : Fin 64) (v : Fin 128) :
    (outsAt0 m c t.val t.isLt).2.1 (ix4 (0 : Fin 1) h v (⟨64 * (h.val % 2) + d.val, by omega⟩ : Fin 128)) =
      St (aW m c) (aβ m c) (aX m c) (bOf t) 32 h d v := by
  have k := congrFun (congrFun (S4_St (hx m c t) (hb m c t) (pre_st m c t h0 I) h) d) v
  rw [h1] at k
  refine Eq.trans ?_ k
  rw [outsAt0_C m c t h0 h1]
  dsimp only
  unfold out0_C_6
  rw [pieces6_C, whole6]
  exact ls_apply _ _ _ [] h v _

theorem C_tail (t : Fin cfg0.N) (h0 : ¬t.val % 8 = 0) (h1 : t.val % 8 = 7) (j : Fin 2) (l : Fin 512) :
    (outsAt0 m c t.val t.isLt).2.2.1 (ix3 (0 : Fin 1) j l) = up (aX m c) (bOf t) (2048 + j.val) l := by
  rw [outsAt0_C m c t h0 h1]
  dsimp only
  unfold out0_C_7
  rw [pieces7_C, whole7]
  refine (upiece_hit (hX m c t) _ _ [] _ (by simp only []; omega) l).trans ?_
  congr 1
  simp only []
  omega

theorem inv_C (t : Fin cfg0.N) (h0 : ¬t.val % 8 = 0) (h1 : t.val % 8 = 7) (I : Inv m c (pre t)) :
    Inv m c t :=
  ⟨C_st m c t h0 h1 I, C_rows m c t h0 h1 I, C_mix m c t h0 h1 I, fun _ => C_fin m c t h0 h1 I,
    fun _ => C_tail m c t h0 h1⟩

theorem inv : ∀ t : Fin cfg0.N, Inv m c t := by
  intro ⟨n, hn⟩
  induction n with
  | zero => exact inv_A m c ⟨0, hn⟩ rfl
  | succ n ih =>
    have I : Inv m c (pre ⟨n + 1, hn⟩) := ih (by omega)
    by_cases h0 : (n + 1) % 8 = 0
    · exact inv_A m c ⟨n + 1, hn⟩ h0
    · by_cases h1 : (n + 1) % 8 = 7
      · exact inv_C m c ⟨n + 1, hn⟩ h0 h1 I
      · exact inv_B m c ⟨n + 1, hn⟩ h0 h1 I

end Cert.Gla

end

end
-- ==== Proof.Results.lean ====
/- The kernel's three results, as the plain sums. -/
module

public import proofs.«01_k».proof.Proof.Grid

@[expose] public section

set_option maxRecDepth 16384

noncomputable section

namespace Cert.Gla

open Idealize.ShloMosaic Idealize.ShloMosaic.TcCoe Cert.KernelIdeal Cert.KernelIdeal.Gen
open Idealize.ShloMosaic.Pipeline (withArrays_arr)

/-! ## The results as functions of the arguments -/

/-- The mixed rows. -/
def MIX (W : Fin 16 → Fin 256 → EReal) (β : Fin 256 → EReal) (w : Fin 128 → EReal)
    (wc : Fin 3 → Fin 512 → EReal) (X : (⟨2, ![16384, 3200]⟩ : Shape).Idx → EReal) :
    (⟨2, ![16384, 1024]⟩ : Shape).Idx → EReal := fun y =>
  GM W β w wc X ⟨(y 0).val / 2048, by have : (y 0).val < 16384 := (y 0).isLt; omega⟩ 0 ((y 0).val % 2048) (y 1).val

/-- The final states. -/
def FIN (W : Fin 16 → Fin 256 → EReal) (β : Fin 256 → EReal)
    (X : (⟨2, ![16384, 3200]⟩ : Shape).Idx → EReal) : (⟨5, ![8, 1, 4, 64, 128]⟩ : Shape).Idx → EReal := fun y =>
  St W β X (y 0) 32 (y 2) (y 3) (y 4)

/-- The convolution's last two rows. -/
def ROWS (X : (⟨2, ![16384, 3200]⟩ : Shape).Idx → EReal) : (⟨4, ![8, 1, 2, 512]⟩ : Shape).Idx → EReal := fun y =>
  up X (y 0) (2048 + (y 2).val) (y 3)

theorem GM_shift (W : Fin 16 → Fin 256 → EReal) (β : Fin 256 → EReal) (w : Fin 128 → EReal)
    (wc : Fin 3 → Fin 512 → EReal) (X : (⟨2, ![16384, 3200]⟩ : Shape).Idx → EReal) (b : Fin 8) (ti r l : ℕ) :
    GM W β w wc X b (4 * ti) r l = GM W β w wc X b 0 (256 * ti + r) l := by
  unfold GM
  have e1 : 4 * ti + r / 64 = 0 + (256 * ti + r) / 64 := by omega
  have e2 : r % 64 = (256 * ti + r) % 64 := by omega
  have e3 : 64 * (4 * ti) + r = 64 * 0 + (256 * ti + r) := by omega
  simp only [e1, e2, e3]

theorem lane_lt (h : Fin 4) (d : Fin 64) : 64 * (h.val % 2) + d.val < 128 := by omega

variable (m : (ℓ : Loc nD τ sig) → Buf (Elt Ideal) ℓ) (c : Dev nD)

/-! ## The arrays after the grid -/

theorem arr5 : ((dats m 0 c).arrAt 5 (cfgs 0).N : S16384x1024.Idx → EReal) =
    MIX (aW m c) (aβ m c) (aw m c) (awc m c) (aX m c) := by
  refine (dats m 0 c).arrAt_eq_of_covers 5 _ (by decide +kernel) fun t hf y => ?_
  obtain ⟨r, l, rfl⟩ : ∃ (r : Fin 256) (l : Fin 1024), y = ix2 r l := ⟨y 0, y 1, eq_ix2 y⟩
  rw [after0_5]
  refine ((inv m c t).mix _).trans ?_
  have e : (win0_5.blk t).view.emb (ix2 r l) =
      (ix2 (⟨256 * t.val + r.val, by have := lt64 t; omega⟩ : Fin 16384) l : S16384x1024.Idx) := by
    blk_ext [idx t]
  refine Eq.trans ?_ (congrArg (MIX _ _ _ _ _) e).symm
  unfold GMt MIX
  rw [GM_shift]
  have e1 : (256 * t.val + r.val) / 2048 = t.val / 8 := by omega
  have e2 : (256 * t.val + r.val) % 2048 = 256 * (t.val % 8) + r.val := by omega
  simp only [ix2_0, ix2_1, bOf, e1, e2]

theorem arr6 (b : Fin 8) (h : Fin 4) (d : Fin 64) (v : Fin 128) :
    ((dats m 0 c).arrAt 6 (cfgs 0).N : S8x4x128x128.Idx → EReal)
      (ix4 b h v (⟨64 * (h.val % 2) + d.val, by omega⟩ : Fin 128)) =
      St (aW m c) (aβ m c) (aX m c) b 32 h d v := by
  have k := (dats m 0 c).arrAt_forall_of_covers 6 (fun (i : S8x4x128x128.Idx) (x : EReal) =>
    ∀ d : Fin 64, (i 3).val = 64 * ((i 1).val % 2) + d.val →
      x = St (aW m c) (aβ m c) (aX m c) (i 0) 32 (i 1) d (i 2)) (by decide +kernel) (fun t hf y => ?_)
    (ix4 b h v (⟨64 * (h.val % 2) + d.val, by omega⟩ : Fin 128))
  · exact k d rfl
  · have h7 : t.val % 8 = 7 := (flush0_6 t).mp hf
    obtain ⟨a, h, v, l, rfl⟩ : ∃ (a : Fin 1) (h : Fin 4) (v l : Fin 128), y = ix4 a h v l :=
      ⟨y 0, y 1, y 2, y 3, eq_ix4 y⟩
    obtain rfl : a = 0 := Subsingleton.elim _ _
    rw [after0_6]
    have e : (win0_6.blk t).view.emb (ix4 (0 : Fin 1) h v l) =
        (ix4 (bOf t) h v l : S8x4x128x128.Idx) := by
      blk_ext [idx t]
      exact Nat.add_zero _
    intro d hd
    have hd2 : ∀ i : S8x4x128x128.Idx, i = ix4 (bOf t) h v l →
        (i 3).val = 64 * ((i 1).val % 2) + d.val → l.val = 64 * (h.val % 2) + d.val := by
      rintro _ rfl k
      exact k
    have hl : (⟨64 * (h.val % 2) + d.val, lane_lt h d⟩ : Fin 128) = l := Fin.ext (hd2 _ e hd).symm
    have f := (inv m c t).fin h7 h d v
    rw [hl] at f
    have g : St (aW m c) (aβ m c) (aX m c) (bOf t) 32 h d v =
        (fun i : S8x4x128x128.Idx => St (aW m c) (aβ m c) (aX m c) (i 0) 32 (i 1) d (i 2))
          ((win0_6.blk t).view.emb (ix4 (0 : Fin 1) h v l)) := by
      rw [e]
      rfl
    exact f.trans g

theorem arr7 (b : Fin 8) (j : Fin 2) (l : Fin 512) :
    ((dats m 0 c).arrAt 7 (cfgs 0).N : S8x2x512.Idx → EReal) (ix3 b j l) =
      up (aX m c) b (2048 + j.val) l := by
  have k := (dats m 0 c).arrAt_forall_of_covers 7 (fun (i : S8x2x512.Idx) (x : EReal) =>
      x = up (aX m c) (i 0) (2048 + (i 1).val) (i 2)) (by decide +kernel) (fun t hf y => ?_)
    (ix3 b j l)
  · exact k
  · have h7 : t.val % 8 = 7 := (flush0_7 t).mp hf
    obtain ⟨a, j, l, rfl⟩ : ∃ (a : Fin 1) (j : Fin 2) (l : Fin 512), y = ix3 a j l :=
      ⟨y 0, y 1, y 2, eq_ix3 y⟩
    obtain rfl : a = 0 := Subsingleton.elim _ _
    rw [after0_7]
    have e : (win0_7.blk t).view.emb (ix3 (0 : Fin 1) j l) = (ix3 (bOf t) j l : S8x2x512.Idx) := by
      blk_ext [idx t]
      exact Nat.add_zero _
    refine ((inv m c t).tail h7 j l).trans ?_
    exact congrArg (fun i : S8x2x512.Idx => up (aX m c) (i 0) (2048 + (i 1).val) (i 2)) e.symm

/-! ## The host's tail -/

/-- What the tail makes of the states' array. -/
theorem tail_st (Vv : Valuation τ sig (Elt Ideal)) (b : Fin 8) (z : Fin 1) (h : Fin 4) (d : Fin 64) (v : Fin 128) :
    (StableHlo.after hostOps1 Vv (Proc.tc.devRef main_v20) : S8x1x4x64x128.Idx → EReal) (ix5 b z h d v) =
      (Vv (Proc.tc.devRef main_v9_1) : S8x4x128x128.Idx → EReal)
        (ix4 b h v (⟨64 * (h.val % 2) + d.val, by omega⟩ : Fin 128)) := by
  entry_read
  pointwise
  split
  · have e : (ix4 b ⟨h.val / 2 * 2, by omega⟩ v ⟨d.val, by omega⟩ : S8x4x128x128.Idx) =
        ix4 b h v (⟨64 * (h.val % 2) + d.val, lane_lt h d⟩ : Fin 128) := by
      congr 1 <;> apply Fin.ext <;> simp only [] <;> omega
    exact congrArg (Vv (Proc.tc.devRef main_v9_1)) e
  · have e : (ix4 b ⟨h.val / 2 * 2 + 1, by omega⟩ v ⟨64 + d.val, by omega⟩ : S8x4x128x128.Idx) =
        ix4 b h v (⟨64 * (h.val % 2) + d.val, lane_lt h d⟩ : Fin 128) := by
      congr 1 <;> apply Fin.ext <;> simp only [] <;> omega
    exact congrArg (Vv (Proc.tc.devRef main_v9_1)) e

theorem tail_rows (Vv : Valuation τ sig (Elt Ideal)) (b : Fin 8) (z : Fin 1) (j : Fin 2) (l : Fin 512) :
    (StableHlo.after hostOps1 Vv (Proc.tc.devRef main_v21) : S8x1x2x512.Idx → EReal) (ix4 b z j l) =
      (Vv (Proc.tc.devRef main_v9_2) : S8x2x512.Idx → EReal) (ix3 b j l) := by
  entry_read
  pointwise

theorem tail20 : (Pipeline.afterTail₀ cfgs (dats m) 0 (V0 m) [hostOps1] c main_v20 : S8x1x4x64x128.Idx → EReal) =
    FIN (aW m c) (aβ m c) (aX m c) := by
  funext y
  rw [eq_ix5 y]
  refine (tail_st _ (y 0) (y 1) (y 2) (y 3) (y 4)).trans ?_
  refine Eq.trans (congrFun ?_ _) (arr6 m c (y 0) (y 2) (y 3) (y 4))
  exact withArrays_arr (cfgs 0).spec (by decide) c (V0 m c) (fun w => (dats m 0 c).arrAt w (cfgs 0).N) 6

theorem tail21 : (Pipeline.afterTail₀ cfgs (dats m) 0 (V0 m) [hostOps1] c main_v21 : S8x1x2x512.Idx → EReal) =
    ROWS (aX m c) := by
  funext y
  rw [eq_ix4 y]
  refine (tail_rows _ (y 0) (y 1) (y 2) (y 3)).trans ?_
  refine Eq.trans (congrFun ?_ _) (arr7 m c (y 0) (y 2) (y 3))
  exact withArrays_arr (cfgs 0).spec (by decide) c (V0 m c) (fun w => (dats m 0 c).arrAt w (cfgs 0).N) 7

/-- The kernel's run. -/
theorem kernel_run (g : Dev nD → PrngReg) :
    θ_run defs (onTc (τ := τ) (main (F := Ideal))) ⟨m, fun _ => 0, g⟩ (fun r => ∀ c : Dev nD,
      r.2.mem ((c.tc : Thread nD τ).loc main_v9_0) = MIX (aW m c) (aβ m c) (aw m c) (awc m c) (aX m c)
      ∧ r.2.mem ((c.tc : Thread nD τ).loc main_v20) = FIN (aW m c) (aβ m c) (aX m c)
      ∧ r.2.mem ((c.tc : Thread nD τ).loc main_v21) = ROWS (aX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (arr5 m c),
      ((h c).2 main_v20 (Pipeline.mem_restRefs_of main_v20 (by decide) (by decide))).trans (tail20 m c),
      ((h c).2 main_v21 (Pipeline.mem_restRefs_of main_v21 (by decide) (by decide))).trans (tail21 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m g)

end Cert.Gla

end

end
-- ==== Proof.Cumsum.lean ====
/- The reference's running sum, a padded window sum along the rows of a chunk, at an index. -/
module

public import proofs.«01_k».proof.Proof.Spec
public import proofs.«01_k».proof.Proof.Gen.ReferenceIdeal

@[expose] public section

set_option maxRecDepth 16384

noncomputable section

namespace Cert.GlaRef

open Idealize.ShloMosaic Cert.ReferenceIdeal Cert.ReferenceIdeal.Gen

/-- A window of 64 that ends at row `i` meets the rows up to `i`. -/
theorem window_sum (i : Fin 64) (g : Fin 64 → EReal) :
    (∑ q : Fin 64, if h : 63 ≤ i.val + q.val then g ⟨i.val + q.val - 63, by omega⟩ else 0) =
      ∑ j : Fin 64, if j.val ≤ i.val then g j else 0 := by
  rw [Finset.sum_dite, Finset.sum_const_zero, add_zero, Finset.sum_ite, Finset.sum_const_zero, add_zero]
  refine Finset.sum_bij (fun q _ => (⟨i.val + q.1.val - 63, by omega⟩ : Fin 64)) ?_ ?_ ?_ ?_
  · intro q _
    simp only [Finset.mem_filter, Finset.mem_univ, true_and]
    omega
  · intro q _ r _ h
    have hq := (Finset.mem_filter.mp q.2).2
    have hr := (Finset.mem_filter.mp r.2).2
    have := congrArg Fin.val h
    simp only [] at this
    exact Subtype.ext (Fin.ext (by omega))
  · intro j hj
    have hj' : j.val ≤ i.val := (Finset.mem_filter.mp hj).2
    refine ⟨⟨⟨j.val + 63 - i.val, by omega⟩, ?_⟩, Finset.mem_attach _ _, Fin.ext ?_⟩
    · simp only [Finset.mem_filter, Finset.mem_univ, true_and]
      omega
    · simp only []
      omega
  · intro q _
    rfl

theorem cumsum_apply (x : S8x32x64x4x64.Idx → EReal)
    (hw : S8x32x64x4x64.ReduceWindows ![1, 1, 64, 1, 1] ![1, 1, 1, 1, 1] ![0, 0, 63, 0, 0] ![0, 0, 0, 0, 0] S8x32x64x4x64)
    (b : Fin 8) (n : Fin 32) (i : Fin 64) (h : Fin 4) (d : Fin 64) :
    Ideal.hostReduceWindowAdd ![1, 1, 64, 1, 1] ![1, 1, 1, 1, 1] ![0, 0, 63, 0, 0] ![0, 0, 0, 0, 0] hw x 0
      (ix5 b n i h d) = ∑ j : Fin 64, if j.val ≤ i.val then x (ix5 b n j h d) else 0 := by
  rw [← window_sum i fun j => x (ix5 b n j h d)]
  let F : (⟨5, ![1, 1, 64, 1, 1]⟩ : Shape).Idx → EReal := fun w =>
    if h' : 63 ≤ i.val + (w 2).val then x (ix5 b n ⟨i.val + (w 2).val - 63, by have : (w 2).val < 64 := (w 2).isLt; omega⟩ h d) else 0
  have e : (∑ q : Fin 64, if h' : 63 ≤ i.val + q.val then x (ix5 b n ⟨i.val + q.val - 63, by omega⟩ h d) else 0)
      = ∑ w, F w := by
    rw [sum_idx5]
    simp only [Fin.sum_univ_one, Fin.isValue]
    rfl
  rw [e, sum_idx_eq_foldl]
  unfold Ideal.hostReduceWindowAdd Host.reduceWindow
  dsimp only
  refine congrArg (fun f => List.foldl f (0 : EReal) (List.finRange _)) ?_
  funext r k
  refine congrArg (fun z => r + z) ?_
  obtain ⟨w, hk⟩ : ∃ w, w = (⟨5, ![1, 1, 64, 1, 1]⟩ : Shape).rowMajor.symm k := ⟨_, rfl⟩
  simp only [← hk]
  have w0 : (w 0).val = 0 := by have : (w 0).val < 1 := (w 0).isLt; omega
  have w1 : (w 1).val = 0 := by have : (w 1).val < 1 := (w 1).isLt; omega
  have w3 : (w 3).val = 0 := by have : (w 3).val < 1 := (w 3).isLt; omega
  have w4 : (w 4).val = 0 := by have : (w 4).val < 1 := (w 4).isLt; omega
  have w2 : (w 2).val < 64 := (w 2).isLt
  by_cases h' : 63 ≤ i.val + (w 2).val
  · have eF : F w = x (ix5 b n ⟨i.val + (w 2).val - 63, by omega⟩ h d) := dif_pos h'
    rw [eF, dif_pos]
    · congr 1
      funext a
      apply Fin.ext
      fin_cases a
      · show b.val * 1 + (w 0).val - 0 = b.val
        omega
      · show n.val * 1 + (w 1).val - 0 = n.val
        omega
      · show i.val * 1 + (w 2).val - 63 = i.val + (w 2).val - 63
        omega
      · show h.val * 1 + (w 3).val - 0 = h.val
        omega
      · show d.val * 1 + (w 4).val - 0 = d.val
        omega
    · intro a
      fin_cases a
      · show 0 ≤ b.val * 1 + (w 0).val ∧ b.val * 1 + (w 0).val - 0 < 8
        omega
      · show 0 ≤ n.val * 1 + (w 1).val ∧ n.val * 1 + (w 1).val - 0 < 32
        omega
      · show 63 ≤ i.val * 1 + (w 2).val ∧ i.val * 1 + (w 2).val - 63 < 64
        omega
      · show 0 ≤ h.val * 1 + (w 3).val ∧ h.val * 1 + (w 3).val - 0 < 4
        omega
      · show 0 ≤ d.val * 1 + (w 4).val ∧ d.val * 1 + (w 4).val - 0 < 64
        omega
  · have eF : F w = 0 := dif_neg h'
    rw [eF, dif_neg]
    intro hin
    have : 63 ≤ i.val * 1 + (w 2).val := (hin 2).1
    omega

end Cert.GlaRef

end

end
-- ==== Proof.Ref0.lean ====
/- The reference's operations before its loop, read at an index: the first three stretches. -/
module

public import proofs.«01_k».proof.Proof.Cumsum
public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Cert.GlaRef

open Idealize.ShloMosaic Idealize.ShloMosaic.TcCoe Cert.ReferenceIdeal Cert.ReferenceIdeal.Gen Cert.Gla
open StableHlo (after)

variable (V : Valuation τ sig (Elt Ideal))

/-- A token of a sequence. -/
def tok (n : Fin 32) (i : Fin 64) : Fin 2048 := ⟨64 * n.val + i.val, by omega⟩

/-- The projection's row of a token. -/
def row (b : Fin 8) (s : Fin 2048) : Fin 16384 := ⟨2048 * b.val + s.val, by omega⟩

/-- Value lane `v` of head `h`. -/
def lv (h : Fin 4) (v : Fin 128) : Fin 512 := ⟨128 * h.val + v.val, by omega⟩

theorem row_eq (b : Fin 8) (s : Fin 2048) (k) : (⟨b.val * 2048 + s.val, k⟩ : Fin 16384) = row b s :=
  Fin.ext (by simp only [row]; omega)
theorem tok_eq (n : Fin 32) (i : Fin 64) (k) : (⟨n.val * 64 + i.val, k⟩ : Fin 2048) = tok n i :=
  Fin.ext (by simp only [tok]; omega)
theorem ln_eq (h : Fin 4) (d : Fin 64) (k) : (⟨h.val * 64 + d.val, k⟩ : Fin 256) = ln h d :=
  Fin.ext (by simp only [ln]; omega)
theorem lv_eq (h : Fin 4) (v : Fin 128) (k) : (⟨h.val * 128 + v.val, k⟩ : Fin 512) = lv h v :=
  Fin.ext (by simp only [lv]; omega)

/-- The projection as the launch hands it over. -/
def X0 : (⟨2, ![16384, 3200]⟩ : Shape).Idx → EReal := (V (Proc.tc.devRef main_arg0) : S16384x3200.Idx → EReal)

/-- The gate's matrix. -/
def W0 (k : Fin 16) (l : Fin 256) : EReal := (V (Proc.tc.devRef main_arg1) : S1x16x256.Idx → EReal) (ix3 0 k l)
/-- The gate's bias. -/
def β0 (l : Fin 256) : EReal := (V (Proc.tc.devRef main_arg2) : S1x256.Idx → EReal) (ix2 0 l)

/-- The reference's gate product, at an entry's token and a lane. -/
theorem st0 (b : Fin 8) (s : Fin 2048) (l : Fin 256) :
    (after hostOps0 V (Proc.tc.devRef main_v15) : S8x2048x256.Idx → EReal) (ix3 b s l) =
      ∑ k : Fin 16, X0 V (ix2 (row b s) ⟨3072 + k.val, by omega⟩) * W0 V k l + β0 V l := by
  after_reads_at
  simp only [row_eq]
  rfl

theorem st0_v2 (b : Fin 8) (s : Fin 2048) (l : Fin 256) :
    (after hostOps0 V (Proc.tc.devRef main_v2) : S8x2048x256.Idx → EReal) (ix3 b s l) =
      X0 V (ix2 (row b s) ⟨l.val, by omega⟩) := by
  after_reads_at
  simp only [row_eq]
  rfl

theorem st0_v3 (b : Fin 8) (s : Fin 2048) (l : Fin 256) :
    (after hostOps0 V (Proc.tc.devRef main_v3) : S8x2048x256.Idx → EReal) (ix3 b s l) =
      X0 V (ix2 (row b s) ⟨256 + l.val, by omega⟩) := by
  after_reads_at
  simp only [row_eq]
  rfl

theorem st0_v4 (b : Fin 8) (s : Fin 2048) (l : Fin 512) :
    (after hostOps0 V (Proc.tc.devRef main_v4) : S8x2048x512.Idx → EReal) (ix3 b s l) =
      X0 V (ix2 (row b s) ⟨512 + l.val, by omega⟩) := by
  after_reads_at
  simp only [row_eq]
  rfl

theorem st0_v5 (b : Fin 8) (s : Fin 2048) (l : Fin 512) :
    (after hostOps0 V (Proc.tc.devRef main_v5) : S8x2048x512.Idx → EReal) (ix3 b s l) =
      X0 V (ix2 (row b s) ⟨1024 + l.val, by omega⟩) := by
  after_reads_at
  simp only [row_eq]
  rfl

theorem st0_v6 (b : Fin 8) (s : Fin 2048) (l : Fin 512) :
    (after hostOps0 V (Proc.tc.devRef main_v6) : S8x2048x512.Idx → EReal) (ix3 b s l) =
      X0 V (ix2 (row b s) ⟨1536 + l.val, by omega⟩) := by
  after_reads_at
  simp only [row_eq]
  rfl

theorem st0_v7 (b : Fin 8) (s : Fin 2048) (l : Fin 512) :
    (after hostOps0 V (Proc.tc.devRef main_v7) : S8x2048x512.Idx → EReal) (ix3 b s l) =
      X0 V (ix2 (row b s) ⟨2048 + l.val, by omega⟩) := by
  after_reads_at
  simp only [row_eq]
  rfl

theorem st0_v8 (b : Fin 8) (s : Fin 2048) (l : Fin 512) :
    (after hostOps0 V (Proc.tc.devRef main_v8) : S8x2048x512.Idx → EReal) (ix3 b s l) =
      X0 V (ix2 (row b s) ⟨2560 + l.val, by omega⟩) := by
  after_reads_at
  simp only [row_eq]
  rfl

/-- The log of the sigmoid, as the reference's call spells it. -/
theorem st1 (b : Fin 8) (s : Fin 2048) (l : Fin 256) (z : EReal)
    (hz : (V (Proc.tc.devRef main_v15) : S8x2048x256.Idx → EReal) (ix3 b s l) = z) :
    (after hostOps0_1 V (Proc.tc.devRef main_v16) : S8x2048x256.Idx → EReal) (ix3 b s l) =
      -(max (-z) 0 + Ideal.log1p (Ideal.exp (-(max z (-z))))) := by
  after_reads_at
  rw [hz, if_neg (fun h => h rfl)]
  have e : FloatOps.absf (F := Ideal) (φ := .f32) (-z) = max z (-z) := by
    change max (-z) (- -z) = _
    rw [neg_neg, max_comm]
  rw [e]

theorem st2_v26 (b : Fin 8) (n : Fin 32) (i : Fin 64) (h : Fin 4) (d : Fin 64) (x : EReal)
    (hx : (V (Proc.tc.devRef main_v2) : S8x2048x256.Idx → EReal) (ix3 b (tok n i) (ln h d)) = x) :
    (after hostOps0_2 V (Proc.tc.devRef main_v26) : S8x32x64x4x64.Idx → EReal) (ix5 b n i h d) =
      x * Ideal.ofBits .f32 0x3E000000#32 := by
  after_reads_at
  simp only [tok_eq, ln_eq]
  rw [hx]

theorem st2_v27 (b : Fin 8) (n : Fin 32) (i : Fin 64) (h : Fin 4) (d : Fin 64) :
    (after hostOps0_2 V (Proc.tc.devRef main_v27) : S8x32x64x4x64.Idx → EReal) (ix5 b n i h d) =
      (V (Proc.tc.devRef main_v3) : S8x2048x256.Idx → EReal) (ix3 b (tok n i) (ln h d)) := by
  after_reads_at
  simp only [tok_eq, ln_eq]

theorem st2_v28 (b : Fin 8) (n : Fin 32) (i : Fin 64) (h : Fin 4) (v : Fin 128) :
    (after hostOps0_2 V (Proc.tc.devRef main_v28) : S8x32x64x4x128.Idx → EReal) (ix5 b n i h v) =
      (V (Proc.tc.devRef main_v4) : S8x2048x512.Idx → EReal) (ix3 b (tok n i) (lv h v)) := by
  after_reads_at
  simp only [tok_eq, lv_eq]

theorem st2_v29 (b : Fin 8) (n : Fin 32) (i : Fin 64) (h : Fin 4) (d : Fin 64) (x : EReal)
    (hx : (V (Proc.tc.devRef main_v16) : S8x2048x256.Idx → EReal) (ix3 b (tok n i) (ln h d)) = x) :
    (after hostOps0_2 V (Proc.tc.devRef main_v29) : S8x32x64x4x64.Idx → EReal) (ix5 b n i h d) =
      Ideal.div x (Ideal.ofBits .f32 0x41800000#32) := by
  after_reads_at
  simp only [tok_eq, ln_eq]
  rw [hx]

theorem st2_v19 (b : Fin 8) (h : Fin 4) (d : Fin 64) (v : Fin 128) :
    (after hostOps0_2 V (Proc.tc.devRef main_v19) : S8x4x64x128.Idx → EReal) (ix4 b h d v) = (0 : EReal) := by
  after_reads_at

/-- The running sum over a block's rows. -/
theorem st3 (b : Fin 8) (n : Fin 32) (i : Fin 64) (h : Fin 4) (d : Fin 64) (f : Fin 64 → EReal)
    (hf : ∀ j, (V (Proc.tc.devRef main_v29) : S8x32x64x4x64.Idx → EReal) (ix5 b n j h d) = f j) :
    (after hostOps0_3 V (Proc.tc.devRef main_v30) : S8x32x64x4x64.Idx → EReal) (ix5 b n i h d) =
      ∑ j : Fin 64, if j.val ≤ i.val then f j else 0 := by
  simp only [← hf]
  after_reads_at
  refine Eq.trans ?_ (cumsum_apply (V (Proc.tc.devRef main_v29))
    reduceWindows_S8x32x64x4x64_S8x32x64x4x64_w1s1p0_0_w1s1p0_0_w64s1p63_0_w1s1p0_0_w1s1p0_0 b n i h d)
  refine congrArg (fun z => Ideal.hostReduceWindowAdd ![1, 1, 64, 1, 1] ![1, 1, 1, 1, 1] ![0, 0, 63, 0, 0]
    ![0, 0, 0, 0, 0] reduceWindows_S8x32x64x4x64_S8x32x64x4x64_w1s1p0_0_w1s1p0_0_w64s1p63_0_w1s1p0_0_w1s1p0_0
    (V (Proc.tc.devRef main_v29)) z (ix5 b n i h d)) ?_
  pointwise

end Cert.GlaRef

end

end
-- ==== Proof.Ref2.lean ====
/- One trip of the reference's loop over the chunks, read at an index. -/
module

public import proofs.«01_k».proof.Proof.Ref0
public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Cert.GlaRef

open Idealize.ShloMosaic Idealize.ShloMosaic.TcCoe Cert.ReferenceIdeal Cert.ReferenceIdeal.Gen Cert.Gla
open StableHlo (after afterL)
open Cert.ReferenceIdeal.Value

variable (V : Valuation τ sig (Elt Ideal))

theorem ivInt (k : Fin 32) : (Scf.iv 0#32 1#32 k.val : BitVec 32).toInt = (k.val : Int) := by
  have e : (Scf.iv 0#32 1#32 k.val : BitVec 32) = BitVec.ofNat 32 k.val := by simp [Scf.iv]
  rw [e]
  exact WordCmp.toInt_ofNat_of_lt (by omega)

theorem fits4 (k : Fin 32) : S32x8x4x64.Slices ![k.val, 0, 0, 0] S1x8x4x64 :=
  ⟨rfl, fun a => by
    fin_cases a
    · change k.val + 1 ≤ 32; omega
    all_goals exact Nat.le_of_eq (Nat.zero_add _)⟩

theorem fits5 (k : Fin 32) : S32x8x4x64x128.Slices ![k.val, 0, 0, 0, 0] S1x8x4x64x128 :=
  ⟨rfl, fun a => by
    fin_cases a
    · change k.val + 1 ≤ 32; omega
    all_goals exact Nat.le_of_eq (Nat.zero_add _)⟩

/-- A trip puts the state under the block's decay and adds the block's contribution. -/
theorem trip_state (k : Fin 32) (b : Fin 8) (h : Fin 4) (d : Fin 64) (v : Fin 128)
    (hk : V (Proc.tc.devRef main_v54_2) = fun _ => (Scf.iv 0#32 1#32 k.val : BitVec 32)) (s x y : EReal)
    (hs : (V (Proc.tc.devRef main_v54_3) : S8x4x64x128.Idx → EReal) (ix4 b h d v) = s)
    (hx : (V (Proc.tc.devRef main_v54_0) : S32x8x4x64.Idx → EReal) (ix4 k b h d) = x)
    (hy : (V (Proc.tc.devRef main_v54_1) : S32x8x4x64x128.Idx → EReal) (ix5 k b h d v) = y) :
    (afterL bodyI V (Proc.tc.devRef main_v54_3) : S8x4x64x128.Idx → EReal) (ix4 b h d v) =
      s *
x + y := by
  rw [trip_main_v54_3, hk]
  rw [WordCmp.dynamicSlice_eq_extract S1x8x4x64 _ _ _ ![k.val, 0, 0, 0] (fits4 k) (fun a => by
      fin_cases a
      · exact ivInt k
      all_goals rfl),
    WordCmp.dynamicSlice_eq_extract S1x8x4x64x128 _ _ _ ![k.val, 0, 0, 0, 0] (fits5 k) (fun a => by
      fin_cases a
      · exact ivInt k
      all_goals rfl)]
  simp only [id_eq]
  pointwise
  rw [hs, hx, hy]

/-- A trip keeps the state it started from. -/
theorem trip_starts (k n : Fin 32) (b : Fin 8) (h : Fin 4) (d : Fin 64) (v : Fin 128)
    (hk : V (Proc.tc.devRef main_v54_2) = fun _ => (Scf.iv 0#32 1#32 k.val : BitVec 32)) :
    (afterL bodyI V (Proc.tc.devRef main_v54_4) : S32x8x4x64x128.Idx → EReal) (ix5 n b h d v) =
      if n = k then (V (Proc.tc.devRef main_v54_3) : S8x4x64x128.Idx → EReal) (ix4 b h d v) else
        (V (Proc.tc.devRef main_v54_4) : S32x8x4x64x128.Idx → EReal) (ix5 n b h d v) := by
  rw [trip_main_v54_4, hk,
    WordCmp.dynamicUpdateSlice_eq_update _ _ _ _ ![k.val, 0, 0, 0, 0] (fits5 k) (fun a => by
      fin_cases a
      · exact ivInt k
      all_goals rfl)]
  simp only [id_eq]
  pointwise
  by_cases hn : n = k
  · rw [if_pos hn, dif_pos]
    intro a
    subst hn
    have := b.isLt
    have := h.isLt
    have := d.isLt
    have := v.isLt
    fin_cases a
    · change n.val ≤ n.val ∧ n.val < n.val + 1; omega
    · change 0 ≤ b.val ∧ b.val < 0 + 8; omega
    · change 0 ≤ h.val ∧ h.val < 0 + 4; omega
    · change 0 ≤ d.val ∧ d.val < 0 + 64; omega
    · change 0 ≤ v.val ∧ v.val < 0 + 128; omega
  · rw [if_neg hn, dif_neg]
    intro hc
    have h0 := hc 0
    change k.val ≤ n.val ∧ n.val < k.val + 1 at h0
    exact hn (Fin.ext (by omega))

end Cert.GlaRef

end

end
-- ==== Proof.Ref3.lean ====
/- The reference's operations after its loop, read at an index. -/
module

public import proofs.«01_k».proof.Proof.Ref0
public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Cert.GlaRef

open Idealize.ShloMosaic Idealize.ShloMosaic.TcCoe Cert.ReferenceIdeal Cert.ReferenceIdeal.Gen Cert.Gla
open StableHlo (after)

variable (V : Valuation τ sig (Elt Ideal))

theorem tok_div (n : Fin 32) (i : Fin 64) (k) : (⟨(tok n i).val / 64, k⟩ : Fin 32) = n :=
  Fin.ext (by simp only [tok]; omega)
theorem tok_mod (n : Fin 32) (i : Fin 64) (k) : (⟨(tok n i).val % 64, k⟩ : Fin 64) = i :=
  Fin.ext (by simp only [tok]; omega)
theorem lv_div (h : Fin 4) (v : Fin 128) (k) : (⟨(lv h v).val / 128, k⟩ : Fin 4) = h :=
  Fin.ext (by simp only [lv]; omega)
theorem lv_mod (h : Fin 4) (v : Fin 128) (k) : (⟨(lv h v).val % 128, k⟩ : Fin 128) = v :=
  Fin.ext (by simp only [lv]; omega)

/-- The heads' outputs under their norm. -/
theorem st9 (b : Fin 8) (n : Fin 32) (i : Fin 64) (h : Fin 4) (v : Fin 128)
    (A : Fin 128 → EReal) (S : Fin 64 → Fin 128 → EReal) (Q : Fin 64 → EReal) (w : Fin 128 → EReal)
    (hA : ∀ v, (V (Proc.tc.devRef main_v43) : S8x32x64x4x128.Idx → EReal) (ix5 b n i h v) = A v)
    (hS : ∀ d v, (V (Proc.tc.devRef main_v54_4) : S32x8x4x64x128.Idx → EReal) (ix5 n b h d v) = S d v)
    (hQ : ∀ d, (V (Proc.tc.devRef main_v34) : S8x32x64x4x64.Idx → EReal) (ix5 b n i h d) = Q d)
    (hw : ∀ v, (V (Proc.tc.devRef main_arg3) : S1x128.Idx → EReal) (ix2 0 v) = w v) :
    (after hostOps0_9 V (Proc.tc.devRef main_v74) : S8x2048x512.Idx → EReal) (ix3 b (tok n i) (lv h v)) =
      (A v + ∑ d, Q d * S d v) *
        Ideal.rsqrt (Ideal.div (∑ x, (A x + ∑ d, Q d * S d x) * (A x + ∑ d, Q d * S d x)) (Ideal.ofBits .f32 0x43000000#32) +
          Ideal.ofBits .f32 0x358637BD#32) * w v := by
  after_reads_at
  simp only [tok_div, tok_mod, lv_div, lv_mod, hA, hS, hQ, hw, mul_comm (S _ _)]

/-- The output gate. -/
theorem st10 (b : Fin 8) (s : Fin 2048) (l : Fin 512) (g : EReal)
    (hg : (V (Proc.tc.devRef main_v5) : S8x2048x512.Idx → EReal) (ix3 b s l) = g) :
    (after hostOps0_10 V (Proc.tc.devRef main_v75) : S8x2048x512.Idx → EReal) (ix3 b s l) = g * Ideal.logistic g := by
  after_reads_at
  rw [hg]
  rfl

theorem row_at (b : Fin 8) (s : Fin 2048) (t : Nat) (ht : t = s.val) : rowAt b t = row b s :=
  Fin.ext (by simp only [rowAt, row]; omega)

/-- The products under the convolution. -/
theorem u77 (b : Fin 8) (s : Fin 2048) (l : Fin 512) (t : Nat) (ht : s.val + 2 = t) (X : (⟨2, ![16384, 3200]⟩ : Shape).Idx → EReal)
    (h8 : ∀ (s : Fin 2048) (l : Fin 512), (V (Proc.tc.devRef main_v8) : S8x2048x512.Idx → EReal) (ix3 b s l) = X (ix2 (row b s) ⟨2560 + l.val, by omega⟩))
    (h6 : ∀ (s : Fin 2048) (l : Fin 512), (V (Proc.tc.devRef main_v6) : S8x2048x512.Idx → EReal) (ix3 b s l) = X (ix2 (row b s) ⟨1536 + l.val, by omega⟩)) :
    (StableHlo.upto hostOps0_11 V 4 (Proc.tc.devRef main_v77) : S8x2048x512.Idx → EReal) (ix3 b s l) = up X b t l := by
  after_reads_simp
  pointwise
  rw [h8, h6, up, if_neg (by omega), row_at b s (t - 2) (by omega)]

/-- The products with two rows of zeros before them. -/
theorem cat_eq (b : Fin 8) (t : Nat) (l : Fin 512) (p1 : t < 2 → t < 2) (p2 : ¬ t < 2 → t - 2 < 2048) (X : (⟨2, ![16384, 3200]⟩ : Shape).Idx → EReal)
    (h8 : ∀ (s : Fin 2048) (l : Fin 512), (V (Proc.tc.devRef main_v8) : S8x2048x512.Idx → EReal) (ix3 b s l) = X (ix2 (row b s) ⟨2560 + l.val, by omega⟩))
    (h6 : ∀ (s : Fin 2048) (l : Fin 512), (V (Proc.tc.devRef main_v6) : S8x2048x512.Idx → EReal) (ix3 b s l) = X (ix2 (row b s) ⟨1536 + l.val, by omega⟩)) :
    (if h : t < 2 then
      (StableHlo.upto hostOps0_11 V 4 (Proc.tc.devRef main_v78) : S8x2x512.Idx → EReal) (ix3 b ⟨t, p1 h⟩ l)
    else (StableHlo.upto hostOps0_11 V 4 (Proc.tc.devRef main_v77) : S8x2048x512.Idx → EReal) (ix3 b ⟨t - 2, p2 h⟩ l)) =
      up X b t l := by
  by_cases h : t < 2
  · rw [dif_pos h, up, if_pos h]
    after_reads_simp
    pointwise
  · rw [dif_neg h]
    exact u77 V b ⟨t - 2, p2 h⟩ l t (Nat.sub_add_cancel (by omega)) X h8 h6

theorem st11_v103 (b : Fin 8) (s : Fin 2048) (l : Fin 512) (w : Fin 3 → Fin 512 → EReal) (X : (⟨2, ![16384, 3200]⟩ : Shape).Idx → EReal)
    (h8 : ∀ (s : Fin 2048) (l : Fin 512), (V (Proc.tc.devRef main_v8) : S8x2048x512.Idx → EReal) (ix3 b s l) = X (ix2 (row b s) ⟨2560 + l.val, by omega⟩))
    (h6 : ∀ (s : Fin 2048) (l : Fin 512), (V (Proc.tc.devRef main_v6) : S8x2048x512.Idx → EReal) (ix3 b s l) = X (ix2 (row b s) ⟨1536 + l.val, by omega⟩))
    (hc : (V (Proc.tc.devRef main_v7) : S8x2048x512.Idx → EReal) (ix3 b s l) = X (ix2 (row b s) ⟨2048 + l.val, by omega⟩))
    (hw : ∀ k, (V (Proc.tc.devRef main_arg4) : S1x3x512.Idx → EReal) (ix3 0 k l) = w k l) :
    (after hostOps0_11 V (Proc.tc.devRef main_v103) : S8x2048x512.Idx → EReal) (ix3 b s l) = cv w X b s.val l := by
  after_reads_at
  rw [hc, hw, hw, hw, cat_eq V b s.val l _ _ X h8 h6, cat_eq V b (1 + s.val) l _ _ X h8 h6,
    u77 V b s l (s.val + 2) rfl X h8 h6, Nat.add_comm 1 s.val, cv, row_at b s s.val rfl]

theorem u103 : StableHlo.upto hostOps0_11 V 30 (Proc.tc.devRef main_v103) =
    after hostOps0_11 V (Proc.tc.devRef main_v103) := by
  after_reads_simp

/-- The last two rows of the products. -/
theorem st11_v109 (b : Fin 8) (t : Fin 2) (l : Fin 512) (X : (⟨2, ![16384, 3200]⟩ : Shape).Idx → EReal)
    (h8 : ∀ (s : Fin 2048) (l : Fin 512), (V (Proc.tc.devRef main_v8) : S8x2048x512.Idx → EReal) (ix3 b s l) = X (ix2 (row b s) ⟨2560 + l.val, by omega⟩))
    (h6 : ∀ (s : Fin 2048) (l : Fin 512), (V (Proc.tc.devRef main_v6) : S8x2048x512.Idx → EReal) (ix3 b s l) = X (ix2 (row b s) ⟨1536 + l.val, by omega⟩)) :
    (after hostOps0_11 V (Proc.tc.devRef main_v109) : S8x1x2x512.Idx → EReal) (ix4 b 0 t l) = up X b (2048 + t.val) l := by
  after_reads_at
  exact cat_eq V b (2048 + t.val) l _ _ X h8 h6

theorem row_div (b : Fin 8) (s : Fin 2048) (k) : (⟨(row b s).val / 2048, k⟩ : Fin 8) = b :=
  Fin.ext (by simp only [row]; omega)
theorem row_mod (b : Fin 8) (s : Fin 2048) (k) : (⟨(row b s).val % 2048, k⟩ : Fin 2048) = s :=
  Fin.ext (by simp only [row]; omega)

/-- The mixed rows: the gated heads before the convolution's lanes. -/
theorem st11_v106a (b : Fin 8) (s : Fin 2048) (l : Fin 1024) (hl : l.val < 512) (x y : EReal)
    (hx : (V (Proc.tc.devRef main_v74) : S8x2048x512.Idx → EReal) (ix3 b s ⟨l.val, hl⟩) = x)
    (hy : (V (Proc.tc.devRef main_v75) : S8x2048x512.Idx → EReal) (ix3 b s ⟨l.val, hl⟩) = y) :
    (after hostOps0_11 V (Proc.tc.devRef main_v106) : S16384x1024.Idx → EReal) (ix2 (row b s) l) = x * y := by
  after_reads_at
  rw [dif_pos hl]
  after_reads_simp
  pointwise
  simp only [row_div, row_mod]
  rw [hx, hy]

/-- The mixed rows' convolution lanes. -/
theorem st11_v106b (b : Fin 8) (s : Fin 2048) (l : Fin 1024) (hl : ¬ l.val < 512) (w : Fin 3 → Fin 512 → EReal)
    (X : (⟨2, ![16384, 3200]⟩ : Shape).Idx → EReal)
    (h8 : ∀ (s : Fin 2048) (l : Fin 512), (V (Proc.tc.devRef main_v8) : S8x2048x512.Idx → EReal) (ix3 b s l) = X (ix2 (row b s) ⟨2560 + l.val, by omega⟩))
    (h6 : ∀ (s : Fin 2048) (l : Fin 512), (V (Proc.tc.devRef main_v6) : S8x2048x512.Idx → EReal) (ix3 b s l) = X (ix2 (row b s) ⟨1536 + l.val, by omega⟩))
    (hc : ∀ l, (V (Proc.tc.devRef main_v7) : S8x2048x512.Idx → EReal) (ix3 b s l) = X (ix2 (row b s) ⟨2048 + l.val, by omega⟩))
    (hw : ∀ k l, (V (Proc.tc.devRef main_arg4) : S1x3x512.Idx → EReal) (ix3 0 k l) = w k l) :
    (after hostOps0_11 V (Proc.tc.devRef main_v106) : S16384x1024.Idx → EReal) (ix2 (row b s) l) = cv w X b s.val ⟨l.val - 512, by omega⟩ := by
  after_reads_at
  rw [dif_neg hl]
  simp only [row_div, row_mod]
  rw [u103]
  exact st11_v103 V b s ⟨l.val - 512, by omega⟩ w X h8 h6 (hc _) (fun k => hw k _)

theorem st11_v107 (b : Fin 8) (h : Fin 4) (d : Fin 64) (v : Fin 128) :
    (after hostOps0_11 V (Proc.tc.devRef main_v107) : S8x1x4x64x128.Idx → EReal) (ix5 b 0 h d v) =
      (V (Proc.tc.devRef main_v54_3) : S8x4x64x128.Idx → EReal) (ix4 b h d v) := by
  after_reads_at

end Cert.GlaRef

end

end
-- ==== Proof.Ref1.lean ====
/- The reference's operations before its loop, read at an index: the stretches up to the loop. -/
module

public import proofs.«01_k».proof.Proof.Ref0
public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Cert.GlaRef

open Idealize.ShloMosaic Idealize.ShloMosaic.TcCoe Cert.ReferenceIdeal Cert.ReferenceIdeal.Gen Cert.Gla
open StableHlo (after)

variable (V : Valuation τ sig (Elt Ideal)) (b : Fin 8) (n : Fin 32)
variable (p : Fin 64 → Fin 3200 → EReal) (B : Fin 64 → Fin 256 → EReal)

/-- The last row of the running sums. -/
theorem st4_v32 (h : Fin 4) (d : Fin 64)
    (hB : ∀ i h d, (V (Proc.tc.devRef main_v30) : S8x32x64x4x64.Idx → EReal) (ix5 b n i h d) = B i (ln h d)) :
    (after hostOps0_4 V (Proc.tc.devRef main_v32) : S8x32x4x64.Idx → EReal) (ix4 b n h d) = B 63 (ln h d) := by
  rw [← hB]
  after_reads_at

/-- The queries under their decay. -/
theorem st4_v34 (i : Fin 64) (h : Fin 4) (d : Fin 64)
    (hB : ∀ i h d, (V (Proc.tc.devRef main_v30) : S8x32x64x4x64.Idx → EReal) (ix5 b n i h d) = B i (ln h d))
    (hq : ∀ i h d, (V (Proc.tc.devRef main_v26) : S8x32x64x4x64.Idx → EReal) (ix5 b n i h d) =
      p i ⟨(ln h d).val, by omega⟩ * Ideal.ofBits .f32 0x3E000000#32) :
    (after hostOps0_4 V (Proc.tc.devRef main_v34) : S8x32x64x4x64.Idx → EReal) (ix5 b n i h d) = qi B p i (ln h d) := by
  after_reads_at
  rw [hB, hq]
  rfl

/-- A block's scores before the mask. -/
theorem st4_v38 (h : Fin 4) (i j : Fin 64)
    (hB : ∀ i h d, (V (Proc.tc.devRef main_v30) : S8x32x64x4x64.Idx → EReal) (ix5 b n i h d) = B i (ln h d))
    (hq : ∀ i h d, (V (Proc.tc.devRef main_v26) : S8x32x64x4x64.Idx → EReal) (ix5 b n i h d) =
      p i ⟨(ln h d).val, by omega⟩ * Ideal.ofBits .f32 0x3E000000#32)
    (hk : ∀ i h d, (V (Proc.tc.devRef main_v27) : S8x32x64x4x64.Idx → EReal) (ix5 b n i h d) = p i ⟨256 + (ln h d).val, by omega⟩) :
    (after hostOps0_4 V (Proc.tc.devRef main_v38) : S8x32x4x64x64.Idx → EReal) (ix5 b n h i j) =
      ∑ d : Fin 64, qi B p i (ln h d) * ko B p j (ln h d) := by
  after_reads_at
  simp only [hB, hq, hk]
  rfl

theorem st4_v39 (i j : Fin 64) :
    (after hostOps0_4 V (Proc.tc.devRef main_v39) : S64x64.Idx → BitVec 1) (ix2 i j) = 1#1 := by
  after_reads_at

/-- The mask: a row's own column and those before it. -/
theorem st5 (i j : Fin 64) (ho : (V (Proc.tc.devRef main_v39) : S64x64.Idx → BitVec 1) (ix2 i j) = 1#1) :
    (after hostOps0_5 V (Proc.tc.devRef main_v40) : S64x64.Idx → BitVec 1) (ix2 i j) =
      if j.val ≤ i.val then 1#1 else 0#1 := by
  after_reads_at
  rw [ho]
  have e : IntOp.addi (BitVec.ofNat 32 i.val) 0#32 = BitVec.ofNat 32 i.val := by simp [IntOp.addi]
  rw [e, WordCmp.cmpi_sge_ofNat (by omega) (by omega), WordCmp.select_ofBool]
  simp only [decide_eq_true_eq]

theorem st6 : (after hostOps0_6 V (Proc.tc.devRef main_cst_2) : S_.Idx → EReal) ix0 = (0 : EReal) := by
  after_reads_at

/-- A block's scores under the mask. -/
theorem st7 (h : Fin 4) (i j : Fin 64) (a : EReal)
    (hm : (V (Proc.tc.devRef main_v40) : S64x64.Idx → BitVec 1) (ix2 i j) = if j.val ≤ i.val then 1#1 else 0#1)
    (h0 : (V (Proc.tc.devRef main_cst_2) : S_.Idx → EReal) ix0 = (0 : EReal))
    (ha : (V (Proc.tc.devRef main_v38) : S8x32x4x64x64.Idx → EReal) (ix5 b n h i j) = a) :
    (after hostOps0_7 V (Proc.tc.devRef main_v41) : S8x32x4x64x64.Idx → EReal) (ix5 b n h i j) = if j.val ≤ i.val then a else 0 := by
  after_reads_at
  simp only [id_eq]
  rw [hm, h0, ha]
  split_ifs <;> rfl

/-- The values gathered inside a block. -/
theorem st8_v43 (i : Fin 64) (h : Fin 4) (v : Fin 128)
    (ha : ∀ j, (V (Proc.tc.devRef main_v41) : S8x32x4x64x64.Idx → EReal) (ix5 b n h i j) = att B p h i j)
    (hv : ∀ j, (V (Proc.tc.devRef main_v28) : S8x32x64x4x128.Idx → EReal) (ix5 b n j h v) = vv p j h v) :
    (after hostOps0_8 V (Proc.tc.devRef main_v43) : S8x32x64x4x128.Idx → EReal) (ix5 b n i h v) = ∑ j : Fin 64, att B p h i j * vv p j h v := by
  after_reads_at
  simp only [ha, hv, mul_comm (vv p _ _ _)]

/-- A block's decay. -/
theorem st8_v54_0 (h : Fin 4) (d : Fin 64) (x : EReal)
    (hx : (V (Proc.tc.devRef main_v32) : S8x32x4x64.Idx → EReal) (ix4 b n h d) = x) :
    (after hostOps0_8 V (Proc.tc.devRef main_v54_0) : S32x8x4x64.Idx → EReal) (ix4 n b h d) = Ideal.exp x := by
  after_reads_at
  simp only [id_eq]
  pointwise
  rw [hx]

/-- A block's contribution to the state. -/
theorem st8_v54_1 (h : Fin 4) (d : Fin 64) (v : Fin 128)
    (hB : ∀ i, (V (Proc.tc.devRef main_v30) : S8x32x64x4x64.Idx → EReal) (ix5 b n i h d) = B i (ln h d))
    (hl : (V (Proc.tc.devRef main_v32) : S8x32x4x64.Idx → EReal) (ix4 b n h d) = B 63 (ln h d))
    (hk : ∀ i, (V (Proc.tc.devRef main_v27) : S8x32x64x4x64.Idx → EReal) (ix5 b n i h d) = p i ⟨256 + (ln h d).val, by omega⟩)
    (hv : ∀ j, (V (Proc.tc.devRef main_v28) : S8x32x64x4x128.Idx → EReal) (ix5 b n j h v) = vv p j h v) :
    (after hostOps0_8 V (Proc.tc.devRef main_v54_1) : S32x8x4x64x128.Idx → EReal) (ix5 n b h d v) =
      ∑ j : Fin 64, kd B p j (ln h d) * vv p j h v := by
  after_reads_at
  simp only [id_eq]
  pointwise
  simp only [hB, hl, hk, hv]
  rfl

/-- The state before the first block. -/
theorem st8_v54_3 (b : Fin 8) (h : Fin 4) (d : Fin 64) (v : Fin 128) :
    (after hostOps0_8 V (Proc.tc.devRef main_v54_3) : S8x4x64x128.Idx → EReal) (ix4 b h d v) =
      (V (Proc.tc.devRef main_v19) : S8x4x64x128.Idx → EReal) (ix4 b h d v) := by
  after_reads_at
  simp only [id_eq]

end Cert.GlaRef

end

end
-- ==== Proof.Ref4.lean ====
/- What the reference's loop starts from, as the plain sums of `Proof/Spec.lean`. -/
module

public import proofs.«01_k».proof.Proof.Ref1
public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Cert.GlaRef

open Idealize.ShloMosaic Idealize.ShloMosaic.TcCoe Cert.ReferenceIdeal Cert.ReferenceIdeal.Gen Cert.Gla
open StableHlo (after)

variable (V U : Valuation τ sig (Elt Ideal))

theorem kp0 (r : Ref sig .tc) (h : r ∉ Value.hostOps0_W) :
    after hostOps0 V (Proc.tc.devRef r) = V (Proc.tc.devRef r) :=
  StableHlo.after_of_writes_sub hostOps0 V Value.hostOps0_writes h
theorem kp1 (r : Ref sig .tc) (h : r ∉ Value.hostOps0_1_W) :
    after hostOps0_1 V (Proc.tc.devRef r) = V (Proc.tc.devRef r) :=
  StableHlo.after_of_writes_sub hostOps0_1 V Value.hostOps0_1_writes h
theorem kp2 (r : Ref sig .tc) (h : r ∉ Value.hostOps0_2_W) :
    after hostOps0_2 V (Proc.tc.devRef r) = V (Proc.tc.devRef r) :=
  StableHlo.after_of_writes_sub hostOps0_2 V Value.hostOps0_2_writes h
theorem kp3 (r : Ref sig .tc) (h : r ∉ Value.hostOps0_3_W) :
    after hostOps0_3 V (Proc.tc.devRef r) = V (Proc.tc.devRef r) :=
  StableHlo.after_of_writes_sub hostOps0_3 V Value.hostOps0_3_writes h
theorem kp4 (r : Ref sig .tc) (h : r ∉ Value.hostOps0_4_W) :
    after hostOps0_4 V (Proc.tc.devRef r) = V (Proc.tc.devRef r) :=
  StableHlo.after_of_writes_sub hostOps0_4 V Value.hostOps0_4_writes h
theorem kp5 (r : Ref sig .tc) (h : r ∉ Value.hostOps0_5_W) :
    after hostOps0_5 V (Proc.tc.devRef r) = V (Proc.tc.devRef r) :=
  StableHlo.after_of_writes_sub hostOps0_5 V Value.hostOps0_5_writes h
theorem kp6 (r : Ref sig .tc) (h : r ∉ Value.hostOps0_6_W) :
    after hostOps0_6 V (Proc.tc.devRef r) = V (Proc.tc.devRef r) :=
  StableHlo.after_of_writes_sub hostOps0_6 V Value.hostOps0_6_writes h
theorem kp7 (r : Ref sig .tc) (h : r ∉ Value.hostOps0_7_W) :
    after hostOps0_7 V (Proc.tc.devRef r) = V (Proc.tc.devRef r) :=
  StableHlo.after_of_writes_sub hostOps0_7 V Value.hostOps0_7_writes h
theorem kp8 (r : Ref sig .tc) (h : r ∉ Value.hostOps0_8_W) :
    after hostOps0_8 V (Proc.tc.devRef r) = V (Proc.tc.devRef r) :=
  StableHlo.after_of_writes_sub hostOps0_8 V Value.hostOps0_8_writes h

/-- The contents after each stretch before the loop. -/
def V1 : Valuation τ sig (Elt Ideal) := after hostOps0 U
def V2 : Valuation τ sig (Elt Ideal) := after hostOps0_1 (V1 U)
def V3 : Valuation τ sig (Elt Ideal) := after hostOps0_2 (V2 U)
def V4 : Valuation τ sig (Elt Ideal) := after hostOps0_3 (V3 U)
def V5 : Valuation τ sig (Elt Ideal) := after hostOps0_4 (V4 U)
def V6 : Valuation τ sig (Elt Ideal) := after hostOps0_5 (V5 U)
def V7 : Valuation τ sig (Elt Ideal) := after hostOps0_6 (V6 U)
def V8 : Valuation τ sig (Elt Ideal) := after hostOps0_7 (V7 U)
def V9 : Valuation τ sig (Elt Ideal) := after hostOps0_8 (V8 U)
theorem keep_v2_1_2 : V2 U (Proc.tc.devRef main_v2) = V1 U (Proc.tc.devRef main_v2) :=
  (kp1 (V1 U) main_v2 (by decide +kernel))
theorem keep_v3_1_2 : V2 U (Proc.tc.devRef main_v3) = V1 U (Proc.tc.devRef main_v3) :=
  (kp1 (V1 U) main_v3 (by decide +kernel))
theorem keep_v4_1_2 : V2 U (Proc.tc.devRef main_v4) = V1 U (Proc.tc.devRef main_v4) :=
  (kp1 (V1 U) main_v4 (by decide +kernel))
theorem keep_v5_1_9 : V9 U (Proc.tc.devRef main_v5) = V1 U (Proc.tc.devRef main_v5) :=
  ((((((((kp8 (V8 U) main_v5 (by decide +kernel))).trans
    (kp7 (V7 U) main_v5 (by decide +kernel))).trans
    (kp6 (V6 U) main_v5 (by decide +kernel))).trans
    (kp5 (V5 U) main_v5 (by decide +kernel))).trans
    (kp4 (V4 U) main_v5 (by decide +kernel))).trans
    (kp3 (V3 U) main_v5 (by decide +kernel))).trans
    (kp2 (V2 U) main_v5 (by decide +kernel))).trans
    (kp1 (V1 U) main_v5 (by decide +kernel))
theorem keep_v6_1_9 : V9 U (Proc.tc.devRef main_v6) = V1 U (Proc.tc.devRef main_v6) :=
  ((((((((kp8 (V8 U) main_v6 (by decide +kernel))).trans
    (kp7 (V7 U) main_v6 (by decide +kernel))).trans
    (kp6 (V6 U) main_v6 (by decide +kernel))).trans
    (kp5 (V5 U) main_v6 (by decide +kernel))).trans
    (kp4 (V4 U) main_v6 (by decide +kernel))).trans
    (kp3 (V3 U) main_v6 (by decide +kernel))).trans
    (kp2 (V2 U) main_v6 (by decide +kernel))).trans
    (kp1 (V1 U) main_v6 (by decide +kernel))
theorem keep_v7_1_9 : V9 U (Proc.tc.devRef main_v7) = V1 U (Proc.tc.devRef main_v7) :=
  ((((((((kp8 (V8 U) main_v7 (by decide +kernel))).trans
    (kp7 (V7 U) main_v7 (by decide +kernel))).trans
    (kp6 (V6 U) main_v7 (by decide +kernel))).trans
    (kp5 (V5 U) main_v7 (by decide +kernel))).trans
    (kp4 (V4 U) main_v7 (by decide +kernel))).trans
    (kp3 (V3 U) main_v7 (by decide +kernel))).trans
    (kp2 (V2 U) main_v7 (by decide +kernel))).trans
    (kp1 (V1 U) main_v7 (by decide +kernel))
theorem keep_v8_1_9 : V9 U (Proc.tc.devRef main_v8) = V1 U (Proc.tc.devRef main_v8) :=
  ((((((((kp8 (V8 U) main_v8 (by decide +kernel))).trans
    (kp7 (V7 U) main_v8 (by decide +kernel))).trans
    (kp6 (V6 U) main_v8 (by decide +kernel))).trans
    (kp5 (V5 U) main_v8 (by decide +kernel))).trans
    (kp4 (V4 U) main_v8 (by decide +kernel))).trans
    (kp3 (V3 U) main_v8 (by decide +kernel))).trans
    (kp2 (V2 U) main_v8 (by decide +kernel))).trans
    (kp1 (V1 U) main_v8 (by decide +kernel))
theorem keep_v19_3_8 : V8 U (Proc.tc.devRef main_v19) = V3 U (Proc.tc.devRef main_v19) :=
  (((((kp7 (V7 U) main_v19 (by decide +kernel))).trans
    (kp6 (V6 U) main_v19 (by decide +kernel))).trans
    (kp5 (V5 U) main_v19 (by decide +kernel))).trans
    (kp4 (V4 U) main_v19 (by decide +kernel))).trans
    (kp3 (V3 U) main_v19 (by decide +kernel))
theorem keep_v26_3_4 : V4 U (Proc.tc.devRef main_v26) = V3 U (Proc.tc.devRef main_v26) :=
  (kp3 (V3 U) main_v26 (by decide +kernel))
theorem keep_v27_3_4 : V4 U (Proc.tc.devRef main_v27) = V3 U (Proc.tc.devRef main_v27) :=
  (kp3 (V3 U) main_v27 (by decide +kernel))
theorem keep_v27_3_8 : V8 U (Proc.tc.devRef main_v27) = V3 U (Proc.tc.devRef main_v27) :=
  (((((kp7 (V7 U) main_v27 (by decide +kernel))).trans
    (kp6 (V6 U) main_v27 (by decide +kernel))).trans
    (kp5 (V5 U) main_v27 (by decide +kernel))).trans
    (kp4 (V4 U) main_v27 (by decide +kernel))).trans
    (kp3 (V3 U) main_v27 (by decide +kernel))
theorem keep_v28_3_8 : V8 U (Proc.tc.devRef main_v28) = V3 U (Proc.tc.devRef main_v28) :=
  (((((kp7 (V7 U) main_v28 (by decide +kernel))).trans
    (kp6 (V6 U) main_v28 (by decide +kernel))).trans
    (kp5 (V5 U) main_v28 (by decide +kernel))).trans
    (kp4 (V4 U) main_v28 (by decide +kernel))).trans
    (kp3 (V3 U) main_v28 (by decide +kernel))
theorem keep_v30_4_8 : V8 U (Proc.tc.devRef main_v30) = V4 U (Proc.tc.devRef main_v30) :=
  ((((kp7 (V7 U) main_v30 (by decide +kernel))).trans
    (kp6 (V6 U) main_v30 (by decide +kernel))).trans
    (kp5 (V5 U) main_v30 (by decide +kernel))).trans
    (kp4 (V4 U) main_v30 (by decide +kernel))
theorem keep_v32_5_8 : V8 U (Proc.tc.devRef main_v32) = V5 U (Proc.tc.devRef main_v32) :=
  (((kp7 (V7 U) main_v32 (by decide +kernel))).trans
    (kp6 (V6 U) main_v32 (by decide +kernel))).trans
    (kp5 (V5 U) main_v32 (by decide +kernel))
theorem keep_v34_5_9 : V9 U (Proc.tc.devRef main_v34) = V5 U (Proc.tc.devRef main_v34) :=
  ((((kp8 (V8 U) main_v34 (by decide +kernel))).trans
    (kp7 (V7 U) main_v34 (by decide +kernel))).trans
    (kp6 (V6 U) main_v34 (by decide +kernel))).trans
    (kp5 (V5 U) main_v34 (by decide +kernel))
theorem keep_v38_5_7 : V7 U (Proc.tc.devRef main_v38) = V5 U (Proc.tc.devRef main_v38) :=
  ((kp6 (V6 U) main_v38 (by decide +kernel))).trans
    (kp5 (V5 U) main_v38 (by decide +kernel))
theorem keep_v40_6_7 : V7 U (Proc.tc.devRef main_v40) = V6 U (Proc.tc.devRef main_v40) :=
  (kp6 (V6 U) main_v40 (by decide +kernel))
theorem keep_arg0_0_9 : V9 U (Proc.tc.devRef main_arg0) = U (Proc.tc.devRef main_arg0) :=
  (((((((((kp8 (V8 U) main_arg0 (by decide +kernel))).trans
    (kp7 (V7 U) main_arg0 (by decide +kernel))).trans
    (kp6 (V6 U) main_arg0 (by decide +kernel))).trans
    (kp5 (V5 U) main_arg0 (by decide +kernel))).trans
    (kp4 (V4 U) main_arg0 (by decide +kernel))).trans
    (kp3 (V3 U) main_arg0 (by decide +kernel))).trans
    (kp2 (V2 U) main_arg0 (by decide +kernel))).trans
    (kp1 (V1 U) main_arg0 (by decide +kernel))).trans
    (kp0 U main_arg0 (by decide +kernel))
theorem keep_arg1_0_9 : V9 U (Proc.tc.devRef main_arg1) = U (Proc.tc.devRef main_arg1) :=
  (((((((((kp8 (V8 U) main_arg1 (by decide +kernel))).trans
    (kp7 (V7 U) main_arg1 (by decide +kernel))).trans
    (kp6 (V6 U) main_arg1 (by decide +kernel))).trans
    (kp5 (V5 U) main_arg1 (by decide +kernel))).trans
    (kp4 (V4 U) main_arg1 (by decide +kernel))).trans
    (kp3 (V3 U) main_arg1 (by decide +kernel))).trans
    (kp2 (V2 U) main_arg1 (by decide +kernel))).trans
    (kp1 (V1 U) main_arg1 (by decide +kernel))).trans
    (kp0 U main_arg1 (by decide +kernel))
theorem keep_arg2_0_9 : V9 U (Proc.tc.devRef main_arg2) = U (Proc.tc.devRef main_arg2) :=
  (((((((((kp8 (V8 U) main_arg2 (by decide +kernel))).trans
    (kp7 (V7 U) main_arg2 (by decide +kernel))).trans
    (kp6 (V6 U) main_arg2 (by decide +kernel))).trans
    (kp5 (V5 U) main_arg2 (by decide +kernel))).trans
    (kp4 (V4 U) main_arg2 (by decide +kernel))).trans
    (kp3 (V3 U) main_arg2 (by decide +kernel))).trans
    (kp2 (V2 U) main_arg2 (by decide +kernel))).trans
    (kp1 (V1 U) main_arg2 (by decide +kernel))).trans
    (kp0 U main_arg2 (by decide +kernel))
theorem keep_arg3_0_9 : V9 U (Proc.tc.devRef main_arg3) = U (Proc.tc.devRef main_arg3) :=
  (((((((((kp8 (V8 U) main_arg3 (by decide +kernel))).trans
    (kp7 (V7 U) main_arg3 (by decide +kernel))).trans
    (kp6 (V6 U) main_arg3 (by decide +kernel))).trans
    (kp5 (V5 U) main_arg3 (by decide +kernel))).trans
    (kp4 (V4 U) main_arg3 (by decide +kernel))).trans
    (kp3 (V3 U) main_arg3 (by decide +kernel))).trans
    (kp2 (V2 U) main_arg3 (by decide +kernel))).trans
    (kp1 (V1 U) main_arg3 (by decide +kernel))).trans
    (kp0 U main_arg3 (by decide +kernel))
theorem keep_arg4_0_9 : V9 U (Proc.tc.devRef main_arg4) = U (Proc.tc.devRef main_arg4) :=
  (((((((((kp8 (V8 U) main_arg4 (by decide +kernel))).trans
    (kp7 (V7 U) main_arg4 (by decide +kernel))).trans
    (kp6 (V6 U) main_arg4 (by decide +kernel))).trans
    (kp5 (V5 U) main_arg4 (by decide +kernel))).trans
    (kp4 (V4 U) main_arg4 (by decide +kernel))).trans
    (kp3 (V3 U) main_arg4 (by decide +kernel))).trans
    (kp2 (V2 U) main_arg4 (by decide +kernel))).trans
    (kp1 (V1 U) main_arg4 (by decide +kernel))).trans
    (kp0 U main_arg4 (by decide +kernel))

/-- The projection's rows of a block, as the reference splits them. -/
abbrev P (b : Fin 8) (n : Fin 32) : Fin 64 → Fin 3200 → EReal := ch (X0 U) b n.val
/-- The running sums of a block. -/
abbrev BB (b : Fin 8) (n : Fin 32) : Fin 64 → Fin 256 → EReal := CB (LG (W0 U) (β0 U) (P U b n))

theorem row_tok (b : Fin 8) (n : Fin 32) (i : Fin 64) : row b (tok n i) = rowOf b n.val i :=
  Fin.ext (by simp only [row, tok, rowOf]; omega)

theorem f26 (b : Fin 8) (n : Fin 32) (i : Fin 64) (h : Fin 4) (d : Fin 64) :
    (V3 U (Proc.tc.devRef main_v26) : S8x32x64x4x64.Idx → EReal) (ix5 b n i h d) = P U b n i ⟨(ln h d).val, by omega⟩ * Ideal.ofBits .f32 0x3E000000#32 :=
  st2_v26 (V2 U) b n i h d _ (by
    rw [keep_v2_1_2]
    refine (st0_v2 U b (tok n i) (ln h d)).trans ?_
    rw [row_tok]
    rfl)

theorem f27 (b : Fin 8) (n : Fin 32) (i : Fin 64) (h : Fin 4) (d : Fin 64) :
    (V3 U (Proc.tc.devRef main_v27) : S8x32x64x4x64.Idx → EReal) (ix5 b n i h d) = P U b n i ⟨256 + (ln h d).val, by omega⟩ := by
  refine (st2_v27 (V2 U) b n i h d).trans ?_
  rw [keep_v3_1_2]
  refine (st0_v3 U b (tok n i) (ln h d)).trans ?_
  rw [row_tok]
  rfl

theorem f28 (b : Fin 8) (n : Fin 32) (i : Fin 64) (h : Fin 4) (v : Fin 128) :
    (V3 U (Proc.tc.devRef main_v28) : S8x32x64x4x128.Idx → EReal) (ix5 b n i h v) = vv (P U b n) i h v := by
  refine (st2_v28 (V2 U) b n i h v).trans ?_
  rw [keep_v4_1_2]
  refine (st0_v4 U b (tok n i) (lv h v)).trans ?_
  rw [row_tok]
  refine congrArg (fun l => X0 U (ix2 (rowOf b n.val i) l)) (Fin.ext ?_)
  simp only [lv]
  omega

theorem f29 (b : Fin 8) (n : Fin 32) (i : Fin 64) (h : Fin 4) (d : Fin 64) :
    (V3 U (Proc.tc.devRef main_v29) : S8x32x64x4x64.Idx → EReal) (ix5 b n i h d) = LG (W0 U) (β0 U) (P U b n) i (ln h d) := by
  refine (st2_v29 (V2 U) b n i h d _ (st1 (V1 U) b (tok n i) (ln h d) _ (st0 U b (tok n i) (ln h d)))).trans ?_
  rw [row_tok]
  rfl

theorem f19 (b : Fin 8) (h : Fin 4) (d : Fin 64) (v : Fin 128) :
    (V3 U (Proc.tc.devRef main_v19) : S8x4x64x128.Idx → EReal) (ix4 b h d v) = (0 : EReal) := st2_v19 (V2 U) b h d v

theorem f30 (b : Fin 8) (n : Fin 32) (i : Fin 64) (h : Fin 4) (d : Fin 64) :
    (V4 U (Proc.tc.devRef main_v30) : S8x32x64x4x64.Idx → EReal) (ix5 b n i h d) = BB U b n i (ln h d) :=
  st3 (V3 U) b n i h d _ (fun j => f29 U b n j h d)

theorem f32 (b : Fin 8) (n : Fin 32) (h : Fin 4) (d : Fin 64) :
    (V5 U (Proc.tc.devRef main_v32) : S8x32x4x64.Idx → EReal) (ix4 b n h d) = BB U b n 63 (ln h d) :=
  st4_v32 (V4 U) b n (BB U b n) h d (f30 U b n)

theorem f26' (b : Fin 8) (n : Fin 32) (i : Fin 64) (h : Fin 4) (d : Fin 64) :
    (V4 U (Proc.tc.devRef main_v26) : S8x32x64x4x64.Idx → EReal) (ix5 b n i h d) = P U b n i ⟨(ln h d).val, by omega⟩ * Ideal.ofBits .f32 0x3E000000#32 := by
  rw [keep_v26_3_4]
  exact f26 U b n i h d

theorem f27' (b : Fin 8) (n : Fin 32) (i : Fin 64) (h : Fin 4) (d : Fin 64) :
    (V4 U (Proc.tc.devRef main_v27) : S8x32x64x4x64.Idx → EReal) (ix5 b n i h d) = P U b n i ⟨256 + (ln h d).val, by omega⟩ := by
  rw [keep_v27_3_4]
  exact f27 U b n i h d

theorem f34 (b : Fin 8) (n : Fin 32) (i : Fin 64) (h : Fin 4) (d : Fin 64) :
    (V5 U (Proc.tc.devRef main_v34) : S8x32x64x4x64.Idx → EReal) (ix5 b n i h d) = qi (BB U b n) (P U b n) i (ln h d) :=
  st4_v34 (V4 U) b n (P U b n) (BB U b n) i h d (f30 U b n) (f26' U b n)

theorem f38 (b : Fin 8) (n : Fin 32) (h : Fin 4) (i j : Fin 64) :
    (V5 U (Proc.tc.devRef main_v38) : S8x32x4x64x64.Idx → EReal) (ix5 b n h i j) =
      ∑ d : Fin 64, qi (BB U b n) (P U b n) i (ln h d) * ko (BB U b n) (P U b n) j (ln h d) :=
  st4_v38 (V4 U) b n (P U b n) (BB U b n) h i j (f30 U b n) (f26' U b n) (f27' U b n)

theorem f40 (i j : Fin 64) : (V6 U (Proc.tc.devRef main_v40) : S64x64.Idx → BitVec 1) (ix2 i j) =
    if j.val ≤ i.val then 1#1 else 0#1 := st5 (V5 U) i j (st4_v39 (V4 U) i j)

theorem f41 (b : Fin 8) (n : Fin 32) (h : Fin 4) (i j : Fin 64) :
    (V8 U (Proc.tc.devRef main_v41) : S8x32x4x64x64.Idx → EReal) (ix5 b n h i j) = att (BB U b n) (P U b n) h i j :=
  st7 (V7 U) b n h i j _ (by rw [keep_v40_6_7]; exact f40 U i j) (st6 (V6 U))
    (by rw [keep_v38_5_7]; exact f38 U b n h i j)

theorem f27'' (b : Fin 8) (n : Fin 32) (i : Fin 64) (h : Fin 4) (d : Fin 64) :
    (V8 U (Proc.tc.devRef main_v27) : S8x32x64x4x64.Idx → EReal) (ix5 b n i h d) = P U b n i ⟨256 + (ln h d).val, by omega⟩ := by
  rw [keep_v27_3_8]
  exact f27 U b n i h d

theorem f28' (b : Fin 8) (n : Fin 32) (i : Fin 64) (h : Fin 4) (v : Fin 128) :
    (V8 U (Proc.tc.devRef main_v28) : S8x32x64x4x128.Idx → EReal) (ix5 b n i h v) = vv (P U b n) i h v := by
  rw [keep_v28_3_8]
  exact f28 U b n i h v

/-! ## The loop's entry -/

/-- The values gathered inside a block. -/
theorem e43 (b : Fin 8) (n : Fin 32) (i : Fin 64) (h : Fin 4) (v : Fin 128) :
    (V9 U (Proc.tc.devRef main_v43) : S8x32x64x4x128.Idx → EReal) (ix5 b n i h v) =
      ∑ j : Fin 64, att (BB U b n) (P U b n) h i j * vv (P U b n) j h v :=
  st8_v43 (V8 U) b n (P U b n) (BB U b n) i h v (f41 U b n h i) (fun j => f28' U b n j h v)

/-- A block's decay. -/
theorem e54_0 (b : Fin 8) (n : Fin 32) (h : Fin 4) (d : Fin 64) :
    (V9 U (Proc.tc.devRef main_v54_0) : S32x8x4x64.Idx → EReal) (ix4 n b h d) = Ideal.exp (BB U b n 63 (ln h d)) :=
  st8_v54_0 (V8 U) b n h d _ (by rw [keep_v32_5_8]; exact f32 U b n h d)

/-- A block's contribution to the state. -/
theorem e54_1 (b : Fin 8) (n : Fin 32) (h : Fin 4) (d : Fin 64) (v : Fin 128) :
    (V9 U (Proc.tc.devRef main_v54_1) : S32x8x4x64x128.Idx → EReal) (ix5 n b h d v) =
      ∑ j : Fin 64, kd (BB U b n) (P U b n) j (ln h d) * vv (P U b n) j h v :=
  st8_v54_1 (V8 U) b n (P U b n) (BB U b n) h d v (fun i => by rw [keep_v30_4_8]; exact f30 U b n i h d)
    (by rw [keep_v32_5_8]; exact f32 U b n h d) (fun i => f27'' U b n i h d) (fun j => f28' U b n j h v)

/-- The state before the first block. -/
theorem e54_3 (b : Fin 8) (h : Fin 4) (d : Fin 64) (v : Fin 128) :
    (V9 U (Proc.tc.devRef main_v54_3) : S8x4x64x128.Idx → EReal) (ix4 b h d v) = (0 : EReal) := by
  refine (st8_v54_3 (V8 U) b h d v).trans ?_
  rw [keep_v19_3_8]
  exact f19 U b h d v

/-- The queries under their decay. -/
theorem e34 (b : Fin 8) (n : Fin 32) (i : Fin 64) (h : Fin 4) (d : Fin 64) :
    (V9 U (Proc.tc.devRef main_v34) : S8x32x64x4x64.Idx → EReal) (ix5 b n i h d) = qi (BB U b n) (P U b n) i (ln h d) := by
  rw [keep_v34_5_9]
  exact f34 U b n i h d

theorem e5 (b : Fin 8) (s : Fin 2048) (l : Fin 512) :
    (V9 U (Proc.tc.devRef main_v5) : S8x2048x512.Idx → EReal) (ix3 b s l) = X0 U (ix2 (row b s) ⟨1024 + l.val, by omega⟩) := by
  rw [keep_v5_1_9]
  exact st0_v5 U b s l

theorem e6 (b : Fin 8) (s : Fin 2048) (l : Fin 512) :
    (V9 U (Proc.tc.devRef main_v6) : S8x2048x512.Idx → EReal) (ix3 b s l) = X0 U (ix2 (row b s) ⟨1536 + l.val, by omega⟩) := by
  rw [keep_v6_1_9]
  exact st0_v6 U b s l

theorem e7 (b : Fin 8) (s : Fin 2048) (l : Fin 512) :
    (V9 U (Proc.tc.devRef main_v7) : S8x2048x512.Idx → EReal) (ix3 b s l) = X0 U (ix2 (row b s) ⟨2048 + l.val, by omega⟩) := by
  rw [keep_v7_1_9]
  exact st0_v7 U b s l

theorem e8 (b : Fin 8) (s : Fin 2048) (l : Fin 512) :
    (V9 U (Proc.tc.devRef main_v8) : S8x2048x512.Idx → EReal) (ix3 b s l) = X0 U (ix2 (row b s) ⟨2560 + l.val, by omega⟩) := by
  rw [keep_v8_1_9]
  exact st0_v8 U b s l

end Cert.GlaRef

end

end
-- ==== Proof.Ref5.lean ====
/- The reference's loop and what follows it, as the plain sums of `Proof/Spec.lean`. -/
module

public import proofs.«01_k».proof.Proof.Ref2
public import proofs.«01_k».proof.Proof.Ref3
public import proofs.«01_k».proof.Proof.Ref4
public import proofs.«01_k».proof.Proof.Results
public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Cert.GlaRef

open Idealize.ShloMosaic Idealize.ShloMosaic.TcCoe Cert.ReferenceIdeal Cert.ReferenceIdeal.Gen Cert.Gla
open StableHlo (after afterL atTrip entryContents finalContents launchContents)
open Cert.ReferenceIdeal.Value

/-- A trip keeps every buffer its stretches do not write. -/
theorem trip_keep (V : Valuation τ sig (Elt Ideal)) (r : Ref sig .tc) (hc : r ∉ condOps_W) (h0 : r ∉ while0Ops0_W)
    (h1 : r ∉ while0Ops0_1_W) (h2 : r ∉ while0Ops0_2_W) (h3 : r ∉ while0Ops0_3_W) (h4 : r ∉ while0Ops0_4_W) :
    afterL bodyI (after condOps V) (Proc.tc.devRef r) = V (Proc.tc.devRef r) := by
  simp only [bodyI, StableHlo.afterL_cons, StableHlo.afterL_nil]
  rw [StableHlo.after_of_writes_sub while0Ops0_4 _ while0Ops0_4_writes h4,
    StableHlo.after_of_writes_sub while0Ops0_3 _ while0Ops0_3_writes h3,
    StableHlo.after_of_writes_sub while0Ops0_2 _ while0Ops0_2_writes h2,
    StableHlo.after_of_writes_sub while0Ops0_1 _ while0Ops0_1_writes h1,
    StableHlo.after_of_writes_sub while0Ops0 _ while0Ops0_writes h0,
    StableHlo.after_of_writes_sub condOps _ condOps_writes hc]

theorem cond_keep (V : Valuation τ sig (Elt Ideal)) (r : Ref sig .tc) (hc : r ∉ condOps_W) :
    after condOps V (Proc.tc.devRef r) = V (Proc.tc.devRef r) :=
  StableHlo.after_of_writes_sub condOps _ condOps_writes hc

variable (m : (ℓ : Loc nD τ sig) → Buf (Elt Ideal) ℓ) (c : Dev nD)

/-- The contents at the launch. -/
abbrev U0 : Valuation τ sig (Elt Ideal) := launchContents m c

theorem entry_eq : entryContents preI m c = V9 (U0 m c) := rfl

/-- The loop keeps what it does not write. -/
theorem atK_keep (r : Ref sig .tc) (hc : r ∉ condOps_W) (h0 : r ∉ while0Ops0_W)
    (h1 : r ∉ while0Ops0_1_W) (h2 : r ∉ while0Ops0_2_W) (h3 : r ∉ while0Ops0_3_W) (h4 : r ∉ while0Ops0_4_W) :
    ∀ k, atK m k c (Proc.tc.devRef r) = V9 (U0 m c) (Proc.tc.devRef r)
  | 0 => rfl
  | k + 1 => (trip_keep (atK m k c) r hc h0 h1 h2 h3 h4).trans (atK_keep r hc h0 h1 h2 h3 h4 k)

theorem atK_v54_0 : ∀ k, atK m k c (Proc.tc.devRef main_v54_0) = V9 (U0 m c) (Proc.tc.devRef main_v54_0)
  | 0 => rfl
  | k + 1 => ((trip_main_v54_0 (after condOps (atK m k c))).trans
      (cond_keep _ main_v54_0 (by decide +kernel))).trans (atK_v54_0 k)

theorem atK_v54_1 : ∀ k, atK m k c (Proc.tc.devRef main_v54_1) = V9 (U0 m c) (Proc.tc.devRef main_v54_1)
  | 0 => rfl
  | k + 1 => ((trip_main_v54_1 (after condOps (atK m k c))).trans
      (cond_keep _ main_v54_1 (by decide +kernel))).trans (atK_v54_1 k)

/-- The state before a block, by the same recursion as the kernel's. -/
abbrev SS (b : Fin 8) (n : ℕ) : Fin 4 → Fin 64 → Fin 128 → EReal := St (W0 (U0 m c)) (β0 (U0 m c)) (X0 (U0 m c)) b n

/-- The state after `k` trips. -/
theorem atK_state : ∀ k, k ≤ 32 → ∀ (b : Fin 8) (h : Fin 4) (d : Fin 64) (v : Fin 128),
    (atK m k c (Proc.tc.devRef main_v54_3) : S8x4x64x128.Idx → EReal) (ix4 b h d v) = SS m c b k h d v
  | 0, _, b, h, d, v => e54_3 (U0 m c) b h d v
  | k + 1, hk, b, h, d, v => by
    exact trip_state (after condOps (atK m k c)) ⟨k, by omega⟩ b h d v
      ((cond_keep _ main_v54_2 (by decide +kernel)).trans (atK_ctr m c k)) (SS m c b k h d v)
      (Ideal.exp (BB (U0 m c) b ⟨k, by omega⟩ 63 (ln h d)))
      (∑ j : Fin 64, kd (BB (U0 m c) b ⟨k, by omega⟩) (P (U0 m c) b ⟨k, by omega⟩) j (ln h d) *
        vv (P (U0 m c) b ⟨k, by omega⟩) j h v)
      (by
        rw [cond_keep _ main_v54_3 (by decide +kernel)]
        exact atK_state k (by omega) b h d v)
      (by
        rw [cond_keep _ main_v54_0 (by decide +kernel), atK_v54_0]
        exact e54_0 (U0 m c) b ⟨k, by omega⟩ h d)
      (by
        rw [cond_keep _ main_v54_1 (by decide +kernel), atK_v54_1]
        exact e54_1 (U0 m c) b ⟨k, by omega⟩ h d v)

/-- The states kept by the trips so far. -/
theorem atK_starts : ∀ k, k ≤ 32 → ∀ (n : Fin 32), n.val < k → ∀ (b : Fin 8) (h : Fin 4) (d : Fin 64) (v : Fin 128),
    (atK m k c (Proc.tc.devRef main_v54_4) : S32x8x4x64x128.Idx → EReal) (ix5 n b h d v) = SS m c b n.val h d v
  | 0, _, n, hn, _, _, _, _ => absurd hn (Nat.not_lt_zero _)
  | k + 1, hk, n, hn, b, h, d, v => by
    refine (trip_starts (after condOps (atK m k c)) ⟨k, by omega⟩ n b h d v
      ((cond_keep _ main_v54_2 (by decide +kernel)).trans (atK_ctr m c k))).trans ?_
    split_ifs with e
    · rw [cond_keep _ main_v54_3 (by decide +kernel), e]
      exact atK_state m c k (by omega) b h d v
    · rw [cond_keep _ main_v54_4 (by decide +kernel)]
      exact atK_starts k (by omega) n (by
        have : n.val ≠ k := fun h => e (Fin.ext h)
        omega) b h d v

/-- The contents after the loop. -/
def E : Valuation τ sig (Elt Ideal) := after condOps (atK m 32 c)

theorem final_eq : finalContents condOps preI bodyI postI 32 m c = after hostOps0_11 (after hostOps0_10 (after hostOps0_9 (E m c))) := rfl

theorem E_v34 : E m c (Proc.tc.devRef main_v34) = V9 (U0 m c) (Proc.tc.devRef main_v34) :=
  ((cond_keep _ main_v34 (by decide +kernel)).trans (atK_keep m c main_v34 (by decide +kernel) (by decide +kernel)
    (by decide +kernel) (by decide +kernel) (by decide +kernel) (by decide +kernel) 32))
theorem E_v43 : E m c (Proc.tc.devRef main_v43) = V9 (U0 m c) (Proc.tc.devRef main_v43) :=
  ((cond_keep _ main_v43 (by decide +kernel)).trans (atK_keep m c main_v43 (by decide +kernel) (by decide +kernel)
    (by decide +kernel) (by decide +kernel) (by decide +kernel) (by decide +kernel) 32))
theorem E_v5 : E m c (Proc.tc.devRef main_v5) = V9 (U0 m c) (Proc.tc.devRef main_v5) :=
  ((cond_keep _ main_v5 (by decide +kernel)).trans (atK_keep m c main_v5 (by decide +kernel) (by decide +kernel)
    (by decide +kernel) (by decide +kernel) (by decide +kernel) (by decide +kernel) 32))
theorem E_v6 : E m c (Proc.tc.devRef main_v6) = V9 (U0 m c) (Proc.tc.devRef main_v6) :=
  ((cond_keep _ main_v6 (by decide +kernel)).trans (atK_keep m c main_v6 (by decide +kernel) (by decide +kernel)
    (by decide +kernel) (by decide +kernel) (by decide +kernel) (by decide +kernel) 32))
theorem E_v7 : E m c (Proc.tc.devRef main_v7) = V9 (U0 m c) (Proc.tc.devRef main_v7) :=
  ((cond_keep _ main_v7 (by decide +kernel)).trans (atK_keep m c main_v7 (by decide +kernel) (by decide +kernel)
    (by decide +kernel) (by decide +kernel) (by decide +kernel) (by decide +kernel) 32))
theorem E_v8 : E m c (Proc.tc.devRef main_v8) = V9 (U0 m c) (Proc.tc.devRef main_v8) :=
  ((cond_keep _ main_v8 (by decide +kernel)).trans (atK_keep m c main_v8 (by decide +kernel) (by decide +kernel)
    (by decide +kernel) (by decide +kernel) (by decide +kernel) (by decide +kernel) 32))
theorem E_arg0 : E m c (Proc.tc.devRef main_arg0) = U0 m c (Proc.tc.devRef main_arg0) :=
  ((cond_keep _ main_arg0 (by decide +kernel)).trans (atK_keep m c main_arg0 (by decide +kernel) (by decide +kernel)
    (by decide +kernel) (by decide +kernel) (by decide +kernel) (by decide +kernel) 32)).trans (keep_arg0_0_9 (U0 m c))
theorem E_arg1 : E m c (Proc.tc.devRef main_arg1) = U0 m c (Proc.tc.devRef main_arg1) :=
  ((cond_keep _ main_arg1 (by decide +kernel)).trans (atK_keep m c main_arg1 (by decide +kernel) (by decide +kernel)
    (by decide +kernel) (by decide +kernel) (by decide +kernel) (by decide +kernel) 32)).trans (keep_arg1_0_9 (U0 m c))
theorem E_arg2 : E m c (Proc.tc.devRef main_arg2) = U0 m c (Proc.tc.devRef main_arg2) :=
  ((cond_keep _ main_arg2 (by decide +kernel)).trans (atK_keep m c main_arg2 (by decide +kernel) (by decide +kernel)
    (by decide +kernel) (by decide +kernel) (by decide +kernel) (by decide +kernel) 32)).trans (keep_arg2_0_9 (U0 m c))
theorem E_arg3 : E m c (Proc.tc.devRef main_arg3) = U0 m c (Proc.tc.devRef main_arg3) :=
  ((cond_keep _ main_arg3 (by decide +kernel)).trans (atK_keep m c main_arg3 (by decide +kernel) (by decide +kernel)
    (by decide +kernel) (by decide +kernel) (by decide +kernel) (by decide +kernel) 32)).trans (keep_arg3_0_9 (U0 m c))
theorem E_arg4 : E m c (Proc.tc.devRef main_arg4) = U0 m c (Proc.tc.devRef main_arg4) :=
  ((cond_keep _ main_arg4 (by decide +kernel)).trans (atK_keep m c main_arg4 (by decide +kernel) (by decide +kernel)
    (by decide +kernel) (by decide +kernel) (by decide +kernel) (by decide +kernel) 32)).trans (keep_arg4_0_9 (U0 m c))
theorem pk9_v5 (V : Valuation τ sig (Elt Ideal)) :
    after hostOps0_9 V (Proc.tc.devRef main_v5) = V (Proc.tc.devRef main_v5) := by
  after_reads_simp
theorem pk9_v6 (V : Valuation τ sig (Elt Ideal)) :
    after hostOps0_9 V (Proc.tc.devRef main_v6) = V (Proc.tc.devRef main_v6) := by
  after_reads_simp
theorem pk9_v7 (V : Valuation τ sig (Elt Ideal)) :
    after hostOps0_9 V (Proc.tc.devRef main_v7) = V (Proc.tc.devRef main_v7) := by
  after_reads_simp
theorem pk9_v8 (V : Valuation τ sig (Elt Ideal)) :
    after hostOps0_9 V (Proc.tc.devRef main_v8) = V (Proc.tc.devRef main_v8) := by
  after_reads_simp
theorem pk9_v54_3 (V : Valuation τ sig (Elt Ideal)) :
    after hostOps0_9 V (Proc.tc.devRef main_v54_3) = V (Proc.tc.devRef main_v54_3) := by
  after_reads_simp
theorem pk10_v6 (V : Valuation τ sig (Elt Ideal)) :
    after hostOps0_10 V (Proc.tc.devRef main_v6) = V (Proc.tc.devRef main_v6) := by
  after_reads_simp
theorem pk10_v7 (V : Valuation τ sig (Elt Ideal)) :
    after hostOps0_10 V (Proc.tc.devRef main_v7) = V (Proc.tc.devRef main_v7) := by
  after_reads_simp
theorem pk10_v8 (V : Valuation τ sig (Elt Ideal)) :
    after hostOps0_10 V (Proc.tc.devRef main_v8) = V (Proc.tc.devRef main_v8) := by
  after_reads_simp
theorem pk10_v54_3 (V : Valuation τ sig (Elt Ideal)) :
    after hostOps0_10 V (Proc.tc.devRef main_v54_3) = V (Proc.tc.devRef main_v54_3) := by
  after_reads_simp
theorem pk10_v74 (V : Valuation τ sig (Elt Ideal)) :
    after hostOps0_10 V (Proc.tc.devRef main_v74) = V (Proc.tc.devRef main_v74) := by
  after_reads_simp
theorem pk9_arg0 (V : Valuation τ sig (Elt Ideal)) :
    after hostOps0_9 V (Proc.tc.devRef main_arg0) = V (Proc.tc.devRef main_arg0) := by
  after_reads_simp
theorem pk10_arg0 (V : Valuation τ sig (Elt Ideal)) :
    after hostOps0_10 V (Proc.tc.devRef main_arg0) = V (Proc.tc.devRef main_arg0) := by
  after_reads_simp
theorem pk11_arg0 (V : Valuation τ sig (Elt Ideal)) :
    after hostOps0_11 V (Proc.tc.devRef main_arg0) = V (Proc.tc.devRef main_arg0) := by
  after_reads_simp
theorem pk9_arg1 (V : Valuation τ sig (Elt Ideal)) :
    after hostOps0_9 V (Proc.tc.devRef main_arg1) = V (Proc.tc.devRef main_arg1) := by
  after_reads_simp
theorem pk10_arg1 (V : Valuation τ sig (Elt Ideal)) :
    after hostOps0_10 V (Proc.tc.devRef main_arg1) = V (Proc.tc.devRef main_arg1) := by
  after_reads_simp
theorem pk11_arg1 (V : Valuation τ sig (Elt Ideal)) :
    after hostOps0_11 V (Proc.tc.devRef main_arg1) = V (Proc.tc.devRef main_arg1) := by
  after_reads_simp
theorem pk9_arg2 (V : Valuation τ sig (Elt Ideal)) :
    after hostOps0_9 V (Proc.tc.devRef main_arg2) = V (Proc.tc.devRef main_arg2) := by
  after_reads_simp
theorem pk10_arg2 (V : Valuation τ sig (Elt Ideal)) :
    after hostOps0_10 V (Proc.tc.devRef main_arg2) = V (Proc.tc.devRef main_arg2) := by
  after_reads_simp
theorem pk11_arg2 (V : Valuation τ sig (Elt Ideal)) :
    after hostOps0_11 V (Proc.tc.devRef main_arg2) = V (Proc.tc.devRef main_arg2) := by
  after_reads_simp
theorem pk9_arg3 (V : Valuation τ sig (Elt Ideal)) :
    after hostOps0_9 V (Proc.tc.devRef main_arg3) = V (Proc.tc.devRef main_arg3) := by
  after_reads_simp
theorem pk10_arg3 (V : Valuation τ sig (Elt Ideal)) :
    after hostOps0_10 V (Proc.tc.devRef main_arg3) = V (Proc.tc.devRef main_arg3) := by
  after_reads_simp
theorem pk11_arg3 (V : Valuation τ sig (Elt Ideal)) :
    after hostOps0_11 V (Proc.tc.devRef main_arg3) = V (Proc.tc.devRef main_arg3) := by
  after_reads_simp
theorem pk9_arg4 (V : Valuation τ sig (Elt Ideal)) :
    after hostOps0_9 V (Proc.tc.devRef main_arg4) = V (Proc.tc.devRef main_arg4) := by
  after_reads_simp
theorem pk10_arg4 (V : Valuation τ sig (Elt Ideal)) :
    after hostOps0_10 V (Proc.tc.devRef main_arg4) = V (Proc.tc.devRef main_arg4) := by
  after_reads_simp
theorem pk11_arg4 (V : Valuation τ sig (Elt Ideal)) :
    after hostOps0_11 V (Proc.tc.devRef main_arg4) = V (Proc.tc.devRef main_arg4) := by
  after_reads_simp

end Cert.GlaRef

end

end
-- ==== Proof.Ref6.lean ====
/- The reference's three results as the plain sums of `Proof/Spec.lean`, and its run. -/
module

public import proofs.«01_k».proof.Proof.Ref5
public import proofs.«01_k».proof.Proof.Results
public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Cert.GlaRef

open Idealize.ShloMosaic Idealize.ShloMosaic.TcCoe Cert.ReferenceIdeal Cert.ReferenceIdeal.Gen Cert.Gla
open StableHlo (after afterL atTrip entryContents finalContents launchContents)
open Cert.ReferenceIdeal.Value

variable (m : (ℓ : Loc nD τ sig) → Buf (Elt Ideal) ℓ) (c : Dev nD)

/-- The norm's weights. -/
def w0 (v : Fin 128) : EReal := (U0 m c (Proc.tc.devRef main_arg3) : S1x128.Idx → EReal) (ix2 0 v)
/-- The convolution's weights. -/
def wc0 (k : Fin 3) (l : Fin 512) : EReal := (U0 m c (Proc.tc.devRef main_arg4) : S1x3x512.Idx → EReal) (ix3 0 k l)

/-- The contents after the first and the second stretch past the loop. -/
def E9 : Valuation τ sig (Elt Ideal) := after hostOps0_9 (E m c)
def E10 : Valuation τ sig (Elt Ideal) := after hostOps0_10 (E9 m c)

theorem e10_8 (b : Fin 8) (s : Fin 2048) (l : Fin 512) :
    (E10 m c (Proc.tc.devRef main_v8) : S8x2048x512.Idx → EReal) (ix3 b s l) = X0 (U0 m c) (ix2 (row b s) ⟨2560 + l.val, by omega⟩) := by
  rw [E10, pk10_v8, E9, pk9_v8, E_v8]
  exact e8 (U0 m c) b s l
theorem e10_7 (b : Fin 8) (s : Fin 2048) (l : Fin 512) :
    (E10 m c (Proc.tc.devRef main_v7) : S8x2048x512.Idx → EReal) (ix3 b s l) = X0 (U0 m c) (ix2 (row b s) ⟨2048 + l.val, by omega⟩) := by
  rw [E10, pk10_v7, E9, pk9_v7, E_v7]
  exact e7 (U0 m c) b s l
theorem e10_6 (b : Fin 8) (s : Fin 2048) (l : Fin 512) :
    (E10 m c (Proc.tc.devRef main_v6) : S8x2048x512.Idx → EReal) (ix3 b s l) = X0 (U0 m c) (ix2 (row b s) ⟨1536 + l.val, by omega⟩) := by
  rw [E10, pk10_v6, E9, pk9_v6, E_v6]
  exact e6 (U0 m c) b s l
theorem e10_w (k : Fin 3) (l : Fin 512) :
    (E10 m c (Proc.tc.devRef main_arg4) : S1x3x512.Idx → EReal) (ix3 0 k l) = wc0 m c k l := by
  rw [E10, pk10_arg4, E9, pk9_arg4, E_arg4]
  rfl

/-- The normed heads. -/
theorem e10_74 (b : Fin 8) (n : Fin 32) (i : Fin 64) (h : Fin 4) (v : Fin 128) :
    (E10 m c (Proc.tc.devRef main_v74) : S8x2048x512.Idx → EReal) (ix3 b (tok n i) (lv h v)) =
      oo (BB (U0 m c) b n) (P (U0 m c) b n) h (SS m c b n.val h) i v *
        Ideal.rsqrt (Ideal.div (∑ x, oo (BB (U0 m c) b n) (P (U0 m c) b n) h (SS m c b n.val h) i x *
          oo (BB (U0 m c) b n) (P (U0 m c) b n) h (SS m c b n.val h) i x) (Ideal.ofBits .f32 0x43000000#32) +
            Ideal.ofBits .f32 0x358637BD#32) * w0 m c v := by
  rw [E10, pk10_v74, E9]
  exact st9 (E m c) b n i h v
    (fun v => ∑ j : Fin 64, att (BB (U0 m c) b n) (P (U0 m c) b n) h i j * vv (P (U0 m c) b n) j h v)
    (SS m c b n.val h) (fun d => qi (BB (U0 m c) b n) (P (U0 m c) b n) i (ln h d)) (w0 m c)
    (fun v => by rw [E_v43]; exact e43 (U0 m c) b n i h v)
    (fun d v => by
      rw [E, cond_keep _ main_v54_4 (by decide +kernel)]
      exact atK_starts m c 32 (le_refl _) n n.isLt b h d v)
    (fun d => by rw [E_v34]; exact e34 (U0 m c) b n i h d)
    (fun v => by rw [E_arg3]; rfl)

/-- The output gate. -/
theorem e10_75 (b : Fin 8) (n : Fin 32) (i : Fin 64) (h : Fin 4) (v : Fin 128) :
    (E10 m c (Proc.tc.devRef main_v75) : S8x2048x512.Idx → EReal) (ix3 b (tok n i) (lv h v)) =
      P (U0 m c) b n i ⟨1024 + 128 * h.val + v.val, by omega⟩ *
        Ideal.logistic (P (U0 m c) b n i ⟨1024 + 128 * h.val + v.val, by omega⟩) := by
  refine st10 (E9 m c) b (tok n i) (lv h v) _ ?_
  rw [E9, pk9_v5, E_v5]
  refine (e5 (U0 m c) b (tok n i) (lv h v)).trans ?_
  rw [row_tok]
  refine congrArg (fun l => X0 (U0 m c) (ix2 (rowOf b n.val i) l)) (Fin.ext ?_)
  simp only [lv]
  omega

/-- A head's lanes of the mixed rows. -/
theorem r106a (b : Fin 8) (n : Fin 32) (i : Fin 64) (h : Fin 4) (v : Fin 128) :
    (after hostOps0_11 (E10 m c) (Proc.tc.devRef main_v106) : S16384x1024.Idx → EReal) (ix2 (row b (tok n i)) ⟨(lv h v).val, by omega⟩) =
      gla (W0 (U0 m c)) (β0 (U0 m c)) (w0 m c) (X0 (U0 m c)) b n.val i h v :=
  st11_v106a (E10 m c) b (tok n i) ⟨(lv h v).val, by omega⟩ (lv h v).isLt _ _ (e10_74 m c b n i h v) (e10_75 m c b n i h v)

/-- The convolution's lanes of the mixed rows. -/
theorem r106b (b : Fin 8) (s : Fin 2048) (l : Fin 1024) (hl : ¬ l.val < 512) :
    (after hostOps0_11 (E10 m c) (Proc.tc.devRef main_v106) : S16384x1024.Idx → EReal) (ix2 (row b s) l) =
      cv (wc0 m c) (X0 (U0 m c)) b s.val ⟨l.val - 512, by omega⟩ :=
  st11_v106b (E10 m c) b s l hl (wc0 m c) (X0 (U0 m c)) (e10_8 m c b) (e10_6 m c b) (e10_7 m c b s) (e10_w m c)

/-- The mixed rows. -/
theorem r106 : (after hostOps0_11 (E10 m c) (Proc.tc.devRef main_v106) : S16384x1024.Idx → EReal) =
    MIX (W0 (U0 m c)) (β0 (U0 m c)) (w0 m c) (wc0 m c) (X0 (U0 m c)) := by
  funext y
  obtain ⟨a, l, rfl⟩ : ∃ (a : Fin 16384) (l : Fin 1024), y = ix2 a l := ⟨y 0, y 1, eq_ix2 y⟩
  change _ = GM (W0 (U0 m c)) (β0 (U0 m c)) (w0 m c) (wc0 m c) (X0 (U0 m c)) ⟨a.val / 2048, by omega⟩ 0 (a.val % 2048) l.val
  rw [GM]
  by_cases hl : l.val < 512
  · rw [if_pos hl, Nat.zero_add]
    refine Eq.trans ?_ (r106a m c ⟨a.val / 2048, by omega⟩ ⟨a.val % 2048 / 64, by omega⟩ ⟨a.val % 2048 % 64, by omega⟩
      ⟨l.val / 128 % 4, by omega⟩ ⟨l.val % 128, by omega⟩)
    refine congrArg (after hostOps0_11 (E10 m c) (Proc.tc.devRef main_v106) : S16384x1024.Idx → EReal) ?_
    congr 1 <;> apply Fin.ext <;> simp only [row, tok, lv] <;> omega
  · rw [if_neg hl, Nat.mul_zero, Nat.zero_add]
    refine Eq.trans ?_ ((r106b m c ⟨a.val / 2048, by omega⟩ ⟨a.val % 2048, by omega⟩ l hl).trans ?_)
    · refine congrArg (after hostOps0_11 (E10 m c) (Proc.tc.devRef main_v106) : S16384x1024.Idx → EReal) ?_
      congr 1
      apply Fin.ext
      simp only [row]
      omega
    · refine congrArg (cv (wc0 m c) (X0 (U0 m c)) ⟨a.val / 2048, by omega⟩ (a.val % 2048)) (Fin.ext ?_)
      change l.val - 512 = (l.val - 512) % 512
      omega

/-- The final states. -/
theorem r107 : (after hostOps0_11 (E10 m c) (Proc.tc.devRef main_v107) : S8x1x4x64x128.Idx → EReal) =
    FIN (W0 (U0 m c)) (β0 (U0 m c)) (X0 (U0 m c)) := by
  funext y
  obtain ⟨b, z, h, d, v, rfl⟩ : ∃ (b : Fin 8) (z : Fin 1) (h : Fin 4) (d : Fin 64) (v : Fin 128), y = ix5 b z h d v :=
    ⟨y 0, y 1, y 2, y 3, y 4, eq_ix5 y⟩
  obtain rfl : z = 0 := Subsingleton.elim _ _
  refine (st11_v107 (E10 m c) b h d v).trans ?_
  rw [E10, pk10_v54_3, E9, pk9_v54_3, E, cond_keep _ main_v54_3 (by decide +kernel)]
  exact atK_state m c 32 (le_refl _) b h d v

/-- The convolution's last rows. -/
theorem r109 : (after hostOps0_11 (E10 m c) (Proc.tc.devRef main_v109) : S8x1x2x512.Idx → EReal) =
    ROWS (X0 (U0 m c)) := by
  funext y
  obtain ⟨b, z, t, l, rfl⟩ : ∃ (b : Fin 8) (z : Fin 1) (t : Fin 2) (l : Fin 512), y = ix4 b z t l :=
    ⟨y 0, y 1, y 2, y 3, eq_ix4 y⟩
  obtain rfl : z = 0 := Subsingleton.elim _ _
  exact st11_v109 (E10 m c) b t l (X0 (U0 m c)) (e10_8 m c b) (e10_6 m c b)

theorem rarg0 : after hostOps0_11 (E10 m c) (Proc.tc.devRef main_arg0) = m ((c.tc : Thread nD τ).loc main_arg0) := by
  rw [pk11_arg0, E10, pk10_arg0, E9, pk9_arg0, E_arg0]
theorem rarg1 : after hostOps0_11 (E10 m c) (Proc.tc.devRef main_arg1) = m ((c.tc : Thread nD τ).loc main_arg1) := by
  rw [pk11_arg1, E10, pk10_arg1, E9, pk9_arg1, E_arg1]
theorem rarg2 : after hostOps0_11 (E10 m c) (Proc.tc.devRef main_arg2) = m ((c.tc : Thread nD τ).loc main_arg2) := by
  rw [pk11_arg2, E10, pk10_arg2, E9, pk9_arg2, E_arg2]
theorem rarg3 : after hostOps0_11 (E10 m c) (Proc.tc.devRef main_arg3) = m ((c.tc : Thread nD τ).loc main_arg3) := by
  rw [pk11_arg3, E10, pk10_arg3, E9, pk9_arg3, E_arg3]
theorem rarg4 : after hostOps0_11 (E10 m c) (Proc.tc.devRef main_arg4) = m ((c.tc : Thread nD τ).loc main_arg4) := by
  rw [pk11_arg4, E10, pk10_arg4, E9, pk9_arg4, E_arg4]

/-- The reference's run. -/
theorem reference_run (g : Dev nD → PrngReg) :
    θ_run defs (onTc (τ := τ) (main (F := Ideal))) ⟨m, fun _ => 0, g⟩ (fun r => ∀ c : Dev nD,
      r.2.mem ((c.tc : Thread nD τ).loc main_v106) =
        MIX (W0 (U0 m c)) (β0 (U0 m c)) (w0 m c) (wc0 m c) (X0 (U0 m c))
      ∧ r.2.mem ((c.tc : Thread nD τ).loc main_v107) = FIN (W0 (U0 m c)) (β0 (U0 m c)) (X0 (U0 m c))
      ∧ r.2.mem ((c.tc : Thread nD τ).loc main_v109) = ROWS (X0 (U0 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v106 rfl).trans (r106 m c), (h c main_v107 rfl).trans (r107 m c),
      (h c main_v109 rfl).trans (r109 m c), (h c main_arg0 rfl).trans (rarg0 m c), (h c main_arg1 rfl).trans (rarg1 m c),
      (h c main_arg2 rfl).trans (rarg2 m c), (h c main_arg3 rfl).trans (rarg3 m c), (h c main_arg4 rfl).trans (rarg4 m c)⟩)
    (run_fold m g)

end Cert.GlaRef

end

end
-- ==== Proof.lean ====
module

public import proofs.«01_k».proof.Defs
public import proofs.«01_k».proof.Proof.Gen.Kernel2
public import proofs.«01_k».proof.Proof.Gen.Pre_routed
public import proofs.«01_k».proof.Proof.Gen.Reference2Ideal.Run
public import proofs.«01_k».proof.Proof.Gen.Kernel2Ideal
public import proofs.«01_k».proof.Proof.Gen.Reference2Ideal
public import proofs.«01_k».proof.Proof.ExAlg
public import proofs.«01_k».proof.Proof.S5Alg
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Points
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite
public import proofs.«01_k».proof.Proof.Results
public import proofs.«01_k».proof.Proof.Ref6
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run ends with its arguments unchanged and every counter at zero. -/
theorem ref_quiescent [h : Cert.ReferenceIdeal.Facts] : Cert.quiescent_ReferenceIdeal (hReferenceIdeal := h) := fun m g _ =>
  (θ_run _ _ _).mono (fun r h => ⟨fun c => (h c).2.2.2, sem_eq_zero_of_no_sems rfl _⟩) (Cert.GlaRef.reference_run m g)

/-- Both runs end with the same results. -/
theorem alg : Cert.algebraic_KernelIdeal_ReferenceIdeal (hKernelIdeal := Cert.KernelIdeal.Gen.facts)
    (hReferenceIdeal := Cert.ReferenceIdeal.Gen.facts) := fun m g m' g' _ heq => by
  refine ⟨_, _, _, Cert.Gla.kernel_run m g, (θ_run _ _ _).mono (fun r h c => ?_) (Cert.GlaRef.reference_run m' g')⟩
  obtain ⟨e0, e1, e2, e3, e4⟩ := heq c
  have x : Cert.GlaRef.X0 (Cert.GlaRef.U0 m' c) = Cert.Gla.aX m c := e0
  have w : Cert.GlaRef.W0 (Cert.GlaRef.U0 m' c) = Cert.Gla.aW m c := funext fun k => funext fun l => congrFun e1 (ix3 0 k l)
  have β : Cert.GlaRef.β0 (Cert.GlaRef.U0 m' c) = Cert.Gla.aβ m c := funext fun l => congrFun e2 (ix2 0 l)
  have n : Cert.GlaRef.w0 m' c = Cert.Gla.aw m c := funext fun l => congrFun e3 (ix2 0 l)
  have v : Cert.GlaRef.wc0 m' c = Cert.Gla.awc m c := funext fun k => funext fun l => congrFun e4 (ix3 0 k l)
  have hc := h c
  rw [x, w, β, n, v] at hc
  exact hc

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_routed.Gen.facts, Cert.Pre_finite.Gen.facts,
  fun m g _ => Cert.Kernel.Gen.frame m g, fun m g _ => Cert.KernelIdeal.Gen.frame m g, ref_quiescent,
  Cert.Ex.bits_quiescent, Cert.Ex.ideal_quiescent, Cert.Ex.ref_quiescent, fun m g _ => Cert.Ex.ref_quiescent m g trivial,
  fun m g _ => Cert.Kernel3.Gen.frame m g, fun m g _ => Cert.Kernel3Ideal.Gen.frame m g,
  fun m g _ => Cert.Kernel3Ideal.Gen.frame m g, Cert.S5.ref_quiescent, fun m g _ => Cert.S5.ref_quiescent m g trivial,
  trivial, alg, trivial, Cert.Ex.alg, trivial, Cert.S5.alg⟩

end Cert.Proof

end
